-- ==== Defs.lean ====
def Pre_Kernel [hPre_face_range : Cert.Pre_face_range.Facts] (m : (ℓ : Loc Cert.Kernel.nD Cert.Kernel.τ Cert.Kernel.sig) → Buf (Elt Bits) ℓ) : Prop :=
  ∀ c : Dev Cert.Kernel.nD,
    (Cert.Pre_face_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_face_range : Cert.Pre_face_range.Facts] (m : (ℓ : Loc Cert.KernelIdeal.nD Cert.KernelIdeal.τ Cert.KernelIdeal.sig) → Buf (Elt Ideal) ℓ) : Prop :=
  ∀ c : Dev Cert.KernelIdeal.nD,
    (Cert.Pre_face_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_face_range [hPre_face_range : Cert.Pre_face_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_face_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_admissible [hPre_admissible : Cert.Pre_admissible.Facts] (m : (ℓ : Loc Cert.LossIdeal.nD Cert.LossIdeal.τ Cert.LossIdeal.sig) → Buf (Elt Ideal) ℓ) : Prop :=
  ∀ c : Dev Cert.LossIdeal.nD,
    (Cert.Pre_admissible.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_admissible [hPre_admissible : Cert.Pre_admissible.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_admissible.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6)) (m ((c.tc : Thread Cert.LossReferenceIdeal.nD Cert.LossReferenceIdeal.τ).loc Cert.LossReferenceIdeal.main_arg7)) (m ((c.tc : Thread Cert.LossReferenceIdeal.nD Cert.LossReferenceIdeal.τ).loc Cert.LossReferenceIdeal.main_arg8))) = (fun _ => 1#1)

def quiescent_Kernel [hKernel : Cert.Kernel.Facts] [hPre_face_range : Cert.Pre_face_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_face_range : Cert.Pre_face_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_face_range [hReferenceIdeal : Cert.ReferenceIdeal.Facts] [hPre_face_range : Cert.Pre_face_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_face_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_admissible [hLossIdeal : Cert.LossIdeal.Facts] [hPre_admissible : Cert.Pre_admissible.Facts] : Prop :=
  ∀ (m : (ℓ : Loc Cert.LossIdeal.nD Cert.LossIdeal.τ Cert.LossIdeal.sig) → Buf (Elt Ideal) ℓ) (g : Dev Cert.LossIdeal.nD → PrngReg), Pre_LossIdeal_admissible m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7)
      ∧ r.2.mem ((c.tc : Thread Cert.LossReferenceIdeal.nD Cert.LossReferenceIdeal.τ).loc Cert.LossReferenceIdeal.main_arg8) = m ((c.tc : Thread Cert.LossReferenceIdeal.nD Cert.LossReferenceIdeal.τ).loc Cert.LossReferenceIdeal.main_arg8))
      ∧ r.2.sem = fun _ => 0)

def quiescent_LossReferenceIdeal_pre_admissible [hLossReferenceIdeal : Cert.LossReferenceIdeal.Facts] [hPre_admissible : Cert.Pre_admissible.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_admissible m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6)
      ∧ r.2.mem ((c.tc : Thread Cert.LossReferenceIdeal.nD Cert.LossReferenceIdeal.τ).loc Cert.LossReferenceIdeal.main_arg7) = m ((c.tc : Thread Cert.LossReferenceIdeal.nD Cert.LossReferenceIdeal.τ).loc Cert.LossReferenceIdeal.main_arg7)
      ∧ r.2.mem ((c.tc : Thread Cert.LossReferenceIdeal.nD Cert.LossReferenceIdeal.τ).loc Cert.LossReferenceIdeal.main_arg8) = m ((c.tc : Thread Cert.LossReferenceIdeal.nD Cert.LossReferenceIdeal.τ).loc Cert.LossReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_face_range : Cert.Pre_face_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Loss_LossIdeal : Prop :=
  IdealRules.named_const.Statement Cert.LossIdeal.κ "start" .f32 0x7149F2CA#32 ⊤
  ∧ IdealRules.named_const.Statement Cert.LossIdeal.κ "hand_mean" .f32 0x3B375894#32 ((1393 / 497920 : ℝ) : EReal)
  ∧ IdealRules.named_const.Statement Cert.LossIdeal.κ "object_mean" .f32 0x3A6ECCCD#32 ((597 / 655360 : ℝ) : EReal)

def algebraic_LossIdeal_LossReferenceIdeal_pre_admissible [hLossIdeal : Cert.LossIdeal.Facts] [hLossReferenceIdeal : Cert.LossReferenceIdeal.Facts] [hPre_admissible : Cert.Pre_admissible.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_admissible m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)
      ∧ m' ((c.tc : Thread Cert.LossReferenceIdeal.nD Cert.LossReferenceIdeal.τ).loc Cert.LossReferenceIdeal.main_arg5) = m ((c.tc : Thread Cert.LossIdeal.nD Cert.LossIdeal.τ).loc Cert.LossIdeal.main_arg5)
      ∧ m' ((c.tc : Thread Cert.LossReferenceIdeal.nD Cert.LossReferenceIdeal.τ).loc Cert.LossReferenceIdeal.main_arg6) = m ((c.tc : Thread Cert.LossIdeal.nD Cert.LossIdeal.τ).loc Cert.LossIdeal.main_arg6)
      ∧ m' ((c.tc : Thread Cert.LossReferenceIdeal.nD Cert.LossReferenceIdeal.τ).loc Cert.LossReferenceIdeal.main_arg7) = m ((c.tc : Thread Cert.LossIdeal.nD Cert.LossIdeal.τ).loc Cert.LossIdeal.main_arg7)
      ∧ m' ((c.tc : Thread Cert.LossReferenceIdeal.nD Cert.LossReferenceIdeal.τ).loc Cert.LossReferenceIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v6_0)) (v1 : (c : Dev Cert.LossIdeal.nD) → Buf (Elt Ideal) ((c.tc : Thread Cert.LossIdeal.nD Cert.LossIdeal.τ).loc Cert.LossIdeal.main_v6_1)) (v2 : (c : Dev Cert.LossIdeal.nD) → Buf (Elt Ideal) ((c.tc : Thread Cert.LossIdeal.nD Cert.LossIdeal.τ).loc Cert.LossIdeal.main_v6_2)) (v3 : (c : Dev Cert.LossIdeal.nD) → Buf (Elt Ideal) ((c.tc : Thread Cert.LossIdeal.nD Cert.LossIdeal.τ).loc Cert.LossIdeal.main_v6_3)) (v4 : (c : Dev Cert.LossIdeal.nD) → Buf (Elt Ideal) ((c.tc : Thread Cert.LossIdeal.nD Cert.LossIdeal.τ).loc Cert.LossIdeal.main_v6_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v6_0) = v0 c
          ∧ r.2.mem ((c.tc : Thread Cert.LossIdeal.nD Cert.LossIdeal.τ).loc Cert.LossIdeal.main_v6_1) = v1 c
          ∧ r.2.mem ((c.tc : Thread Cert.LossIdeal.nD Cert.LossIdeal.τ).loc Cert.LossIdeal.main_v6_2) = v2 c
          ∧ r.2.mem ((c.tc : Thread Cert.LossIdeal.nD Cert.LossIdeal.τ).loc Cert.LossIdeal.main_v6_3) = v3 c
          ∧ r.2.mem ((c.tc : Thread Cert.LossIdeal.nD Cert.LossIdeal.τ).loc Cert.LossIdeal.main_v6_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v214) = v0 c
          ∧ r.2.mem ((c.tc : Thread Cert.LossReferenceIdeal.nD Cert.LossReferenceIdeal.τ).loc Cert.LossReferenceIdeal.main_v215) = v1 c
          ∧ r.2.mem ((c.tc : Thread Cert.LossReferenceIdeal.nD Cert.LossReferenceIdeal.τ).loc Cert.LossReferenceIdeal.main_v216) = v2 c
          ∧ r.2.mem ((c.tc : Thread Cert.LossReferenceIdeal.nD Cert.LossReferenceIdeal.τ).loc Cert.LossReferenceIdeal.main_v217) = v3 c
          ∧ r.2.mem ((c.tc : Thread Cert.LossReferenceIdeal.nD Cert.LossReferenceIdeal.τ).loc Cert.LossReferenceIdeal.main_v218) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6)
          ∧ r.2.mem ((c.tc : Thread Cert.LossReferenceIdeal.nD Cert.LossReferenceIdeal.τ).loc Cert.LossReferenceIdeal.main_arg7) = m' ((c.tc : Thread Cert.LossReferenceIdeal.nD Cert.LossReferenceIdeal.τ).loc Cert.LossReferenceIdeal.main_arg7)
          ∧ r.2.mem ((c.tc : Thread Cert.LossReferenceIdeal.nD Cert.LossReferenceIdeal.τ).loc Cert.LossReferenceIdeal.main_arg8) = m' ((c.tc : Thread Cert.LossReferenceIdeal.nD Cert.LossReferenceIdeal.τ).loc Cert.LossReferenceIdeal.main_arg8))

def Claim : Prop :=
  ∃ (hKernel : Cert.Kernel.Facts) (hKernelIdeal : Cert.KernelIdeal.Facts) (hReferenceIdeal : Cert.ReferenceIdeal.Facts) (hLoss : Cert.Loss.Facts) (hLossIdeal : Cert.LossIdeal.Facts) (hLossReferenceIdeal : Cert.LossReferenceIdeal.Facts) (hPre_face_range : Cert.Pre_face_range.Facts) (hPre_admissible : Cert.Pre_admissible.Facts),
    quiescent_Kernel (hKernel := hKernel) (hPre_face_range := hPre_face_range)
    ∧ quiescent_KernelIdeal (hKernelIdeal := hKernelIdeal) (hPre_face_range := hPre_face_range)
    ∧ quiescent_ReferenceIdeal (hReferenceIdeal := hReferenceIdeal)
    ∧ quiescent_ReferenceIdeal_pre_face_range (hReferenceIdeal := hReferenceIdeal) (hPre_face_range := hPre_face_range)
    ∧ quiescent_Loss (hLoss := hLoss)
    ∧ quiescent_LossIdeal (hLossIdeal := hLossIdeal)
    ∧ quiescent_LossIdeal_pre_admissible (hLossIdeal := hLossIdeal) (hPre_admissible := hPre_admissible)
    ∧ quiescent_LossReferenceIdeal (hLossReferenceIdeal := hLossReferenceIdeal)
    ∧ quiescent_LossReferenceIdeal_pre_admissible (hLossReferenceIdeal := hLossReferenceIdeal) (hPre_admissible := hPre_admissible)
    ∧ preserves_Kernel_KernelIdeal
    ∧ algebraic_KernelIdeal_ReferenceIdeal (hKernelIdeal := hKernelIdeal) (hReferenceIdeal := hReferenceIdeal) (hPre_face_range := hPre_face_range)
    ∧ preserves_Loss_LossIdeal
    ∧ algebraic_LossIdeal_LossReferenceIdeal_pre_admissible (hLossIdeal := hLossIdeal) (hLossReferenceIdeal := hLossReferenceIdeal) (hPre_admissible := hPre_admissible)
-- ==== Pre_admissible.lean ====
abbrev S16x61 : Shape := ⟨2, ![16, 61]⟩
abbrev S16x64 : Shape := ⟨2, ![16, 64]⟩
abbrev S16x778x3 : Shape := ⟨3, ![16, 778, 3]⟩
abbrev S16x2x778x3 : Shape := ⟨4, ![16, 2, 778, 3]⟩
abbrev S16x2048x3 : Shape := ⟨3, ![16, 2048, 3]⟩
abbrev S778 : Shape := ⟨1, ![778]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel
  bcast_S_S778 : S_.BroadcastsInDim S778 (![] : Fin 0 → Fin S778.rank)
  reducesTo_S778_S_d0 : S778.ReducesTo [0] S_

variable [Facts]

def fn {F : FTy → Type} [FloatOps F] (main_arg0 : FVec F S16x61 .f32) (main_arg1 : FVec F S16x61 .f32) (main_arg2 : FVec F S16x64 .f32) (main_arg3 : FVec F S16x64 .f32) (main_arg4 : FVec F S16x778x3 .f32) (main_arg5 : FVec F S16x778x3 .f32) (main_arg6 : FVec F S16x2x778x3 .f32) (main_arg7 : FVec F S16x2048x3 .f32) (main_arg8 : FVec F S778 .f32) : IVec S_ 1 :=
  let main_v0 : FVec F S16x2048x3 .f32 := Host.absf main_arg7
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_cst_0 : FVec F S_ .f32 := constant S_ .f32 0x00000000#32
  let main_v4 : FVec F S778 .f32 := broadcastInDim S778 ![] bcast_S_S778 main_cst_0
  let main_v5 : IVec S778 1 := cmpf .oge main_arg8 main_v4
  let main_c_1 : IVec S_ 1 := constantI S_ 1 1#1
  let main_v6 : IVec S_ 1 := (fun x v => Host.reduce IntOp.andi x v reducesTo_S778_S_d0 h_S_) main_v5 main_c_1
  let main_v7 : IVec S_ 1 := andi main_v3 main_v6
  main_v7
-- ==== Pre_face_range.lean ====
abbrev S16x778x3 : Shape := ⟨3, ![16, 778, 3]⟩
abbrev S16x1538x3 : Shape := ⟨3, ![16, 1538, 3]⟩
abbrev S_ : Shape := ⟨0, ![]⟩

class Facts : Prop where
  bcast_S_S16x1538x3 : S_.BroadcastsInDim S16x1538x3 (![] : Fin 0 → Fin S16x1538x3.rank)
  reducesTo_S16x1538x3_S_d0_1_2 : S16x1538x3.ReducesTo [0, 1, 2] S_
  h_S_ : 0 < S_.numel

variable [Facts]

def fn {F : FTy → Type} [FloatOps F] (main_arg0 : FVec F S16x778x3 .f32) (main_arg1 : FVec F S16x778x3 .f32) (main_arg2 : IVec S16x1538x3 32) : IVec S_ 1 :=
  let main_c : IVec S_ 32 := constantI S_ 32 0#32
  let main_v0 : IVec S16x1538x3 32 := broadcastInDim S16x1538x3 ![] bcast_S_S16x1538x3 main_c
  let main_v1 : IVec S16x1538x3 1 := cmpi .sge main_arg2 main_v0
  let main_c_0 : IVec S_ 32 := constantI S_ 32 778#32
  let main_v2 : IVec S16x1538x3 32 := broadcastInDim S16x1538x3 ![] bcast_S_S16x1538x3 main_c_0
  let main_v3 : IVec S16x1538x3 1 := cmpi .slt main_arg2 main_v2
  let main_v4 : IVec S16x1538x3 1 := andi main_v1 main_v3
  let main_c_1 : IVec S_ 1 := constantI S_ 1 1#1
  let main_v5 : IVec S_ 1 := (fun x v => Host.reduce IntOp.andi x v reducesTo_S16x1538x3_S_d0_1_2 h_S_) main_v4 main_c_1
  main_v5
-- ==== Kernel.lean ====
abbrev S16x778x3 : Shape := ⟨3, ![16, 778, 3]⟩
abbrev S16x1538x3 : Shape := ⟨3, ![16, 1538, 3]⟩
abbrev S16x1x778x3 : Shape := ⟨4, ![16, 1, 778, 3]⟩
abbrev S16x2x778x3 : Shape := ⟨4, ![16, 2, 778, 3]⟩
abbrev S_ : Shape := ⟨0, ![]⟩
abbrev S16x2x784x3 : Shape := ⟨4, ![16, 2, 784, 3]⟩
abbrev S16x2x2352 : Shape := ⟨3, ![16, 2, 2352]⟩
abbrev S16x1600x3 : Shape := ⟨3, ![16, 1600, 3]⟩
abbrev S16x3x1600 : Shape := ⟨3, ![16, 3, 1600]⟩
abbrev S16x4800 : Shape := ⟨2, ![16, 4800]⟩
abbrev S2352 : Shape := ⟨1, ![2352]⟩
abbrev S4800 : Shape := ⟨1, ![4800]⟩
abbrev S1x1x2352 : Shape := ⟨3, ![1, 1, 2352]⟩
abbrev S1x4800 : Shape := ⟨2, ![1, 4800]⟩
abbrev S16 : Shape := ⟨1, ![16]⟩

abbrev nBuf : Table → Nat
  | .hbm => 18
  | .local .scVector .vmem => 3
  | _ => 0

abbrev bufTy : (tb : Table) → Fin (nBuf tb) → BufTy
  | .hbm, ⟨0, _⟩ => ⟨S16x778x3, .f32⟩
  | .hbm, ⟨1, _⟩ => ⟨S16x778x3, .f32⟩
  | .hbm, ⟨2, _⟩ => ⟨S16x1538x3, .i32⟩
  | .hbm, ⟨3, _⟩ => ⟨S16x1x778x3, .f32⟩
  | .hbm, ⟨4, _⟩ => ⟨S16x1x778x3, .f32⟩
  | .hbm, ⟨5, _⟩ => ⟨S16x2x778x3, .f32⟩
  | .hbm, ⟨6, _⟩ => ⟨S_, .i32⟩
  | .hbm, ⟨7, _⟩ => ⟨S_, .f32⟩
  | .hbm, ⟨8, _⟩ => ⟨S16x2x784x3, .f32⟩
  | .hbm, ⟨9, _⟩ => ⟨S16x2x2352, .f32⟩
  | .hbm, ⟨10, _⟩ => ⟨S_, .i32⟩
  | .hbm, ⟨11, _⟩ => ⟨S_, .i32⟩
  | .hbm, ⟨12, _⟩ => ⟨S16x1600x3, .i32⟩
  | .hbm, ⟨13, _⟩ => ⟨S16x3x1600, .i32⟩
  | .hbm, ⟨14, _⟩ => ⟨S16x4800, .i32⟩
  | .hbm, ⟨15, _⟩ => ⟨S16x2x2352, .f32⟩
  | .hbm, ⟨16, _⟩ => ⟨S16x2x784x3, .f32⟩
  | .hbm, ⟨17, _⟩ => ⟨S16x2x778x3, .f32⟩
  | .local .scVector .vmem, ⟨0, _⟩ => ⟨S2352, .f32⟩
  | .local .scVector .vmem, ⟨1, _⟩ => ⟨S4800, .i32⟩
  | .local .scVector .vmem, ⟨2, _⟩ => ⟨S2352, .f32⟩
  | _, _ => ⟨S16x778x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v4_scv : Ref sig .scVector := ⟨.hbm, 9, rfl⟩
abbrev main_v7_scv : Ref sig .scVector := ⟨.hbm, 14, rfl⟩
abbrev main_v8_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c0_i32_19_r0 : BitVec 32 := 0#32
  ![v18.toNat, v28.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_19_r1 : BitVec 32 := 0#32
  ![v18.toNat, 0]
@[reducible] def k0_t1_loop : Scf.Loop 32 :=
  let c0_i32_12 : BitVec 32 := 0#32
  let c147_i32 : BitVec 32 := 147#32
  let v30 : BitVec 32 := Scalar.addi c0_i32_12 c147_i32
  let c1_i32_13 : BitVec 32 := 1#32
  ⟨c0_i32_12, v30, c1_i32_13⟩
def k0_off3 (k0_t1 : Fin k0_t1_loop.trips) : Fin 1 → Nat :=
  let c0_i32_12 : BitVec 32 := 0#32
  let c1_i32_13 : BitVec 32 := 1#32
  let arg8 : BitVec 32 := Scf.iv c0_i32_12 c1_i32_13 k0_t1
  let c16_i32 : BitVec 32 := 16#32
  let v32 : BitVec 32 := Scalar.muli arg8 c16_i32
  let v33 : Index := Scalar.indexCast v32
  ![v33.toNat]
@[reducible] def k0_t2_loop : Scf.Loop 32 :=
  let c0_i32_16 : BitVec 32 := 0#32
  let c100_i32 : BitVec 32 := 100#32
  let v31 : BitVec 32 := Scalar.addi c0_i32_16 c100_i32
  let c1_i32_17 : BitVec 32 := 1#32
  ⟨c0_i32_16, v31, c1_i32_17⟩
def k0_off4 (k0_t2 : Fin k0_t2_loop.trips) : Fin 1 → Nat :=
  let c0_i32_16 : BitVec 32 := 0#32
  let c1_i32_17 : BitVec 32 := 1#32
  let arg8 : BitVec 32 := Scf.iv c0_i32_16 c1_i32_17 k0_t2
  let c16_i32 : BitVec 32 := 16#32
  let v32 : BitVec 32 := Scalar.muli arg8 c16_i32
  let v33 : Index := Scalar.indexCast v32
  ![v33.toNat]
def k0_off5 (k0_t2 : Fin k0_t2_loop.trips) (c1600_i32 : BitVec 32) : Fin 1 → Nat :=
  let c0_i32_16 : BitVec 32 := 0#32
  let c1_i32_17 : BitVec 32 := 1#32
  let arg8 : BitVec 32 := Scf.iv c0_i32_16 c1_i32_17 k0_t2
  let c16_i32 : BitVec 32 := 16#32
  let v32 : BitVec 32 := Scalar.muli arg8 c16_i32
  let v37 : BitVec 32 := Scalar.addi c1600_i32 v32
  let v38 : Index := Scalar.indexCast v37
  ![v38.toNat]

def k0_chk2 (v49 : IVec S16 32) : Prop :=
  (∀ a x, ((![v49] : Fin 1 → IVec S16 32) a x).toNat < S2352.size a)
theorem k0_idx2_inb : ∀ (v49 : IVec S16 32) (k0_hw2 : k0_chk2 v49), ∀ a x, ((![v49] : Fin 1 → IVec S16 32) a x).toNat < S2352.size a := fun v49 k0_hw2 => k0_hw2

def k0_chk3 (v52 : IVec S16 32) : Prop :=
  (∀ a x, ((![v52] : Fin 1 → IVec S16 32) a x).toNat < S2352.size a)
theorem k0_idx3_inb : ∀ (v52 : IVec S16 32) (k0_hw3 : k0_chk3 v52), ∀ a x, ((![v52] : Fin 1 → IVec S16 32) a x).toNat < S2352.size a := fun v52 k0_hw3 => k0_hw3

def k0_chk5 (v56 : IVec S16 32) : Prop :=
  (∀ a x, ((![v56] : Fin 1 → IVec S16 32) a x).toNat < S2352.size a)
theorem k0_idx5_inb : ∀ (v56 : IVec S16 32) (k0_hw5 : k0_chk5 v56), ∀ a x, ((![v56] : Fin 1 → IVec S16 32) a x).toNat < S2352.size a := fun v56 k0_hw5 => k0_hw5

def k0_chk6 (v59 : IVec S16 32) : Prop :=
  (∀ a x, ((![v59] : Fin 1 → IVec S16 32) a x).toNat < S2352.size a)
theorem k0_idx6_inb : ∀ (v59 : IVec S16 32) (k0_hw6 : k0_chk6 v59), ∀ a x, ((![v59] : Fin 1 → IVec S16 32) a x).toNat < S2352.size a := fun v59 k0_hw6 => k0_hw6

def k0_chk8 (v63 : IVec S16 32) : Prop :=
  (∀ a x, ((![v63] : Fin 1 → IVec S16 32) a x).toNat < S2352.size a)
theorem k0_idx8_inb : ∀ (v63 : IVec S16 32) (k0_hw8 : k0_chk8 v63), ∀ a x, ((![v63] : Fin 1 → IVec S16 32) a x).toNat < S2352.size a := fun v63 k0_hw8 => k0_hw8

def k0_chk9 (v66 : IVec S16 32) : Prop :=
  (∀ a x, ((![v66] : Fin 1 → IVec S16 32) a x).toNat < S2352.size a)
theorem k0_idx9_inb : ∀ (v66 : IVec S16 32) (k0_hw9 : k0_chk9 v66), ∀ a x, ((![v66] : Fin 1 → IVec S16 32) a x).toNat < S2352.size a := fun v66 k0_hw9 => k0_hw9

def k0_chk1 (v36 : IVec S16 32) : Prop :=
  (∀ a x, ((![v36] : Fin 1 → IVec S16 32) a x).toNat < S2352.size a) ∧
  (∀ a x, ((![v36] : Fin 1 → IVec S16 32) a x).toNat < S2352.size a)
theorem k0_idx1_inb : ∀ (v36 : IVec S16 32) (k0_hw1 : k0_chk1 v36), ∀ a x, ((![v36] : Fin 1 → IVec S16 32) a x).toNat < S2352.size a := fun v36 k0_hw1 => k0_hw1.1
theorem k0_idx10_inb : ∀ (v36 : IVec S16 32) (k0_hw1 : k0_chk1 v36), ∀ a x, ((![v36] : Fin 1 → IVec S16 32) a x).toNat < S2352.size a := fun v36 k0_hw1 => k0_hw1.2

def k0_chk10 (v84 : IVec S16 32) : Prop :=
  (∀ a x, ((![v84] : Fin 1 → IVec S16 32) a x).toNat < S2352.size a)
theorem k0_idx11_inb : ∀ (v84 : IVec S16 32) (k0_hw10 : k0_chk10 v84), ∀ a x, ((![v84] : Fin 1 → IVec S16 32) a x).toNat < S2352.size a := fun v84 k0_hw10 => k0_hw10

def k0_chk11 (v86 : IVec S16 32) : Prop :=
  (∀ a x, ((![v86] : Fin 1 → IVec S16 32) a x).toNat < S2352.size a)
theorem k0_idx12_inb : ∀ (v86 : IVec S16 32) (k0_hw11 : k0_chk11 v86), ∀ a x, ((![v86] : Fin 1 → IVec S16 32) a x).toNat < S2352.size a := fun v86 k0_hw11 => k0_hw11

def k0_chk4 (v41 : IVec S16 32) : Prop :=
  (∀ a x, ((![v41] : Fin 1 → IVec S16 32) a x).toNat < S2352.size a) ∧
  (∀ a x, ((![v41] : Fin 1 → IVec S16 32) a x).toNat < S2352.size a)
theorem k0_idx4_inb : ∀ (v41 : IVec S16 32) (k0_hw4 : k0_chk4 v41), ∀ a x, ((![v41] : Fin 1 → IVec S16 32) a x).toNat < S2352.size a := fun v41 k0_hw4 => k0_hw4.1
theorem k0_idx13_inb : ∀ (v41 : IVec S16 32) (k0_hw4 : k0_chk4 v41), ∀ a x, ((![v41] : Fin 1 → IVec S16 32) a x).toNat < S2352.size a := fun v41 k0_hw4 => k0_hw4.2

def k0_chk12 (v88 : IVec S16 32) : Prop :=
  (∀ a x, ((![v88] : Fin 1 → IVec S16 32) a x).toNat < S2352.size a)
theorem k0_idx14_inb : ∀ (v88 : IVec S16 32) (k0_hw12 : k0_chk12 v88), ∀ a x, ((![v88] : Fin 1 → IVec S16 32) a x).toNat < S2352.size a := fun v88 k0_hw12 => k0_hw12

def k0_chk13 (v90 : IVec S16 32) : Prop :=
  (∀ a x, ((![v90] : Fin 1 → IVec S16 32) a x).toNat < S2352.size a)
theorem k0_idx15_inb : ∀ (v90 : IVec S16 32) (k0_hw13 : k0_chk13 v90), ∀ a x, ((![v90] : Fin 1 → IVec S16 32) a x).toNat < S2352.size a := fun v90 k0_hw13 => k0_hw13

def k0_chk7 (v46 : IVec S16 32) : Prop :=
  (∀ a x, ((![v46] : Fin 1 → IVec S16 32) a x).toNat < S2352.size a) ∧
  (∀ a x, ((![v46] : Fin 1 → IVec S16 32) a x).toNat < S2352.size a)
theorem k0_idx7_inb : ∀ (v46 : IVec S16 32) (k0_hw7 : k0_chk7 v46), ∀ a x, ((![v46] : Fin 1 → IVec S16 32) a x).toNat < S2352.size a := fun v46 k0_hw7 => k0_hw7.1
theorem k0_idx16_inb : ∀ (v46 : IVec S16 32) (k0_hw7 : k0_chk7 v46), ∀ a x, ((![v46] : Fin 1 → IVec S16 32) a x).toNat < S2352.size a := fun v46 k0_hw7 => k0_hw7.2

def k0_chk14 (v92 : IVec S16 32) : Prop :=
  (∀ a x, ((![v92] : Fin 1 → IVec S16 32) a x).toNat < S2352.size a)
theorem k0_idx17_inb : ∀ (v92 : IVec S16 32) (k0_hw14 : k0_chk14 v92), ∀ a x, ((![v92] : Fin 1 → IVec S16 32) a x).toNat < S2352.size a := fun v92 k0_hw14 => k0_hw14

def k0_chk15 (v94 : IVec S16 32) : Prop :=
  (∀ a x, ((![v94] : Fin 1 → IVec S16 32) a x).toNat < S2352.size a)
theorem k0_idx18_inb : ∀ (v94 : IVec S16 32) (k0_hw15 : k0_chk15 v94), ∀ a x, ((![v94] : Fin 1 → IVec S16 32) a x).toNat < S2352.size a := fun v94 k0_hw15 => k0_hw15
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x778x3 : Shape := ⟨3, ![16, 778, 3]⟩
abbrev S16x1538x3 : Shape := ⟨3, ![16, 1538, 3]⟩
abbrev S16 : Shape := ⟨1, ![16]⟩
abbrev S16x1 : Shape := ⟨2, ![16, 1]⟩
abbrev S16x1538x1 : Shape := ⟨3, ![16, 1538, 1]⟩
abbrev S16x1538 : Shape := ⟨2, ![16, 1538]⟩
abbrev S_ : Shape := ⟨0, ![]⟩
abbrev S16x1538x2 : Shape := ⟨3, ![16, 1538, 2]⟩
abbrev S16x1x778x3 : Shape := ⟨4, ![16, 1, 778, 3]⟩
abbrev S16x2x778x3 : Shape := ⟨4, ![16, 2, 778, 3]⟩

abbrev nBuf : Space → Nat
  | .hbm => 344
  | .vmem => 0
  | .smem => 0
  | _ => 0

abbrev hbmTy0_0 (i : Nat) : BufTy := match i % 128 with
  | 0 => ⟨S16x778x3, .f32⟩
  | 1 => ⟨S16x778x3, .f32⟩
  | 2 => ⟨S16x1538x3, .i32⟩
  | 3 => ⟨S16, .i32⟩
  | 4 => ⟨S16x1, .i32⟩
  | 5 => ⟨S16x1538x1, .i32⟩
  | 6 => ⟨S16x1538, .i32⟩
  | 7 => ⟨S_, .i32⟩
  | 8 => ⟨S16x1, .i32⟩
  | 9 => ⟨S16x1, .i1⟩
  | 10 => ⟨S_, .i32⟩
  | 11 => ⟨S16x1, .i32⟩
  | 12 => ⟨S16x1, .i32⟩
  | 13 => ⟨S16x1, .i32⟩
  | 14 => ⟨S_, .i32⟩
  | 15 => ⟨S16x1538, .i32⟩
  | 16 => ⟨S16x1538, .i1⟩
  | 17 => ⟨S_, .i32⟩
  | 18 => ⟨S16x1538, .i32⟩
  | 19 => ⟨S16x1538, .i32⟩
  | 20 => ⟨S16x1538, .i32⟩
  | 21 => ⟨S16x1538, .i32⟩
  | 22 => ⟨S16x1538x1, .i32⟩
  | 23 => ⟨S16x1538x1, .i32⟩
  | 24 => ⟨S16x1538x2, .i32⟩
  | 25 => ⟨S16x1538x3, .f32⟩
  | 26 => ⟨S16x1538x1, .i32⟩
  | 27 => ⟨S16x1538, .i32⟩
  | 28 => ⟨S_, .i32⟩
  | 29 => ⟨S16x1, .i32⟩
  | 30 => ⟨S16x1, .i1⟩
  | 31 => ⟨S_, .i32⟩
  | 32 => ⟨S16x1, .i32⟩
  | 33 => ⟨S16x1, .i32⟩
  | 34 => ⟨S16x1, .i32⟩
  | 35 => ⟨S_, .i32⟩
  | 36 => ⟨S16x1538, .i32⟩
  | 37 => ⟨S16x1538, .i1⟩
  | 38 => ⟨S_, .i32⟩
  | 39 => ⟨S16x1538, .i32⟩
  | 40 => ⟨S16x1538, .i32⟩
  | 41 => ⟨S16x1538, .i32⟩
  | 42 => ⟨S16x1538, .i32⟩
  | 43 => ⟨S16x1538x1, .i32⟩
  | 44 => ⟨S16x1538x1, .i32⟩
  | 45 => ⟨S16x1538x2, .i32⟩
  | 46 => ⟨S16x1538x3, .f32⟩
  | 47 => ⟨S16x1538x1, .i32⟩
  | 48 => ⟨S16x1538, .i32⟩
  | 49 => ⟨S_, .i32⟩
  | 50 => ⟨S16x1, .i32⟩
  | 51 => ⟨S16x1, .i1⟩
  | 52 => ⟨S_, .i32⟩
  | 53 => ⟨S16x1, .i32⟩
  | 54 => ⟨S16x1, .i32⟩
  | 55 => ⟨S16x1, .i32⟩
  | 56 => ⟨S_, .i32⟩
  | 57 => ⟨S16x1538, .i32⟩
  | 58 => ⟨S16x1538, .i1⟩
  | 59 => ⟨S_, .i32⟩
  | 60 => ⟨S16x1538, .i32⟩
  | 61 => ⟨S16x1538, .i32⟩
  | 62 => ⟨S16x1538, .i32⟩
  | 63 => ⟨S16x1538, .i32⟩
  | 64 => ⟨S16x1538x1, .i32⟩
  | 65 => ⟨S16x1538x1, .i32⟩
  | 66 => ⟨S16x1538x2, .i32⟩
  | 67 => ⟨S16x1538x3, .f32⟩
  | 68 => ⟨S16x1538x3, .f32⟩
  | 69 => ⟨S16x1538x3, .f32⟩
  | 70 => ⟨S16x1538x1, .f32⟩
  | 71 => ⟨S16x1538, .f32⟩
  | 72 => ⟨S16x1538x1, .f32⟩
  | 73 => ⟨S16x1538, .f32⟩
  | 74 => ⟨S16x1538, .f32⟩
  | 75 => ⟨S16x1538x1, .f32⟩
  | 76 => ⟨S16x1538, .f32⟩
  | 77 => ⟨S16x1538x1, .f32⟩
  | 78 => ⟨S16x1538, .f32⟩
  | 79 => ⟨S16x1538, .f32⟩
  | 80 => ⟨S16x1538, .f32⟩
  | 81 => ⟨S16x1538x1, .f32⟩
  | 82 => ⟨S16x1538, .f32⟩
  | 83 => ⟨S16x1538x1, .f32⟩
  | 84 => ⟨S16x1538, .f32⟩
  | 85 => ⟨S16x1538, .f32⟩
  | 86 => ⟨S16x1538x1, .f32⟩
  | 87 => ⟨S16x1538, .f32⟩
  | 88 => ⟨S16x1538x1, .f32⟩
  | 89 => ⟨S16x1538, .f32⟩
  | 90 => ⟨S16x1538, .f32⟩
  | 91 => ⟨S16x1538, .f32⟩
  | 92 => ⟨S16x1538x1, .f32⟩
  | 93 => ⟨S16x1538, .f32⟩
  | 94 => ⟨S16x1538x1, .f32⟩
  | 95 => ⟨S16x1538, .f32⟩
  | 96 => ⟨S16x1538, .f32⟩
  | 97 => ⟨S16x1538x1, .f32⟩
  | 98 => ⟨S16x1538, .f32⟩
  | 99 => ⟨S16x1538x1, .f32⟩
  | 100 => ⟨S16x1538, .f32⟩
  | 101 => ⟨S16x1538, .f32⟩
  | 102 => ⟨S16x1538, .f32⟩
  | 103 => ⟨S16x1538x1, .f32⟩
  | 104 => ⟨S16x1538x1, .f32⟩
  | 105 => ⟨S16x1538x1, .f32⟩
  | 106 => ⟨S16x1538x3, .f32⟩
  | 107 => ⟨S_, .f32⟩
  | 108 => ⟨S16x778x3, .f32⟩
  | 109 => ⟨S16x1538x1, .i32⟩
  | 110 => ⟨S16x1538, .i32⟩
  | 111 => ⟨S_, .i32⟩
  | 112 => ⟨S16x1, .i32⟩
  | 113 => ⟨S16x1, .i1⟩
  | 114 => ⟨S_, .i32⟩
  | 115 => ⟨S16x1, .i32⟩
  | 116 => ⟨S16x1, .i32⟩
  | 117 => ⟨S16x1, .i32⟩
  | 118 => ⟨S_, .i32⟩
  | 119 => ⟨S16x1538, .i32⟩
  | 120 => ⟨S16x1538, .i1⟩
  | 121 => ⟨S_, .i32⟩
  | 122 => ⟨S16x1538, .i32⟩
  | 123 => ⟨S16x1538, .i32⟩
  | 124 => ⟨S16x1538, .i32⟩
  | 125 => ⟨S16x1538, .i32⟩
  | 126 => ⟨S16x1538x1, .i32⟩
  | 127 => ⟨S16x1538x1, .i32⟩
  | _ => ⟨S16x778x3, .f32⟩

abbrev hbmTy0_1 (i : Nat) : BufTy := match i % 128 with
  | 0 => ⟨S16x1538x2, .i32⟩
  | 1 => ⟨S16x778x3, .f32⟩
  | 2 => ⟨S16x1538x1, .i32⟩
  | 3 => ⟨S16x1538, .i32⟩
  | 4 => ⟨S_, .i32⟩
  | 5 => ⟨S16x1, .i32⟩
  | 6 => ⟨S16x1, .i1⟩
  | 7 => ⟨S_, .i32⟩
  | 8 => ⟨S16x1, .i32⟩
  | 9 => ⟨S16x1, .i32⟩
  | 10 => ⟨S16x1, .i32⟩
  | 11 => ⟨S_, .i32⟩
  | 12 => ⟨S16x1538, .i32⟩
  | 13 => ⟨S16x1538, .i1⟩
  | 14 => ⟨S_, .i32⟩
  | 15 => ⟨S16x1538, .i32⟩
  | 16 => ⟨S16x1538, .i32⟩
  | 17 => ⟨S16x1538, .i32⟩
  | 18 => ⟨S16x1538, .i32⟩
  | 19 => ⟨S16x1538x1, .i32⟩
  | 20 => ⟨S16x1538x1, .i32⟩
  | 21 => ⟨S16x1538x2, .i32⟩
  | 22 => ⟨S16x778x3, .f32⟩
  | 23 => ⟨S16x1538x1, .i32⟩
  | 24 => ⟨S16x1538, .i32⟩
  | 25 => ⟨S_, .i32⟩
  | 26 => ⟨S16x1, .i32⟩
  | 27 => ⟨S16x1, .i1⟩
  | 28 => ⟨S_, .i32⟩
  | 29 => ⟨S16x1, .i32⟩
  | 30 => ⟨S16x1, .i32⟩
  | 31 => ⟨S16x1, .i32⟩
  | 32 => ⟨S_, .i32⟩
  | 33 => ⟨S16x1538, .i32⟩
  | 34 => ⟨S16x1538, .i1⟩
  | 35 => ⟨S_, .i32⟩
  | 36 => ⟨S16x1538, .i32⟩
  | 37 => ⟨S16x1538, .i32⟩
  | 38 => ⟨S16x1538, .i32⟩
  | 39 => ⟨S16x1538, .i32⟩
  | 40 => ⟨S16x1538x1, .i32⟩
  | 41 => ⟨S16x1538x1, .i32⟩
  | 42 => ⟨S16x1538x2, .i32⟩
  | 43 => ⟨S16x778x3, .f32⟩
  | 44 => ⟨S16, .i32⟩
  | 45 => ⟨S16x1, .i32⟩
  | 46 => ⟨S16x1538x1, .i32⟩
  | 47 => ⟨S16x1538, .i32⟩
  | 48 => ⟨S_, .i32⟩
  | 49 => ⟨S16x1, .i32⟩
  | 50 => ⟨S16x1, .i1⟩
  | 51 => ⟨S_, .i32⟩
  | 52 => ⟨S16x1, .i32⟩
  | 53 => ⟨S16x1, .i32⟩
  | 54 => ⟨S16x1, .i32⟩
  | 55 => ⟨S_, .i32⟩
  | 56 => ⟨S16x1538, .i32⟩
  | 57 => ⟨S16x1538, .i1⟩
  | 58 => ⟨S_, .i32⟩
  | 59 => ⟨S16x1538, .i32⟩
  | 60 => ⟨S16x1538, .i32⟩
  | 61 => ⟨S16x1538, .i32⟩
  | 62 => ⟨S16x1538, .i32⟩
  | 63 => ⟨S16x1538x1, .i32⟩
  | 64 => ⟨S16x1538x1, .i32⟩
  | 65 => ⟨S16x1538x2, .i32⟩
  | 66 => ⟨S16x1538x3, .f32⟩
  | 67 => ⟨S16x1538x1, .i32⟩
  | 68 => ⟨S16x1538, .i32⟩
  | 69 => ⟨S_, .i32⟩
  | 70 => ⟨S16x1, .i32⟩
  | 71 => ⟨S16x1, .i1⟩
  | 72 => ⟨S_, .i32⟩
  | 73 => ⟨S16x1, .i32⟩
  | 74 => ⟨S16x1, .i32⟩
  | 75 => ⟨S16x1, .i32⟩
  | 76 => ⟨S_, .i32⟩
  | 77 => ⟨S16x1538, .i32⟩
  | 78 => ⟨S16x1538, .i1⟩
  | 79 => ⟨S_, .i32⟩
  | 80 => ⟨S16x1538, .i32⟩
  | 81 => ⟨S16x1538, .i32⟩
  | 82 => ⟨S16x1538, .i32⟩
  | 83 => ⟨S16x1538, .i32⟩
  | 84 => ⟨S16x1538x1, .i32⟩
  | 85 => ⟨S16x1538x1, .i32⟩
  | 86 => ⟨S16x1538x2, .i32⟩
  | 87 => ⟨S16x1538x3, .f32⟩
  | 88 => ⟨S16x1538x1, .i32⟩
  | 89 => ⟨S16x1538, .i32⟩
  | 90 => ⟨S_, .i32⟩
  | 91 => ⟨S16x1, .i32⟩
  | 92 => ⟨S16x1, .i1⟩
  | 93 => ⟨S_, .i32⟩
  | 94 => ⟨S16x1, .i32⟩
  | 95 => ⟨S16x1, .i32⟩
  | 96 => ⟨S16x1, .i32⟩
  | 97 => ⟨S_, .i32⟩
  | 98 => ⟨S16x1538, .i32⟩
  | 99 => ⟨S16x1538, .i1⟩
  | 100 => ⟨S_, .i32⟩
  | 101 => ⟨S16x1538, .i32⟩
  | 102 => ⟨S16x1538, .i32⟩
  | 103 => ⟨S16x1538, .i32⟩
  | 104 => ⟨S16x1538, .i32⟩
  | 105 => ⟨S16x1538x1, .i32⟩
  | 106 => ⟨S16x1538x1, .i32⟩
  | 107 => ⟨S16x1538x2, .i32⟩
  | 108 => ⟨S16x1538x3, .f32⟩
  | 109 => ⟨S16x1538x3, .f32⟩
  | 110 => ⟨S16x1538x3, .f32⟩
  | 111 => ⟨S16x1538x1, .f32⟩
  | 112 => ⟨S16x1538, .f32⟩
  | 113 => ⟨S16x1538x1, .f32⟩
  | 114 => ⟨S16x1538, .f32⟩
  | 115 => ⟨S16x1538, .f32⟩
  | 116 => ⟨S16x1538x1, .f32⟩
  | 117 => ⟨S16x1538, .f32⟩
  | 118 => ⟨S16x1538x1, .f32⟩
  | 119 => ⟨S16x1538, .f32⟩
  | 120 => ⟨S16x1538, .f32⟩
  | 121 => ⟨S16x1538, .f32⟩
  | 122 => ⟨S16x1538x1, .f32⟩
  | 123 => ⟨S16x1538, .f32⟩
  | 124 => ⟨S16x1538x1, .f32⟩
  | 125 => ⟨S16x1538, .f32⟩
  | 126 => ⟨S16x1538, .f32⟩
  | 127 => ⟨S16x1538x1, .f32⟩
  | _ => ⟨S16x778x3, .f32⟩

abbrev hbmTy0_2 (i : Nat) : BufTy := match i % 128 with
  | 0 => ⟨S16x1538, .f32⟩
  | 1 => ⟨S16x1538x1, .f32⟩
  | 2 => ⟨S16x1538, .f32⟩
  | 3 => ⟨S16x1538, .f32⟩
  | 4 => ⟨S16x1538, .f32⟩
  | 5 => ⟨S16x1538x1, .f32⟩
  | 6 => ⟨S16x1538, .f32⟩
  | 7 => ⟨S16x1538x1, .f32⟩
  | 8 => ⟨S16x1538, .f32⟩
  | 9 => ⟨S16x1538, .f32⟩
  | 10 => ⟨S16x1538x1, .f32⟩
  | 11 => ⟨S16x1538, .f32⟩
  | 12 => ⟨S16x1538x1, .f32⟩
  | 13 => ⟨S16x1538, .f32⟩
  | 14 => ⟨S16x1538, .f32⟩
  | 15 => ⟨S16x1538, .f32⟩
  | 16 => ⟨S16x1538x1, .f32⟩
  | 17 => ⟨S16x1538x1, .f32⟩
  | 18 => ⟨S16x1538x1, .f32⟩
  | 19 => ⟨S16x1538x3, .f32⟩
  | 20 => ⟨S_, .f32⟩
  | 21 => ⟨S16x778x3, .f32⟩
  | 22 => ⟨S16x1538x1, .i32⟩
  | 23 => ⟨S16x1538, .i32⟩
  | 24 => ⟨S_, .i32⟩
  | 25 => ⟨S16x1, .i32⟩
  | 26 => ⟨S16x1, .i1⟩
  | 27 => ⟨S_, .i32⟩
  | 28 => ⟨S16x1, .i32⟩
  | 29 => ⟨S16x1, .i32⟩
  | 30 => ⟨S16x1, .i32⟩
  | 31 => ⟨S_, .i32⟩
  | 32 => ⟨S16x1538, .i32⟩
  | 33 => ⟨S16x1538, .i1⟩
  | 34 => ⟨S_, .i32⟩
  | 35 => ⟨S16x1538, .i32⟩
  | 36 => ⟨S16x1538, .i32⟩
  | 37 => ⟨S16x1538, .i32⟩
  | 38 => ⟨S16x1538, .i32⟩
  | 39 => ⟨S16x1538x1, .i32⟩
  | 40 => ⟨S16x1538x1, .i32⟩
  | 41 => ⟨S16x1538x2, .i32⟩
  | 42 => ⟨S16x778x3, .f32⟩
  | 43 => ⟨S16x1538x1, .i32⟩
  | 44 => ⟨S16x1538, .i32⟩
  | 45 => ⟨S_, .i32⟩
  | 46 => ⟨S16x1, .i32⟩
  | 47 => ⟨S16x1, .i1⟩
  | 48 => ⟨S_, .i32⟩
  | 49 => ⟨S16x1, .i32⟩
  | 50 => ⟨S16x1, .i32⟩
  | 51 => ⟨S16x1, .i32⟩
  | 52 => ⟨S_, .i32⟩
  | 53 => ⟨S16x1538, .i32⟩
  | 54 => ⟨S16x1538, .i1⟩
  | 55 => ⟨S_, .i32⟩
  | 56 => ⟨S16x1538, .i32⟩
  | 57 => ⟨S16x1538, .i32⟩
  | 58 => ⟨S16x1538, .i32⟩
  | 59 => ⟨S16x1538, .i32⟩
  | 60 => ⟨S16x1538x1, .i32⟩
  | 61 => ⟨S16x1538x1, .i32⟩
  | 62 => ⟨S16x1538x2, .i32⟩
  | 63 => ⟨S16x778x3, .f32⟩
  | 64 => ⟨S16x1538x1, .i32⟩
  | 65 => ⟨S16x1538, .i32⟩
  | 66 => ⟨S_, .i32⟩
  | 67 => ⟨S16x1, .i32⟩
  | 68 => ⟨S16x1, .i1⟩
  | 69 => ⟨S_, .i32⟩
  | 70 => ⟨S16x1, .i32⟩
  | 71 => ⟨S16x1, .i32⟩
  | 72 => ⟨S16x1, .i32⟩
  | 73 => ⟨S_, .i32⟩
  | 74 => ⟨S16x1538, .i32⟩
  | 75 => ⟨S16x1538, .i1⟩
  | 76 => ⟨S_, .i32⟩
  | 77 => ⟨S16x1538, .i32⟩
  | 78 => ⟨S16x1538, .i32⟩
  | 79 => ⟨S16x1538, .i32⟩
  | 80 => ⟨S16x1538, .i32⟩
  | 81 => ⟨S16x1538x1, .i32⟩
  | 82 => ⟨S16x1538x1, .i32⟩
  | 83 => ⟨S16x1538x2, .i32⟩
  | 84 => ⟨S16x778x3, .f32⟩
  | 85 => ⟨S16x1x778x3, .f32⟩
  | 86 => ⟨S16x1x778x3, .f32⟩
  | 87 => ⟨S16x2x778x3, .f32⟩
  | _ => ⟨S16x778x3, .f32⟩

abbrev hbmTy (i : Nat) : BufTy := match i / 128 with
  | 0 => hbmTy0_0 i
  | 1 => hbmTy0_1 i
  | 2 => hbmTy0_2 i
  | _ => ⟨S16x778x3, .f32⟩

abbrev bufTy : (tb : Table) → Fin (tcTables nBuf tb) → BufTy
  | .hbm, ⟨i, _⟩ => hbmTy i
  | _, _ => ⟨S16x778x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_7 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_9 : Ref sig .tc := ⟨.hbm, 56, rfl⟩
abbrev main_v43 : Ref sig .tc := ⟨.hbm, 57, rfl⟩
abbrev main_v44 : Ref sig .tc := ⟨.hbm, 58, rfl⟩
abbrev main_c_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c_11 : Ref sig .tc := ⟨.hbm, 111, rfl⟩
abbrev main_v95 : Ref sig .tc := ⟨.hbm, 112, rfl⟩
abbrev main_v96 : Ref sig .tc := ⟨.hbm, 113, rfl⟩
abbrev main_c_12 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_c_13 : Ref sig .tc := ⟨.hbm, 118, rfl⟩
abbrev main_v100 : Ref sig .tc := ⟨.hbm, 119, rfl⟩
abbrev main_v101 : Ref sig .tc := ⟨.hbm, 120, rfl⟩
abbrev main_c_14 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c_15 : Ref sig .tc := ⟨.hbm, 132, rfl⟩
abbrev main_v112 : Ref sig .tc := ⟨.hbm, 133, rfl⟩
abbrev main_v113 : Ref sig .tc := ⟨.hbm, 134, rfl⟩
abbrev main_c_16 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_c_17 : Ref sig .tc := ⟨.hbm, 139, rfl⟩
abbrev main_v117 : Ref sig .tc := ⟨.hbm, 140, rfl⟩
abbrev main_v118 : Ref sig .tc := ⟨.hbm, 141, rfl⟩
abbrev main_c_18 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_c_19 : Ref sig .tc := ⟨.hbm, 153, rfl⟩
abbrev main_v129 : Ref sig .tc := ⟨.hbm, 154, rfl⟩
abbrev main_v130 : Ref sig .tc := ⟨.hbm, 155, rfl⟩
abbrev main_c_20 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_c_21 : Ref sig .tc := ⟨.hbm, 160, rfl⟩
abbrev main_v134 : Ref sig .tc := ⟨.hbm, 161, rfl⟩
abbrev main_v135 : Ref sig .tc := ⟨.hbm, 162, rfl⟩
abbrev main_c_22 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_c_23 : Ref sig .tc := ⟨.hbm, 176, rfl⟩
abbrev main_v148 : Ref sig .tc := ⟨.hbm, 177, rfl⟩
abbrev main_v149 : Ref sig .tc := ⟨.hbm, 178, rfl⟩
abbrev main_c_24 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_c_25 : Ref sig .tc := ⟨.hbm, 183, rfl⟩
abbrev main_v153 : Ref sig .tc := ⟨.hbm, 184, rfl⟩
abbrev main_v154 : Ref sig .tc := ⟨.hbm, 185, rfl⟩
abbrev main_c_26 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_c_27 : Ref sig .tc := ⟨.hbm, 197, rfl⟩
abbrev main_v165 : Ref sig .tc := ⟨.hbm, 198, rfl⟩
abbrev main_v166 : Ref sig .tc := ⟨.hbm, 199, rfl⟩
abbrev main_c_28 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_c_29 : Ref sig .tc := ⟨.hbm, 204, rfl⟩
abbrev main_v170 : Ref sig .tc := ⟨.hbm, 205, rfl⟩
abbrev main_v171 : Ref sig .tc := ⟨.hbm, 206, rfl⟩
abbrev main_c_30 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_c_31 : Ref sig .tc := ⟨.hbm, 218, rfl⟩
abbrev main_v182 : Ref sig .tc := ⟨.hbm, 219, rfl⟩
abbrev main_v183 : Ref sig .tc := ⟨.hbm, 220, rfl⟩
abbrev main_c_32 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_c_33 : Ref sig .tc := ⟨.hbm, 225, rfl⟩
abbrev main_v187 : Ref sig .tc := ⟨.hbm, 226, rfl⟩
abbrev main_v188 : Ref sig .tc := ⟨.hbm, 227, rfl⟩
abbrev main_c_34 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_35 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_c_36 : Ref sig .tc := ⟨.hbm, 280, rfl⟩
abbrev main_v239 : Ref sig .tc := ⟨.hbm, 281, rfl⟩
abbrev main_v240 : Ref sig .tc := ⟨.hbm, 282, rfl⟩
abbrev main_c_37 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_c_38 : Ref sig .tc := ⟨.hbm, 287, rfl⟩
abbrev main_v244 : Ref sig .tc := ⟨.hbm, 288, rfl⟩
abbrev main_v245 : Ref sig .tc := ⟨.hbm, 289, rfl⟩
abbrev main_c_39 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_c_40 : Ref sig .tc := ⟨.hbm, 301, rfl⟩
abbrev main_v256 : Ref sig .tc := ⟨.hbm, 302, rfl⟩
abbrev main_v257 : Ref sig .tc := ⟨.hbm, 303, rfl⟩
abbrev main_c_41 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_c_42 : Ref sig .tc := ⟨.hbm, 308, rfl⟩
abbrev main_v261 : Ref sig .tc := ⟨.hbm, 309, rfl⟩
abbrev main_v262 : Ref sig .tc := ⟨.hbm, 310, rfl⟩
abbrev main_c_43 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_c_44 : Ref sig .tc := ⟨.hbm, 322, rfl⟩
abbrev main_v273 : Ref sig .tc := ⟨.hbm, 323, rfl⟩
abbrev main_v274 : Ref sig .tc := ⟨.hbm, 324, rfl⟩
abbrev main_c_45 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_c_46 : Ref sig .tc := ⟨.hbm, 329, rfl⟩
abbrev main_v278 : Ref sig .tc := ⟨.hbm, 330, rfl⟩
abbrev main_v279 : Ref sig .tc := ⟨.hbm, 331, rfl⟩
abbrev main_c_47 : Ref sig .tc := ⟨.hbm, 332, rfl⟩
abbrev main_v280 : Ref sig .tc := ⟨.hbm, 333, rfl⟩
abbrev main_v281 : Ref sig .tc := ⟨.hbm, 334, rfl⟩
abbrev main_v282 : Ref sig .tc := ⟨.hbm, 335, rfl⟩
abbrev main_v283 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩

abbrev nD : Nat := 1
abbrev τ : Topo := Topo.v7x

variable {F : FTy → Type} [FloatOps F]
-- ==== Loss.lean ====
abbrev S16x61 : Shape := ⟨2, ![16, 61]⟩
abbrev S16x64 : Shape := ⟨2, ![16, 64]⟩
abbrev S16x778x3 : Shape := ⟨3, ![16, 778, 3]⟩
abbrev S16x2x778x3 : Shape := ⟨4, ![16, 2, 778, 3]⟩
abbrev S16x2048x3 : Shape := ⟨3, ![16, 2048, 3]⟩
abbrev S778 : Shape := ⟨1, ![778]⟩
abbrev S16x3x2048 : Shape := ⟨3, ![16, 3, 2048]⟩
abbrev S778x1 : Shape := ⟨2, ![778, 1]⟩
abbrev S16x1x61 : Shape := ⟨3, ![16, 1, 61]⟩
abbrev S16x1x64 : Shape := ⟨3, ![16, 1, 64]⟩
abbrev S1x1 : Shape := ⟨2, ![1, 1]⟩
abbrev S1x778x3 : Shape := ⟨3, ![1, 778, 3]⟩
abbrev S1x2x778x3 : Shape := ⟨4, ![1, 2, 778, 3]⟩
abbrev S1x3x2048 : Shape := ⟨3, ![1, 3, 2048]⟩
abbrev S1x2048x3 : Shape := ⟨3, ![1, 2048, 3]⟩
abbrev S1x1x61 : Shape := ⟨3, ![1, 1, 61]⟩
abbrev S1x1x64 : Shape := ⟨3, ![1, 1, 64]⟩
abbrev S778x3 : Shape := ⟨2, ![778, 3]⟩
abbrev S1x61 : Shape := ⟨2, ![1, 61]⟩
abbrev S1x64 : Shape := ⟨2, ![1, 64]⟩
abbrev S1x1x778x3 : Shape := ⟨4, ![1, 1, 778, 3]⟩
abbrev S778x6 : Shape := ⟨2, ![778, 6]⟩
abbrev S778x1024 : Shape := ⟨2, ![778, 1024]⟩
abbrev S1x3x1024 : Shape := ⟨3, ![1, 3, 1024]⟩
abbrev S3x1024 : Shape := ⟨2, ![3, 1024]⟩
abbrev S1x1024x3 : Shape := ⟨3, ![1, 1024, 3]⟩
abbrev S1024x3 : Shape := ⟨2, ![1024, 3]⟩
abbrev S1024 : Shape := ⟨1, ![1024]⟩
abbrev S1x1024 : Shape := ⟨2, ![1, 1024]⟩
abbrev S1024x6 : Shape := ⟨2, ![1024, 6]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S1x778x1 : Shape := ⟨3, ![1, 778, 1]⟩

abbrev nBuf : Space → Nat
  | .hbm => 20
  | .vmem => 24
  | .smem => 0
  | _ => 0

abbrev bufTy : (tb : Table) → Fin (tcTables nBuf tb) → BufTy
  | .hbm, ⟨0, _⟩ => ⟨S16x61, .f32⟩
  | .hbm, ⟨1, _⟩ => ⟨S16x61, .f32⟩
  | .hbm, ⟨2, _⟩ => ⟨S16x64, .f32⟩
  | .hbm, ⟨3, _⟩ => ⟨S16x64, .f32⟩
  | .hbm, ⟨4, _⟩ => ⟨S16x778x3, .f32⟩
  | .hbm, ⟨5, _⟩ => ⟨S16x778x3, .f32⟩
  | .hbm, ⟨6, _⟩ => ⟨S16x2x778x3, .f32⟩
  | .hbm, ⟨7, _⟩ => ⟨S16x2048x3, .f32⟩
  | .hbm, ⟨8, _⟩ => ⟨S778, .f32⟩
  | .hbm, ⟨9, _⟩ => ⟨S16x3x2048, .f32⟩
  | .hbm, ⟨10, _⟩ => ⟨S778x1, .f32⟩
  | .hbm, ⟨11, _⟩ => ⟨S16x1x61, .f32⟩
  | .hbm, ⟨12, _⟩ => ⟨S16x1x61, .f32⟩
  | .hbm, ⟨13, _⟩ => ⟨S16x1x64, .f32⟩
  | .hbm, ⟨14, _⟩ => ⟨S16x1x64, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .local _ .vmem, ⟨0, _⟩ => ⟨S1x778x3, .f32⟩
  | .local _ .vmem, ⟨1, _⟩ => ⟨S1x778x3, .f32⟩
  | .local _ .vmem, ⟨2, _⟩ => ⟨S1x778x3, .f32⟩
  | .local _ .vmem, ⟨3, _⟩ => ⟨S1x778x3, .f32⟩
  | .local _ .vmem, ⟨4, _⟩ => ⟨S1x2x778x3, .f32⟩
  | .local _ .vmem, ⟨5, _⟩ => ⟨S1x2x778x3, .f32⟩
  | .local _ .vmem, ⟨6, _⟩ => ⟨S1x3x2048, .f32⟩
  | .local _ .vmem, ⟨7, _⟩ => ⟨S1x3x2048, .f32⟩
  | .local _ .vmem, ⟨8, _⟩ => ⟨S1x2048x3, .f32⟩
  | .local _ .vmem, ⟨9, _⟩ => ⟨S1x2048x3, .f32⟩
  | .local _ .vmem, ⟨10, _⟩ => ⟨S778x1, .f32⟩
  | .local _ .vmem, ⟨11, _⟩ => ⟨S1x1x61, .f32⟩
  | .local _ .vmem, ⟨12, _⟩ => ⟨S1x1x61, .f32⟩
  | .local _ .vmem, ⟨13, _⟩ => ⟨S1x1x61, .f32⟩
  | .local _ .vmem, ⟨14, _⟩ => ⟨S1x1x61, .f32⟩
  | .local _ .vmem, ⟨15, _⟩ => ⟨S1x1x64, .f32⟩
  | .local _ .vmem, ⟨16, _⟩ => ⟨S1x1x64, .f32⟩
  | .local _ .vmem, ⟨17, _⟩ => ⟨S1x1x64, .f32⟩
  | .local _ .vmem, ⟨18, _⟩ => ⟨S1x1x64, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | _, _ => ⟨S16x61, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x778x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x778x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x778x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S778x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x61 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x61 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LossIdeal.lean ====
variable {F : FTy → Type} [FloatOps F] [Named F]
def κ : String → Option EReal := fun
  | "hand_mean" => some ((1393 / 497920 : ℝ) : EReal)
  | "object_mean" => some ((597 / 655360 : ℝ) : EReal)
  | "start" => some ⊤
  | _ => none
-- ==== LossReferenceIdeal.lean ====
abbrev S16x61 : Shape := ⟨2, ![16, 61]⟩
abbrev S16x64 : Shape := ⟨2, ![16, 64]⟩
abbrev S16x778x3 : Shape := ⟨3, ![16, 778, 3]⟩
abbrev S16x2x778x3 : Shape := ⟨4, ![16, 2, 778, 3]⟩
abbrev S16x2048x3 : Shape := ⟨3, ![16, 2048, 3]⟩
abbrev S778 : Shape := ⟨1, ![778]⟩
abbrev S_ : Shape := ⟨0, ![]⟩
abbrev S16x1x778x3 : Shape := ⟨4, ![16, 1, 778, 3]⟩
abbrev S16x778 : Shape := ⟨2, ![16, 778]⟩
abbrev S16x778x1 : Shape := ⟨3, ![16, 778, 1]⟩
abbrev S16 : Shape := ⟨1, ![16]⟩
abbrev S16x1 : Shape := ⟨2, ![16, 1]⟩
abbrev S16x2048 : Shape := ⟨2, ![16, 2048]⟩
abbrev S16x778x2048 : Shape := ⟨3, ![16, 778, 2048]⟩
abbrev S16x1x2048 : Shape := ⟨3, ![16, 1, 2048]⟩
abbrev S16x778x2 : Shape := ⟨3, ![16, 778, 2]⟩
abbrev S16x2048x1 : Shape := ⟨3, ![16, 2048, 1]⟩
abbrev S16x2048x2 : Shape := ⟨3, ![16, 2048, 2]⟩
abbrev S1x778 : Shape := ⟨2, ![1, 778]⟩
abbrev S1x1 : Shape := ⟨2, ![1, 1]⟩

abbrev nBuf : Space → Nat
  | .hbm => 332
  | .vmem => 0
  | .smem => 0
  | _ => 0

abbrev hbmTy0_0 (i : Nat) : BufTy := match i % 128 with
  | 0 => ⟨S16x61, .f32⟩
  | 1 => ⟨S16x61, .f32⟩
  | 2 => ⟨S16x64, .f32⟩
  | 3 => ⟨S16x64, .f32⟩
  | 4 => ⟨S16x778x3, .f32⟩
  | 5 => ⟨S16x778x3, .f32⟩
  | 6 => ⟨S16x2x778x3, .f32⟩
  | 7 => ⟨S16x2048x3, .f32⟩
  | 8 => ⟨S778, .f32⟩
  | 9 => ⟨S16x61, .f32⟩
  | 10 => ⟨S16x61, .f32⟩
  | 11 => ⟨S_, .f32⟩
  | 12 => ⟨S_, .f32⟩
  | 13 => ⟨S_, .f32⟩
  | 14 => ⟨S_, .f32⟩
  | 15 => ⟨S16x778x3, .f32⟩
  | 16 => ⟨S16x778x3, .f32⟩
  | 17 => ⟨S_, .f32⟩
  | 18 => ⟨S_, .f32⟩
  | 19 => ⟨S_, .f32⟩
  | 20 => ⟨S_, .f32⟩
  | 21 => ⟨S_, .f32⟩
  | 22 => ⟨S16x64, .f32⟩
  | 23 => ⟨S16x64, .f32⟩
  | 24 => ⟨S16x64, .f32⟩
  | 25 => ⟨S16x64, .f32⟩
  | 26 => ⟨S16x64, .f32⟩
  | 27 => ⟨S16x64, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S778, .f32⟩
  | 37 => ⟨S778, .f32⟩
  | 38 => ⟨S16x1x778x3, .f32⟩
  | 39 => ⟨S16x778x3, .f32⟩
  | 40 => ⟨S16x778x3, .f32⟩
  | 41 => ⟨S_, .f32⟩
  | 42 => ⟨S16x778, .f32⟩
  | 43 => ⟨S16x778x1, .f32⟩
  | 44 => ⟨S16x778x1, .f32⟩
  | 45 => ⟨S_, .f32⟩
  | 46 => ⟨S16x778x1, .f32⟩
  | 47 => ⟨S16x778x1, .f32⟩
  | 48 => ⟨S16x778x3, .f32⟩
  | 49 => ⟨S16x778x3, .f32⟩
  | 50 => ⟨S16, .i32⟩
  | 51 => ⟨S16x1, .i32⟩
  | 52 => ⟨S16x778x3, .f32⟩
  | 53 => ⟨S_, .f32⟩
  | 54 => ⟨S16x778, .f32⟩
  | 55 => ⟨S16x2048x3, .f32⟩
  | 56 => ⟨S_, .f32⟩
  | 57 => ⟨S16x2048, .f32⟩
  | 58 => ⟨S16x778x2048, .f32⟩
  | 59 => ⟨S16x778x1, .f32⟩
  | 60 => ⟨S16x1x2048, .f32⟩
  | 61 => ⟨S16x778x2048, .f32⟩
  | 62 => ⟨S16x778x2048, .f32⟩
  | 63 => ⟨S16x778x2048, .f32⟩
  | 64 => ⟨S_, .f32⟩
  | 65 => ⟨S16x778x2048, .f32⟩
  | 66 => ⟨S16x778x2048, .f32⟩
  | 67 => ⟨S16x778x2048, .f32⟩
  | 68 => ⟨S_, .f32⟩
  | 69 => ⟨S16x778x2048, .f32⟩
  | 70 => ⟨S16x778x2048, .f32⟩
  | 71 => ⟨S16x778x2048, .i32⟩
  | 72 => ⟨S_, .f32⟩
  | 73 => ⟨S_, .i32⟩
  | 74 => ⟨S16x778, .f32⟩
  | 75 => ⟨S16x778, .i32⟩
  | 76 => ⟨S16x778x2048, .i32⟩
  | 77 => ⟨S_, .f32⟩
  | 78 => ⟨S_, .i32⟩
  | 79 => ⟨S16x2048, .f32⟩
  | 80 => ⟨S16x2048, .i32⟩
  | 81 => ⟨S_, .i32⟩
  | 82 => ⟨S16x1, .i32⟩
  | 83 => ⟨S16x1, .i1⟩
  | 84 => ⟨S_, .i32⟩
  | 85 => ⟨S16x1, .i32⟩
  | 86 => ⟨S16x1, .i32⟩
  | 87 => ⟨S16x1, .i32⟩
  | 88 => ⟨S_, .i32⟩
  | 89 => ⟨S16x778, .i32⟩
  | 90 => ⟨S16x778, .i1⟩
  | 91 => ⟨S_, .i32⟩
  | 92 => ⟨S16x778, .i32⟩
  | 93 => ⟨S16x778, .i32⟩
  | 94 => ⟨S16x778, .i32⟩
  | 95 => ⟨S16x778, .i32⟩
  | 96 => ⟨S16x778x1, .i32⟩
  | 97 => ⟨S16x778x1, .i32⟩
  | 98 => ⟨S16x778x2, .i32⟩
  | 99 => ⟨S16x778x3, .f32⟩
  | 100 => ⟨S16x778x3, .f32⟩
  | 101 => ⟨S_, .i32⟩
  | 102 => ⟨S16x1, .i32⟩
  | 103 => ⟨S16x1, .i1⟩
  | 104 => ⟨S_, .i32⟩
  | 105 => ⟨S16x1, .i32⟩
  | 106 => ⟨S16x1, .i32⟩
  | 107 => ⟨S16x1, .i32⟩
  | 108 => ⟨S_, .i32⟩
  | 109 => ⟨S16x2048, .i32⟩
  | 110 => ⟨S16x2048, .i1⟩
  | 111 => ⟨S_, .i32⟩
  | 112 => ⟨S16x2048, .i32⟩
  | 113 => ⟨S16x2048, .i32⟩
  | 114 => ⟨S16x2048, .i32⟩
  | 115 => ⟨S16x2048, .i32⟩
  | 116 => ⟨S16x2048x1, .i32⟩
  | 117 => ⟨S16x2048x1, .i32⟩
  | 118 => ⟨S16x2048x2, .i32⟩
  | 119 => ⟨S16x2048x3, .f32⟩
  | 120 => ⟨S16x2048x3, .f32⟩
  | 121 => ⟨S_, .i32⟩
  | 122 => ⟨S16x1, .i32⟩
  | 123 => ⟨S16x1, .i1⟩
  | 124 => ⟨S_, .i32⟩
  | 125 => ⟨S16x1, .i32⟩
  | 126 => ⟨S16x1, .i32⟩
  | 127 => ⟨S16x1, .i32⟩
  | _ => ⟨S16x61, .f32⟩

abbrev hbmTy0_1 (i : Nat) : BufTy := match i % 128 with
  | 0 => ⟨S_, .i32⟩
  | 1 => ⟨S16x2048, .i32⟩
  | 2 => ⟨S16x2048, .i1⟩
  | 3 => ⟨S_, .i32⟩
  | 4 => ⟨S16x2048, .i32⟩
  | 5 => ⟨S16x2048, .i32⟩
  | 6 => ⟨S16x2048, .i32⟩
  | 7 => ⟨S16x2048, .i32⟩
  | 8 => ⟨S16x2048x1, .i32⟩
  | 9 => ⟨S16x2048x1, .i32⟩
  | 10 => ⟨S16x2048x2, .i32⟩
  | 11 => ⟨S16x2048x3, .f32⟩
  | 12 => ⟨S16x2048x3, .f32⟩
  | 13 => ⟨S_, .f32⟩
  | 14 => ⟨S16x2048, .f32⟩
  | 15 => ⟨S16x2048, .f32⟩
  | 16 => ⟨S16x2048x3, .f32⟩
  | 17 => ⟨S_, .f32⟩
  | 18 => ⟨S16x2048, .f32⟩
  | 19 => ⟨S16x2048, .f32⟩
  | 20 => ⟨S16x2048, .f32⟩
  | 21 => ⟨S16x778x3, .f32⟩
  | 22 => ⟨S_, .f32⟩
  | 23 => ⟨S16x778, .f32⟩
  | 24 => ⟨S16x778, .f32⟩
  | 25 => ⟨S16x1x778x3, .f32⟩
  | 26 => ⟨S16x778x3, .f32⟩
  | 27 => ⟨S16x778x3, .f32⟩
  | 28 => ⟨S_, .f32⟩
  | 29 => ⟨S16x778, .f32⟩
  | 30 => ⟨S16x778x1, .f32⟩
  | 31 => ⟨S16x778x1, .f32⟩
  | 32 => ⟨S_, .f32⟩
  | 33 => ⟨S16x778x1, .f32⟩
  | 34 => ⟨S16x778x1, .f32⟩
  | 35 => ⟨S16x778x3, .f32⟩
  | 36 => ⟨S16x778x3, .f32⟩
  | 37 => ⟨S16, .i32⟩
  | 38 => ⟨S16x1, .i32⟩
  | 39 => ⟨S16x778x3, .f32⟩
  | 40 => ⟨S_, .f32⟩
  | 41 => ⟨S16x778, .f32⟩
  | 42 => ⟨S16x2048x3, .f32⟩
  | 43 => ⟨S_, .f32⟩
  | 44 => ⟨S16x2048, .f32⟩
  | 45 => ⟨S16x778x2048, .f32⟩
  | 46 => ⟨S16x778x1, .f32⟩
  | 47 => ⟨S16x1x2048, .f32⟩
  | 48 => ⟨S16x778x2048, .f32⟩
  | 49 => ⟨S16x778x2048, .f32⟩
  | 50 => ⟨S16x778x2048, .f32⟩
  | 51 => ⟨S_, .f32⟩
  | 52 => ⟨S16x778x2048, .f32⟩
  | 53 => ⟨S16x778x2048, .f32⟩
  | 54 => ⟨S16x778x2048, .f32⟩
  | 55 => ⟨S_, .f32⟩
  | 56 => ⟨S16x778x2048, .f32⟩
  | 57 => ⟨S16x778x2048, .f32⟩
  | 58 => ⟨S16x778x2048, .i32⟩
  | 59 => ⟨S_, .f32⟩
  | 60 => ⟨S_, .i32⟩
  | 61 => ⟨S16x778, .f32⟩
  | 62 => ⟨S16x778, .i32⟩
  | 63 => ⟨S16x778x2048, .i32⟩
  | 64 => ⟨S_, .f32⟩
  | 65 => ⟨S_, .i32⟩
  | 66 => ⟨S16x2048, .f32⟩
  | 67 => ⟨S16x2048, .i32⟩
  | 68 => ⟨S_, .i32⟩
  | 69 => ⟨S16x1, .i32⟩
  | 70 => ⟨S16x1, .i1⟩
  | 71 => ⟨S_, .i32⟩
  | 72 => ⟨S16x1, .i32⟩
  | 73 => ⟨S16x1, .i32⟩
  | 74 => ⟨S16x1, .i32⟩
  | 75 => ⟨S_, .i32⟩
  | 76 => ⟨S16x778, .i32⟩
  | 77 => ⟨S16x778, .i1⟩
  | 78 => ⟨S_, .i32⟩
  | 79 => ⟨S16x778, .i32⟩
  | 80 => ⟨S16x778, .i32⟩
  | 81 => ⟨S16x778, .i32⟩
  | 82 => ⟨S16x778, .i32⟩
  | 83 => ⟨S16x778x1, .i32⟩
  | 84 => ⟨S16x778x1, .i32⟩
  | 85 => ⟨S16x778x2, .i32⟩
  | 86 => ⟨S16x778x3, .f32⟩
  | 87 => ⟨S16x778x3, .f32⟩
  | 88 => ⟨S_, .i32⟩
  | 89 => ⟨S16x1, .i32⟩
  | 90 => ⟨S16x1, .i1⟩
  | 91 => ⟨S_, .i32⟩
  | 92 => ⟨S16x1, .i32⟩
  | 93 => ⟨S16x1, .i32⟩
  | 94 => ⟨S16x1, .i32⟩
  | 95 => ⟨S_, .i32⟩
  | 96 => ⟨S16x2048, .i32⟩
  | 97 => ⟨S16x2048, .i1⟩
  | 98 => ⟨S_, .i32⟩
  | 99 => ⟨S16x2048, .i32⟩
  | 100 => ⟨S16x2048, .i32⟩
  | 101 => ⟨S16x2048, .i32⟩
  | 102 => ⟨S16x2048, .i32⟩
  | 103 => ⟨S16x2048x1, .i32⟩
  | 104 => ⟨S16x2048x1, .i32⟩
  | 105 => ⟨S16x2048x2, .i32⟩
  | 106 => ⟨S16x2048x3, .f32⟩
  | 107 => ⟨S16x2048x3, .f32⟩
  | 108 => ⟨S_, .i32⟩
  | 109 => ⟨S16x1, .i32⟩
  | 110 => ⟨S16x1, .i1⟩
  | 111 => ⟨S_, .i32⟩
  | 112 => ⟨S16x1, .i32⟩
  | 113 => ⟨S16x1, .i32⟩
  | 114 => ⟨S16x1, .i32⟩
  | 115 => ⟨S_, .i32⟩
  | 116 => ⟨S16x2048, .i32⟩
  | 117 => ⟨S16x2048, .i1⟩
  | 118 => ⟨S_, .i32⟩
  | 119 => ⟨S16x2048, .i32⟩
  | 120 => ⟨S16x2048, .i32⟩
  | 121 => ⟨S16x2048, .i32⟩
  | 122 => ⟨S16x2048, .i32⟩
  | 123 => ⟨S16x2048x1, .i32⟩
  | 124 => ⟨S16x2048x1, .i32⟩
  | 125 => ⟨S16x2048x2, .i32⟩
  | 126 => ⟨S16x2048x3, .f32⟩
  | 127 => ⟨S16x2048x3, .f32⟩
  | _ => ⟨S16x61, .f32⟩

abbrev hbmTy0_2 (i : Nat) : BufTy := match i % 128 with
  | 0 => ⟨S_, .f32⟩
  | 1 => ⟨S16x2048, .f32⟩
  | 2 => ⟨S16x2048, .f32⟩
  | 3 => ⟨S16x2048x3, .f32⟩
  | 4 => ⟨S_, .f32⟩
  | 5 => ⟨S16x2048, .f32⟩
  | 6 => ⟨S16x2048, .f32⟩
  | 7 => ⟨S16x2048, .f32⟩
  | 8 => ⟨S16x778x3, .f32⟩
  | 9 => ⟨S_, .f32⟩
  | 10 => ⟨S16x778, .f32⟩
  | 11 => ⟨S16x778, .f32⟩
  | 12 => ⟨S_, .f32⟩
  | 13 => ⟨S16x2048, .f32⟩
  | 14 => ⟨S16x2048, .i1⟩
  | 15 => ⟨S_, .f32⟩
  | 16 => ⟨S16x2048, .f32⟩
  | 17 => ⟨S16x2048, .i1⟩
  | 18 => ⟨S16x2048, .i1⟩
  | 19 => ⟨S_, .f32⟩
  | 20 => ⟨S16x2048, .f32⟩
  | 21 => ⟨S16x2048, .i1⟩
  | 22 => ⟨S_, .f32⟩
  | 23 => ⟨S16x2048, .f32⟩
  | 24 => ⟨S_, .f32⟩
  | 25 => ⟨S_, .f32⟩
  | 26 => ⟨S16x2048, .f32⟩
  | 27 => ⟨S16x2048, .f32⟩
  | 28 => ⟨S_, .f32⟩
  | 29 => ⟨S_, .f32⟩
  | 30 => ⟨S16x2048, .f32⟩
  | 31 => ⟨S16x2048, .f32⟩
  | 32 => ⟨S16x778, .f32⟩
  | 33 => ⟨S16x778, .f32⟩
  | 34 => ⟨S16x778, .f32⟩
  | 35 => ⟨S16x778, .f32⟩
  | 36 => ⟨S1x778, .f32⟩
  | 37 => ⟨S16x778, .f32⟩
  | 38 => ⟨S16x778, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S16x2048, .f32⟩
  | 50 => ⟨S16x2048, .f32⟩
  | 51 => ⟨S16x2048, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1x1, .f32⟩
  | 72 => ⟨S1x1, .f32⟩
  | 73 => ⟨S1x1, .f32⟩
  | 74 => ⟨S1x1, .f32⟩
  | 75 => ⟨S1x1, .f32⟩
  | _ => ⟨S16x61, .f32⟩

abbrev hbmTy (i : Nat) : BufTy := match i / 128 with
  | 0 => hbmTy0_0 i
  | 1 => hbmTy0_1 i
  | 2 => hbmTy0_2 i
  | _ => ⟨S16x61, .f32⟩

abbrev bufTy : (tb : Table) → Fin (tcTables nBuf tb) → BufTy
  | .hbm, ⟨i, _⟩ => hbmTy i
  | _, _ => ⟨S16x61, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_call1_v0 : Ref sig .tc := ⟨.hbm, 71, rfl⟩
abbrev main_call1_cst : Ref sig .tc := ⟨.hbm, 72, rfl⟩
abbrev main_call1_c : Ref sig .tc := ⟨.hbm, 73, rfl⟩
abbrev main_call1_v1_0 : Ref sig .tc := ⟨.hbm, 74, rfl⟩
abbrev main_v44 : Ref sig .tc := ⟨.hbm, 75, rfl⟩
abbrev main_call2_v0 : Ref sig .tc := ⟨.hbm, 76, rfl⟩
abbrev main_call2_cst : Ref sig .tc := ⟨.hbm, 77, rfl⟩
abbrev main_call2_c : Ref sig .tc := ⟨.hbm, 78, rfl⟩
abbrev main_call2_v1_0 : Ref sig .tc := ⟨.hbm, 79, rfl⟩
abbrev main_v45 : Ref sig .tc := ⟨.hbm, 80, rfl⟩
abbrev main_c : Ref sig .tc := ⟨.hbm, 81, rfl⟩
abbrev main_v46 : Ref sig .tc := ⟨.hbm, 82, rfl⟩
abbrev main_v47 : Ref sig .tc := ⟨.hbm, 83, rfl⟩
abbrev main_c_13 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_14 : Ref sig .tc := ⟨.hbm, 88, rfl⟩
abbrev main_v51 : Ref sig .tc := ⟨.hbm, 89, rfl⟩
abbrev main_v52 : Ref sig .tc := ⟨.hbm, 90, rfl⟩
abbrev main_c_15 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_16 : Ref sig .tc := ⟨.hbm, 101, rfl⟩
abbrev main_v62 : Ref sig .tc := ⟨.hbm, 102, rfl⟩
abbrev main_v63 : Ref sig .tc := ⟨.hbm, 103, rfl⟩
abbrev main_c_17 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_c_18 : Ref sig .tc := ⟨.hbm, 108, rfl⟩
abbrev main_v67 : Ref sig .tc := ⟨.hbm, 109, rfl⟩
abbrev main_v68 : Ref sig .tc := ⟨.hbm, 110, rfl⟩
abbrev main_c_19 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_20 : Ref sig .tc := ⟨.hbm, 121, rfl⟩
abbrev main_v78 : Ref sig .tc := ⟨.hbm, 122, rfl⟩
abbrev main_v79 : Ref sig .tc := ⟨.hbm, 123, rfl⟩
abbrev main_c_21 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_22 : Ref sig .tc := ⟨.hbm, 128, rfl⟩
abbrev main_v83 : Ref sig .tc := ⟨.hbm, 129, rfl⟩
abbrev main_v84 : Ref sig .tc := ⟨.hbm, 130, rfl⟩
abbrev main_c_23 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_call3_v0 : Ref sig .tc := ⟨.hbm, 144, rfl⟩
abbrev main_call3_cst : Ref sig .tc := ⟨.hbm, 145, rfl⟩
abbrev main_call3_v1 : Ref sig .tc := ⟨.hbm, 146, rfl⟩
abbrev main_v96 : Ref sig .tc := ⟨.hbm, 147, rfl⟩
abbrev main_v97 : Ref sig .tc := ⟨.hbm, 148, rfl⟩
abbrev main_call4_v0 : Ref sig .tc := ⟨.hbm, 149, rfl⟩
abbrev main_call4_cst : Ref sig .tc := ⟨.hbm, 150, rfl⟩
abbrev main_call4_v1 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_call5_v0 : Ref sig .tc := ⟨.hbm, 155, rfl⟩
abbrev main_call5_cst : Ref sig .tc := ⟨.hbm, 156, rfl⟩
abbrev main_call5_v1 : Ref sig .tc := ⟨.hbm, 157, rfl⟩
abbrev main_call5_v2 : Ref sig .tc := ⟨.hbm, 158, rfl⟩
abbrev main_v101 : Ref sig .tc := ⟨.hbm, 159, rfl⟩
abbrev main_cst_25 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_26 : Ref sig .tc := ⟨.hbm, 168, rfl⟩
abbrev main_v109 : Ref sig .tc := ⟨.hbm, 169, rfl⟩
abbrev main_v110 : Ref sig .tc := ⟨.hbm, 170, rfl⟩
abbrev main_cst_27 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_28 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_29 : Ref sig .tc := ⟨.hbm, 183, rfl⟩
abbrev main_v121 : Ref sig .tc := ⟨.hbm, 184, rfl⟩
abbrev main_v122 : Ref sig .tc := ⟨.hbm, 185, rfl⟩
abbrev main_call6_v0 : Ref sig .tc := ⟨.hbm, 186, rfl⟩
abbrev main_call6_cst : Ref sig .tc := ⟨.hbm, 187, rfl⟩
abbrev main_call6_c : Ref sig .tc := ⟨.hbm, 188, rfl⟩
abbrev main_call6_v1_0 : Ref sig .tc := ⟨.hbm, 189, rfl⟩
abbrev main_v123 : Ref sig .tc := ⟨.hbm, 190, rfl⟩
abbrev main_call7_v0 : Ref sig .tc := ⟨.hbm, 191, rfl⟩
abbrev main_call7_cst : Ref sig .tc := ⟨.hbm, 192, rfl⟩
abbrev main_call7_c : Ref sig .tc := ⟨.hbm, 193, rfl⟩
abbrev main_call7_v1_0 : Ref sig .tc := ⟨.hbm, 194, rfl⟩
abbrev main_v124 : Ref sig .tc := ⟨.hbm, 195, rfl⟩
abbrev main_c_30 : Ref sig .tc := ⟨.hbm, 196, rfl⟩
abbrev main_v125 : Ref sig .tc := ⟨.hbm, 197, rfl⟩
abbrev main_v126 : Ref sig .tc := ⟨.hbm, 198, rfl⟩
abbrev main_c_31 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_c_32 : Ref sig .tc := ⟨.hbm, 203, rfl⟩
abbrev main_v130 : Ref sig .tc := ⟨.hbm, 204, rfl⟩
abbrev main_v131 : Ref sig .tc := ⟨.hbm, 205, rfl⟩
abbrev main_c_33 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_c_34 : Ref sig .tc := ⟨.hbm, 216, rfl⟩
abbrev main_v141 : Ref sig .tc := ⟨.hbm, 217, rfl⟩
abbrev main_v142 : Ref sig .tc := ⟨.hbm, 218, rfl⟩
abbrev main_c_35 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_c_36 : Ref sig .tc := ⟨.hbm, 223, rfl⟩
abbrev main_v146 : Ref sig .tc := ⟨.hbm, 224, rfl⟩
abbrev main_v147 : Ref sig .tc := ⟨.hbm, 225, rfl⟩
abbrev main_c_37 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_c_38 : Ref sig .tc := ⟨.hbm, 236, rfl⟩
abbrev main_v157 : Ref sig .tc := ⟨.hbm, 237, rfl⟩
abbrev main_v158 : Ref sig .tc := ⟨.hbm, 238, rfl⟩
abbrev main_c_39 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_c_40 : Ref sig .tc := ⟨.hbm, 243, rfl⟩
abbrev main_v162 : Ref sig .tc := ⟨.hbm, 244, rfl⟩
abbrev main_v163 : Ref sig .tc := ⟨.hbm, 245, rfl⟩
abbrev main_c_41 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_cst_42 : Ref sig .tc := ⟨.hbm, 256, rfl⟩
abbrev main_v173 : Ref sig .tc := ⟨.hbm, 257, rfl⟩
abbrev main_v174 : Ref sig .tc := ⟨.hbm, 258, rfl⟩
abbrev main_call8_v0 : Ref sig .tc := ⟨.hbm, 259, rfl⟩
abbrev main_call8_cst : Ref sig .tc := ⟨.hbm, 260, rfl⟩
abbrev main_call8_v1 : Ref sig .tc := ⟨.hbm, 261, rfl⟩
abbrev main_v175 : Ref sig .tc := ⟨.hbm, 262, rfl⟩
abbrev main_v176 : Ref sig .tc := ⟨.hbm, 263, rfl⟩
abbrev main_call9_v0 : Ref sig .tc := ⟨.hbm, 264, rfl⟩
abbrev main_call9_cst : Ref sig .tc := ⟨.hbm, 265, rfl⟩
abbrev main_call9_v1 : Ref sig .tc := ⟨.hbm, 266, rfl⟩
abbrev main_v177 : Ref sig .tc := ⟨.hbm, 267, rfl⟩
abbrev main_cst_43 : Ref sig .tc := ⟨.hbm, 268, rfl⟩
abbrev main_v178 : Ref sig .tc := ⟨.hbm, 269, rfl⟩
abbrev main_v179 : Ref sig .tc := ⟨.hbm, 270, rfl⟩
abbrev main_cst_44 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_cst_45 : Ref sig .tc := ⟨.hbm, 275, rfl⟩
abbrev main_v183 : Ref sig .tc := ⟨.hbm, 276, rfl⟩
abbrev main_v184 : Ref sig .tc := ⟨.hbm, 277, rfl⟩
abbrev main_cst_46 : Ref sig .tc := ⟨.hbm, 278, rfl⟩
abbrev main_v185 : Ref sig .tc := ⟨.hbm, 279, rfl⟩
abbrev main_cst_47 : Ref sig .tc := ⟨.hbm, 280, rfl⟩
abbrev main_call10_v0 : Ref sig .tc := ⟨.hbm, 281, rfl⟩
abbrev main_call10_v1 : Ref sig .tc := ⟨.hbm, 282, rfl⟩
abbrev main_v186 : Ref sig .tc := ⟨.hbm, 283, rfl⟩
abbrev main_cst_48 : Ref sig .tc := ⟨.hbm, 284, rfl⟩
abbrev main_call11_v0 : Ref sig .tc := ⟨.hbm, 285, rfl⟩
abbrev main_call11_v1 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_cst_49 : Ref sig .tc := ⟨.hbm, 295, rfl⟩
abbrev main_v195 : Ref sig .tc := ⟨.hbm, 296, rfl⟩
abbrev main_cst_50 : Ref sig .tc := ⟨.hbm, 297, rfl⟩
abbrev main_v196 : Ref sig .tc := ⟨.hbm, 298, rfl⟩
abbrev main_cst_51 : Ref sig .tc := ⟨.hbm, 299, rfl⟩
abbrev main_v197 : Ref sig .tc := ⟨.hbm, 300, rfl⟩
abbrev main_cst_52 : Ref sig .tc := ⟨.hbm, 301, rfl⟩
abbrev main_v198 : Ref sig .tc := ⟨.hbm, 302, rfl⟩
abbrev main_cst_53 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_cst_54 : Ref sig .tc := ⟨.hbm, 308, rfl⟩
abbrev main_v203 : Ref sig .tc := ⟨.hbm, 309, rfl⟩
abbrev main_cst_55 : Ref sig .tc := ⟨.hbm, 310, rfl⟩
abbrev main_v204 : Ref sig .tc := ⟨.hbm, 311, rfl⟩
abbrev main_cst_56 : Ref sig .tc := ⟨.hbm, 312, rfl⟩
abbrev main_v205 : Ref sig .tc := ⟨.hbm, 313, rfl⟩
abbrev main_cst_57 : Ref sig .tc := ⟨.hbm, 314, rfl⟩
abbrev main_v206 : Ref sig .tc := ⟨.hbm, 315, rfl⟩
abbrev main_cst_58 : Ref sig .tc := ⟨.hbm, 316, rfl⟩
abbrev main_v207 : Ref sig .tc := ⟨.hbm, 317, rfl⟩
abbrev main_v208 : Ref sig .tc := ⟨.hbm, 318, rfl⟩
abbrev main_cst_59 : Ref sig .tc := ⟨.hbm, 319, rfl⟩
abbrev main_v209 : Ref sig .tc := ⟨.hbm, 320, rfl⟩
abbrev main_cst_60 : Ref sig .tc := ⟨.hbm, 321, rfl⟩
abbrev main_v210 : Ref sig .tc := ⟨.hbm, 322, rfl⟩
abbrev main_v211 : Ref sig .tc := ⟨.hbm, 323, rfl⟩
abbrev main_cst_61 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_v215 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩

abbrev nD : Nat := 1
abbrev τ : Topo := Topo.v7x

variable {F : FTy → Type} [FloatOps F]
-- ==== Proof.Step.lean ====
/-
  What one vector subcore computes, as functions of the row of vertices and the row of faces it fetched: the gather of
  a lane vector, the accumulating scatter of one, one trip of the face loop (sixteen faces: nine gathers, the cross
  product, nine scatters), and the loop's state after `k` trips.
-/
module

public import proofs.«01_k».proof.Defs
public import proofs.«01_k».proof.Proof.Gen.KernelIdeal
public import proofs.«01_k».proof.Proof.Gen.KernelIdeal.Skeleton

@[expose] public section

noncomputable section

namespace Cert.Proof.Normals

open Cert.KernelIdeal Cert.KernelIdeal.Gen
open Idealize.ShloMosaic

variable {F : FTy → Type}

/-- Every lane of `w` names an element of a row of 2352. -/
def InB (w : IVec S16 32) : Prop := ∀ a x, ((![w] : Fin 1 → IVec S16 32) a x).toNat < S2352.size a

theorem InB.of_lt {w : IVec S16 32} (h : ∀ x, (w x).toNat < 2352) : InB w := by
  intro a x
  match a with
  | 0 => exact h x

theorem InB.lt {w : IVec S16 32} (h : InB w) (x : S16.Idx) : (w x).toNat < 2352 := h 0 x

/-- Sixteen words of the row of faces, from position `o`. -/
def words (G : Vec F S4800 .i32) (o : ℕ) (ho : o + 16 ≤ 4800) : IVec S16 32 :=
  fun x => G fun a => match a with | 0 => ⟨o + (x 0).val, Nat.lt_of_lt_of_le (Nat.add_lt_add_left (x 0).isLt o) ho⟩

variable [FloatOps F]

open Classical in
/-- The gather from `X` at the lanes of `w`. -/
def gath (X : Vec F S2352 .f32) (w : IVec S16 32) : Vec F S16 .f32 :=
  if h : InB w then loadIdx X ![w] h else fun _ => Scalar.ofBits .f32 0#32

open Classical in
/-- The lanes of `v` added into `f` at the lanes of `w`. -/
def scat (f : Vec F S2352 .f32) (w : IVec S16 32) (v : Vec F S16 .f32) : Vec F S2352 .f32 :=
  if h : InB w then storeIdx f ![w] v (fun _ => 1#1) true h else f

theorem gath_eq {X : Vec F S2352 .f32} {w : IVec S16 32} (h : InB w) : loadIdx X ![w] h = gath X w := by
  rw [gath, dif_pos h]

theorem scat_eq {f : Vec F S2352 .f32} {w : IVec S16 32} {v : Vec F S16 .f32} (h : InB w) :
    storeIdx f ![w] v (fun _ => 1#1) true h = scat f w v := by
  rw [scat, dif_pos h]

section Lanes
variable (X : Vec F S2352 .f32) (a b c : IVec S16 32)

/-- The components of the sixteen faces' normals, `a`, `b`, `c` the corners' positions (three times the vertices' numbers). -/
def laneX : Vec F S16 .f32 :=
  k0_pay6 (gath X (k0_pay18 a)) (gath X (k0_pay19 a)) (gath X (k0_pay21 b)) (gath X (k0_pay22 c)) (gath X (k0_pay23 c))
    (k0_pay25 (gath X (k0_pay18 a)) (gath X (k0_pay20 b)))
def laneY : Vec F S16 .f32 :=
  k0_pay7 (gath X a) (gath X (k0_pay19 a)) (gath X (k0_pay21 b)) (gath X c) (gath X (k0_pay23 c))
    (k0_pay24 (gath X a) (gath X b))
def laneZ : Vec F S16 .f32 :=
  k0_pay8 (gath X a) (gath X (k0_pay18 a)) (gath X c) (gath X (k0_pay22 c)) (k0_pay24 (gath X a) (gath X b))
    (k0_pay25 (gath X (k0_pay18 a)) (gath X (k0_pay20 b)))

/-- The nine scatters of one trip, in the program's order. -/
def scats (f : Vec F S2352 .f32) : Vec F S2352 .f32 :=
  scat (scat (scat (scat (scat (scat (scat (scat (scat f
    a (laneX X a b c)) (k0_pay9 a) (laneY X a b c)) (k0_pay10 a) (laneZ X a b c))
    b (laneX X a b c)) (k0_pay11 b) (laneY X a b c)) (k0_pay12 b) (laneZ X a b c))
    c (laneX X a b c)) (k0_pay13 c) (laneY X a b c)) (k0_pay14 c) (laneZ X a b c)

end Lanes

/-- One trip of the face loop. -/
def trip (X : Vec F S2352 .f32) (G : Vec F S4800 .i32) (t : ℕ) (ht : t < 100) (f : Vec F S2352 .f32) : Vec F S2352 .f32 :=
  scats X (k0_pay15 (F := F) (words G (16 * t) (by omega))) (k0_pay16 (F := F) (words G (16 * t + 1600) (by omega)))
    (k0_pay17 (F := F) (words G (16 * t + 3200) (by omega))) f

/-- The row of sums after `k` trips, from zeros. -/
def iter (X : Vec F S2352 .f32) (G : Vec F S4800 .i32) : ℕ → Vec F S2352 .f32
  | 0 => fun _ => Scalar.ofBits .f32 0#32
  | k + 1 => if h : k < 100 then trip X G k h (iter X G k) else iter X G k

/-- What the subcore writes back. -/
def sums (X : Vec F S2352 .f32) (G : Vec F S4800 .i32) : Vec F S2352 .f32 := iter X G 100

theorem iter_succ (X : Vec F S2352 .f32) (G : Vec F S4800 .i32) {k : ℕ} (h : k < 100) :
    iter X G (k + 1) = trip X G k h (iter X G k) := by rw [iter, dif_pos h]

end Cert.Proof.Normals

end
-- ==== Proof.Setup.lean ====
/-
  The program as the SparseCore launch sees it, and what the call's handshakes carry. Vector subcore `s` of SparseCore
  `c` takes row `(s, c)` of the padded vertices, row `s` of the padded faces (at half a share: the two cores' subcores
  `s` both read it) and row `(s, c)` of the output, and brings the output's row back at the sums of `Step.lean`. The
  vertices' and the faces' arrays are whatever the host operations left (`A`, `G` below), so that one statement of the
  call serves every launch memory.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Step

@[expose] public section

noncomputable section

namespace Cert.Proof.Normals

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev vLoc (d : Dev nD) : Loc nD τ sig := (SparseCore.T d).loc main_v4
abbrev fLoc (d : Dev nD) : Loc nD τ sig := (SparseCore.T d).loc main_v7
abbrev oLoc (d : Dev nD) : Loc nD τ sig := (SparseCore.T d).loc main_v8

local notation "vV" => (Memref.whole Cert.KernelIdeal.main_v4_scv : Memref Cert.KernelIdeal.sig Kind.scVector Space.hbm Cert.KernelIdeal.S16x2x2352 EltTy.f32)
local notation "fV" => (Memref.whole Cert.KernelIdeal.main_v7_scv : Memref Cert.KernelIdeal.sig Kind.scVector Space.hbm Cert.KernelIdeal.S16x4800 EltTy.i32)
local notation "oV" => (Memref.whole Cert.KernelIdeal.main_v8_scv : Memref Cert.KernelIdeal.sig Kind.scVector Space.hbm Cert.KernelIdeal.S16x2x2352 EltTy.f32)

/-- The pair (SparseCore, subcore) as the kernel's grid coordinates. -/
def coordsV (c : Fin (grid0.bound 0)) (s : Fin (grid0.bound 1)) : grid0.Coords :=
  fun | 0 => c | 1 => s | ⟨_ + 2, h⟩ => absurd h (Nat.not_lt.2 (Nat.le_add_left _ _))

theorem off1_eq : ∀ L : grid0.Coords, k0_off1 L = ![(L 1).val, (L 0).val, 0] := by decide +kernel
theorem off2_eq : ∀ L : grid0.Coords, k0_off2 L = ![(L 1).val, 0] := by decide +kernel

abbrev rowRect (L : grid0.Coords) : Rect S16x2x2352 := Rect.unit (s := S16x2x2352) (k0_off1 L) S1x1x2352.size (k0_off1_inb L)
abbrev faceRect (L : grid0.Coords) : Rect S16x4800 := Rect.unit (s := S16x4800) (k0_off2 L) S1x4800.size (k0_off2_inb L)

/-- The vertices' row, the faces' row and the output's row of the subcore at `L`, as it addresses them. -/
abbrev vRow (L : grid0.Coords) : Memref sig .scVector .hbm S2352 .f32 := ((vV).slice (rowRect L) (fun _ => rfl)).squeeze S2352 squeezes_S1x1x2352_S2352
abbrev fRow (L : grid0.Coords) : Memref sig .scVector .hbm S4800 .i32 := ((fV).slice (faceRect L) (fun _ => rfl)).squeeze S4800 squeezes_S1x4800_S4800
abbrev oRow (L : grid0.Coords) : Memref sig .scVector .hbm S2352 .f32 := ((oV).slice (rowRect L) (fun _ => rfl)).squeeze S2352 squeezes_S1x1x2352_S2352

/-- The elements of row `(s, c)` of a 16×2×2352 array. -/
def rowSet (L : grid0.Coords) : Finset S16x2x2352.Idx := Finset.univ.filter fun i => (i 0).val = (L 1).val ∧ (i 1).val = (L 0).val
/-- The elements of row `s` of a 16×4800 array. -/
def faceSet (L : grid0.Coords) : Finset S16x4800.Idx := Finset.univ.filter fun i => (i 0).val = (L 1).val

theorem set_rowRect (L : grid0.Coords) : (rowRect L).set = rowSet L := by
  ext i
  simp only [Rect.mem_set_unit, rowSet, Finset.mem_filter, Finset.mem_univ, true_and, off1_eq]
  constructor
  · intro h
    have h0 := h 0; have h1 := h 1
    simp at h0 h1
    omega
  · rintro ⟨h0, h1⟩ a
    match a with
    | 0 => simp; omega
    | 1 => simp; omega
    | 2 => simp; exact (i 2).isLt

theorem set_faceRect (L : grid0.Coords) : (faceRect L).set = faceSet L := by
  ext i
  simp only [Rect.mem_set_unit, faceSet, Finset.mem_filter, Finset.mem_univ, true_and, off2_eq]
  constructor
  · intro h
    have h0 := h 0
    simp at h0
    omega
  · intro h0 a
    match a with
    | 0 => simp; omega
    | 1 => simp; exact (i 1).isLt

theorem set_vRow (L : grid0.Coords) : (vRow L).view.set = rowSet L := by
  show (((vV).view.slice (rowRect L)).reshape S2352 squeezes_S1x1x2352_S2352.numel_eq).set = _
  rw [View.set_reshape, ← set_rowRect]
  show ((View.whole (main_v4_scv : Ref sig .scVector)).slice (rowRect L)).set = _
  rw [View.set_slice]; exact Finset.map_refl
theorem set_oRow (L : grid0.Coords) : (oRow L).view.set = rowSet L := by
  show (((oV).view.slice (rowRect L)).reshape S2352 squeezes_S1x1x2352_S2352.numel_eq).set = _
  rw [View.set_reshape, ← set_rowRect]
  show ((View.whole (main_v8_scv : Ref sig .scVector)).slice (rowRect L)).set = _
  rw [View.set_slice]; exact Finset.map_refl
theorem set_fRow (L : grid0.Coords) : (fRow L).view.set = faceSet L := by
  show (((fV).view.slice (faceRect L)).reshape S4800 squeezes_S1x4800_S4800.numel_eq).set = _
  rw [View.set_reshape, ← set_faceRect]
  show ((View.whole (main_v7_scv : Ref sig .scVector)).slice (faceRect L)).set = _
  rw [View.set_slice]; exact Finset.map_refl

variable [FloatOps F]

/-! ## What the handshakes carry -/

/-- The row of vertices and the row of faces the subcore at `L` works from. -/
def rowV (A : Vec F S16x2x2352 .f32) (L : grid0.Coords) : Vec F S2352 .f32 :=
  fun j => A fun a => match a with | 0 => (⟨(L 1).val, (L 1).isLt⟩ : Fin 16) | 1 => (⟨(L 0).val, (L 0).isLt⟩ : Fin 2) | 2 => j 0
def rowF (G : Vec F S16x4800 .i32) (L : grid0.Coords) : Vec F S4800 .i32 :=
  fun j => G fun a => match a with | 0 => (⟨(L 1).val, (L 1).isLt⟩ : Fin 16) | 1 => j 0

/-- The grid coordinates that write row `(i 0, i 1)`. -/
def coordsOf (i : S16x2x2352.Idx) : grid0.Coords := coordsV ⟨(i 1).val, (i 1).isLt⟩ ⟨(i 0).val, (i 0).isLt⟩

/-- The call's result: each row's sums. -/
def result (A : Vec F S16x2x2352 .f32) (G : Vec F S16x4800 .i32) : Vec F S16x2x2352 .f32 :=
  fun i => sums (rowV A (coordsOf i)) (rowF G (coordsOf i)) fun a => match a with | 0 => i 2

/-- The share of a faces' row: one half for each SparseCore. -/
def half (c : ℕ) : PosShare TreeShare := if c = 0 then fullShare.left else fullShare.right

variable (A : (d : Dev nD) → Buf (Elt F) (vLoc d)) (G : (d : Dev nD) → Buf (Elt F) (fLoc d)) (B : (d : Dev nD) → Buf (Elt F) (oLoc d))

abbrev vPts (d : Dev nD) (L : grid0.Coords) : sProp 𝕄 := vLoc d ↦[rowSet L]{fullShare} A d
abbrev fPts (d : Dev nD) (L : grid0.Coords) : sProp 𝕄 := fLoc d ↦[faceSet L]{half (L 0).val} G d
abbrev oPts (d : Dev nD) (L : grid0.Coords) (f : Buf (Elt F) (oLoc d)) : sProp 𝕄 := oLoc d ↦[rowSet L]{fullShare} f

/-- A task's operands, and what it brings back. -/
abbrev goP (d : Dev nD) (L : grid0.Coords) : sProp 𝕄 := iprop(vPts A d L ∗ fPts G d L ∗ oPts d L (B d))
abbrev tdP (d : Dev nD) (L : grid0.Coords) : sProp 𝕄 := iprop(vPts A d L ∗ fPts G d L ∗ oPts d L (result (A d) (G d)))

abbrev co (c : Fin ((K (F := F)).nCore 0)) (i : Fin ((K (F := F)).nSub 0)) : grid0.Coords := coordsV ⟨c.val, c.isLt⟩ ⟨i.val, i.isLt⟩

/-- The call hands each SparseCore its sixteen tasks' operands and takes back what they bring. -/
def P : (K (F := F)).Pay (nD := nD) (Val := Elt F) (Name := ℕ) (U := UU) where
  st := fun q d c => match q with | 0 => bigSep Finset.univ fun i : Fin ((K (F := F)).nSub 0) => goP A G B d (co c i)
  dn := fun q d c => match q with | 0 => bigSep Finset.univ fun i : Fin ((K (F := F)).nSub 0) => tdP A G d (co c i)
  go := fun q d c i => match q with | 0 => goP A G B d (co c i)
  td := fun q d c i => match q with | 0 => tdP A G d (co c i)
  x := fun _ _ => iprop(emp)

instance P_storable : (P A G B).IsStorable where
  st q d c := match q with
    | 0 => (inferInstance : BI.Storable (upEmb : UEmb _ 𝕄) (bigSep Finset.univ fun i : Fin ((K (F := F)).nSub 0) => goP A G B d (co c i)))
  dn q d c := match q with
    | 0 => (inferInstance : BI.Storable (upEmb : UEmb _ 𝕄) (bigSep Finset.univ fun i : Fin ((K (F := F)).nSub 0) => tdP A G d (co c i)))
  go q d c i := match q with | 0 => (inferInstance : BI.Storable (upEmb : UEmb _ 𝕄) (goP A G B d (co c i)))
  td q d c i := match q with | 0 => (inferInstance : BI.Storable (upEmb : UEmb _ 𝕄) (tdP A G d (co c i)))

/-- What the proof asks of the faces: every word numbers one of the 779 rows a subcore works on (the 778 vertices and
    the padding's row). -/
def FacesOK (G : (d : Dev nD) → Buf (Elt F) (fLoc d)) : Prop := ∀ (d : Dev nD) (j : S16x4800.Idx), (G d j).toNat < 779

end Cert.Proof.Normals

end
-- ==== Proof.Tile.lean ====
/-
  One vector subcore's task: the two fetches, the zeroing loop, the face loop, the write-back. The buffer of sums is
  carried at its exact contents (`iter`), so that the run says what the subcore leaves in its row of the output.
-/
module

public import Idealize.ShloMosaic.Lib.Pointwise.Reshape
public import proofs.«01_k».proof.Proof.Setup

@[expose] public section

noncomputable section

namespace Cert.Proof.Normals

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "vV" => (Memref.whole Cert.KernelIdeal.main_v4_scv : Memref Cert.KernelIdeal.sig Kind.scVector Space.hbm Cert.KernelIdeal.S16x2x2352 EltTy.f32)
local notation "fV" => (Memref.whole Cert.KernelIdeal.main_v7_scv : Memref Cert.KernelIdeal.sig Kind.scVector Space.hbm Cert.KernelIdeal.S16x4800 EltTy.i32)
local notation "oV" => (Memref.whole Cert.KernelIdeal.main_v8_scv : Memref Cert.KernelIdeal.sig Kind.scVector Space.hbm Cert.KernelIdeal.S16x2x2352 EltTy.f32)
local notation "s0" => (Memref.whole Cert.KernelIdeal.cc0_scratch0 : Memref Cert.KernelIdeal.sig Kind.scVector Space.vmem Cert.KernelIdeal.S2352 EltTy.f32)
local notation "s1" => (Memref.whole Cert.KernelIdeal.cc0_scratch1 : Memref Cert.KernelIdeal.sig Kind.scVector Space.vmem Cert.KernelIdeal.S4800 EltTy.i32)
local notation "s2" => (Memref.whole Cert.KernelIdeal.cc0_scratch2 : Memref Cert.KernelIdeal.sig Kind.scVector Space.vmem Cert.KernelIdeal.S2352 EltTy.f32)

theorem trips1 : k0_t1_loop.trips = 147 := by decide +kernel
theorem trips2 : k0_t2_loop.trips = 100 := by decide +kernel

variable [FloatOps F]

/-- The zero the buffer of sums starts from. -/
abbrev zf : F .f32 := Scalar.ofBits .f32 0#32

section Tile

variable (d : Dev nD) (L : grid0.Coords)

abbrev cV (L : grid0.Coords) : Fin τ.nSC := (L 0).castLE hcore0
abbrev jV (L : grid0.Coords) : Fin τ.nSub := (L 1).castLE hsub0

/-! ## What the rows read -/

theorem read_vRow (f : Vec F S16x2x2352 .f32) : (vRow L).view.read (Elt F) f = rowV f L := by
  funext j
  rw [View.read_apply]
  refine (cast_eq _ _).trans ?_
  show f ((rowRect L).emb (Shape.reshapeEquiv _ j)) = _
  unfold rowV
  congr 1
  rw [Shape.reshapeEquiv_eq_of_vals (s := S1x1x2352) (s' := S2352) _ j (fun a => match a with | 0 => (0 : Fin 1) | 1 => (0 : Fin 1) | 2 => j 0)
    (j 0).val (j 0).val (by rw [rowMajor_val3 _ 2352 2352 rfl rfl]; simp) (by rw [rowMajor_val1]) rfl]
  funext a
  apply Fin.ext
  rw [Rect.emb_apply]
  match a with
  | 0 => simp [off1_eq]
  | 1 => simp [off1_eq]
  | 2 => simp [off1_eq]

theorem read_fRow (f : Vec F S16x4800 .i32) : (fRow L).view.read (Elt F) f = rowF f L := by
  funext j
  rw [View.read_apply]
  refine (cast_eq _ _).trans ?_
  show f ((faceRect L).emb (Shape.reshapeEquiv _ j)) = _
  unfold rowF
  congr 1
  rw [Shape.reshapeEquiv_eq_of_vals (s := S1x4800) (s' := S4800) _ j (fun a => match a with | 0 => (0 : Fin 1) | 1 => j 0)
    (j 0).val (j 0).val (by rw [rowMajor_val2 _ 4800 rfl]; simp) (by rw [rowMajor_val1]) rfl]
  funext a
  apply Fin.ext
  rw [Rect.emb_apply]
  match a with
  | 0 => simp [off2_eq]
  | 1 => simp [off2_eq]

/-! ## The zeroing loop's trip -/

abbrev loc0 : Loc nD τ sig := (V d (cV L) (jV L)).loc cc0_scratch0
abbrev loc1 : Loc nD τ sig := (V d (cV L) (jV L)).loc cc0_scratch1
abbrev loc2 : Loc nD τ sig := (V d (cV L) (jV L)).loc cc0_scratch2

theorem pts2_access (r : Rect S2352) (f : Buf (Elt F) (loc2 d L)) :
    (((s2).access r).loc (V d (cV L) (jV L)) ↦{fullShare} f : sProp 𝕄) = loc2 d L ↦{fullShare} f := rfl
theorem pts2_view (f : Buf (Elt F) (loc2 d L)) :
    ((s2).view.loc (V d (cV L) (jV L)) ↦{fullShare} f : sProp 𝕄) = loc2 d L ↦{fullShare} f := rfl

theorem zero_trip (k : Fin k0_t1_loop.trips) (f : Buf (Elt F) (loc2 d L)) (hf : ∀ j : S2352.Idx, (j 0).val < 16 * k.val → f j = zf (F := F)) :
    (loc2 d L ↦{fullShare} f : sProp 𝕄)
      ⊢ wp frame (wpE (defs₀ (F := F)) 𝒱₀ (V d (cV L) (jV L)) none) Set.univ
          (k0_t1_body L vV (Memref.isWhole_whole _) fV (Memref.isWhole_whole _) oV (Memref.isWhole_whole _)
            s0 (Memref.isWhole_whole _) s1 (Memref.isWhole_whole _) s2 (Memref.isWhole_whole _) cc0_scoped0 cc0_scoped1 cc0_scoped2 k ())
          fun _ => iprop(∃ f', ⌜∀ j : S2352.Idx, (j 0).val < 16 * (k.val + 1) → f' j = zf (F := F)⌝ ∗ loc2 d L ↦{fullShare} f') := by
  unfold k0_t1_body
  simp only [Prog.lift, Prog.bind_op, Prog.bind_ret, Prog.pure_eq_ret]
  iintro H
  iapply (wp_load 𝒱₀ (V d (cV L) (jV L)) none Set.univ (m := (s2 : Memref sig .scVector .vmem S2352 .f32)) (S := Finset.univ) (Finset.subset_univ _)) $$ H; iintro H
  ihave H := (Entails.of_eq ((pts2_view (F := F) d L _).trans (pts2_access (F := F) d L _ _).symm)) $$ H
  iapply (wp_store 𝒱₀ (V d (cV L) (jV L)) none Set.univ (m := (s2 : Memref sig .scVector .vmem S2352 .f32)) (r := Rect.unit (s := S2352) (k0_off3 k) S16.size (k0_off3_inb k)) (Mk := Finset.univ) (S := Finset.univ) (Finset.subset_univ _)) $$ H; iintro H
  sl_step
  iexists _; isplitr
  swap; · iexact H
  ipureintro
  intro j hj
  by_cases hlt : (j 0).val < 16 * k.val
  · refine (View.write_of_not_mem _ _ _ fun hm => ?_).trans (hf j hlt)
    rw [View.setOn_univ] at hm
    have hm' : j ∈ ((View.whole (cc0_scratch2 : Ref sig .scVector)).slice (Rect.unit (s := S2352) (k0_off3 k) S16.size (k0_off3_inb k))).set := hm
    rw [View.set_slice_whole, Rect.mem_set_unit] at hm'
    have h0 := (hm' 0).1
    rw [k0_off3_eq] at h0
    simp at h0
    omega
  · have hx : (j 0).val - 16 * k.val < 16 := by omega
    have hj' : ((s2).access (Rect.unit (s := S2352) (k0_off3 k) S16.size (k0_off3_inb k))).emb (fun a => match a with | 0 => ⟨(j 0).val - 16 * k.val, hx⟩) = j := by
      funext a
      apply Fin.ext
      match a with
      | 0 =>
        show k0_off3 k 0 + 1 * ((j 0).val - 16 * k.val) = (j 0).val
        rw [k0_off3_eq]; simp; omega
    rw [← hj']
    exact View.write_emb_of_mem _ _ (Finset.mem_univ _)

/-! ## The face loop's steps: a load of sixteen words, a gather, an accumulating scatter -/

theorem pts0_access (q : PosShare TreeShare) (f : Buf (Elt F) (loc0 d L)) :
    (((s0).access (Rect.whole S2352)).loc (V d (cV L) (jV L)) ↦{q} f : sProp 𝕄) = loc0 d L ↦{q} f := rfl
theorem pts1_view (q : PosShare TreeShare) (f : Buf (Elt F) (loc1 d L)) :
    ((s1).view.loc (V d (cV L) (jV L)) ↦{q} f : sProp 𝕄) = loc1 d L ↦{q} f := rfl
theorem pts2_set (f : Buf (Elt F) (loc2 d L)) :
    (((s2).access (Rect.whole S2352)).loc (V d (cV L) (jV L)) ↦[((s2).access (Rect.whole S2352)).set]{fullShare} f : sProp 𝕄) = loc2 d L ↦{fullShare} f := by
  exact congrArg (fun S => (loc2 d L ↦[S]{fullShare} f : sProp 𝕄)) (Memref.set_access_whole (cc0_scratch2 : Ref sig .scVector))

section Steps
variable {α : Type} {Q : α → sProp (MT nD τ sig (HIx 1) (Elt F) ℕ UU ℕ)}

theorem wp_gath {X : Buf (Elt F) (loc0 d L)} {w : IVec S16 32} (h : ∀ a x, ((![w] : Fin 1 → IVec S16 32) a x).toNat < S2352.size a) {hl : (s0).view.Loads}
    {k : Vec F S16 .f32 → Prog (TpuEff nD τ sig (Elt F) Λ₀ (.scVector (cV L) (jV L))) α} :
    (loc0 d L ↦{fullShare} X : sProp 𝕄)
      ⊢ iprop(((loc0 d L ↦{fullShare} X) -∗ wp frame (wpE (defs₀ (F := F)) 𝒱₀ (V d (cV L) (jV L)) none) Set.univ (k (gath X w)) Q)
        -∗ wp frame (wpE (defs₀ (F := F)) 𝒱₀ (V d (cV L) (jV L)) none) Set.univ (SparseCore.vectorLoadIdx s0 ![w] h hl >>= k) Q) := by
  iintro H Hk
  ihave H := (Entails.of_eq (pts0_access (F := F) d L _ _).symm) $$ H
  iapply (SparseCore.wp_vectorLoadIdx 𝒱₀ (V d (cV L) (jV L)) none Set.univ (base := (s0 : Memref sig .scVector .vmem S2352 .f32)) (S := Finset.univ) (q := fullShare) (Finset.subset_univ _)) $$ H
  iintro H
  rw [Memref.read_access_whole, gath_eq h]
  iapply Hk
  iexact H

theorem wp_scat {f : Buf (Elt F) (loc2 d L)} {w : IVec S16 32} {v : Vec F S16 .f32} (h : ∀ a x, ((![w] : Fin 1 → IVec S16 32) a x).toNat < S2352.size a)
    {hs : ((s2).access (.whole S2352)).Stores Finset.univ}
    {k : PUnit → Prog (TpuEff nD τ sig (Elt F) Λ₀ (.scVector (cV L) (jV L))) α} :
    (loc2 d L ↦{fullShare} f : sProp 𝕄)
      ⊢ iprop(((loc2 d L ↦{fullShare} scat f w v) -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx s2 ![w] v (fun _ => 1#1) true h hs >>= k) Q) := by
  iintro H Hk
  ihave H := (Entails.of_eq (pts2_set (F := F) d L _).symm) $$ H
  iapply (SparseCore.wp_vectorStoreIdx 𝒱₀ (V d (cV L) (jV L)) none Set.univ (base := (s2 : Memref sig .scVector .vmem S2352 .f32))) $$ H
  iintro H
  rw [Memref.read_access_whole, Memref.write_access_whole_univ, scat_eq h]
  ihave H := (Entails.of_eq (pts2_set (F := F) d L _)) $$ H
  iapply Hk
  iexact H

theorem wp_words {G : Buf (Elt F) (loc1 d L)} {off : Fin 1 → ℕ} {inb : ∀ a, off a + S16.size a ≤ S4800.size a} {o : ℕ} (ho : o + 16 ≤ 4800) (e : off = ![o])
    {hl : (s1).view.LoadsAt (Rect.unit (s := S4800) off S16.size inb).toLoadRect}
    {k : Vec F S16 .i32 → Prog (TpuEff nD τ sig (Elt F) Λ₀ (.scVector (cV L) (jV L))) α} :
    (loc1 d L ↦{fullShare} G : sProp 𝕄)
      ⊢ iprop(((loc1 d L ↦{fullShare} G) -∗ wp frame (wpE (defs₀ (F := F)) 𝒱₀ (V d (cV L) (jV L)) none) Set.univ (k (words (F := F) G o ho)) Q)
        -∗ wp frame (wpE (defs₀ (F := F)) 𝒱₀ (V d (cV L) (jV L)) none) Set.univ (.op (.load s1 (Rect.unit (s := S4800) off S16.size inb).toLoadRect hl) k) Q) := by
  subst e
  have hw : (s1).view.readAt (Elt F) (Rect.unit (s := S4800) ![o] S16.size inb).toLoadRect G = words (F := F) G o ho := by
    funext x
    show G _ = G _
    congr 1
    funext a
    apply Fin.ext
    match a with
    | 0 => show o + 1 * (x 0).val = o + (x 0).val; omega
  iintro H Hk
  ihave H := (Entails.of_eq (pts1_view (F := F) d L _ _).symm) $$ H
  iapply (wp_load 𝒱₀ (V d (cV L) (jV L)) none Set.univ (m := (s1 : Memref sig .scVector .vmem S4800 .i32)) (S := Finset.univ) (Finset.subset_univ _)) $$ H
  iintro H
  rw [hw]
  iapply Hk
  iexact H

end Steps

/-! ## The positions are in range -/

theorem mul3_lt {w : BitVec 32} (h : w.toNat < 779) : (w * 3#32).toNat = 3 * w.toNat := by
  rw [BitVec.toNat_mul]; simp; omega
theorem mul3_add_lt {w : BitVec 32} (h : w.toNat < 779) (c : BitVec 32) (hc : c.toNat < 3) : (w * 3#32 + c).toNat = 3 * w.toNat + c.toNat := by
  rw [BitVec.toNat_add, mul3_lt h]; omega

section Range
variable {w : IVec S16 32} (h : ∀ x, (w x).toNat < 779)
include h

theorem inB15 : InB (k0_pay15 (F := F) w) := InB.of_lt fun x => by
  show (w x * 3#32).toNat < 2352; rw [mul3_lt (h x)]; have := h x; omega
theorem inB16 : InB (k0_pay16 (F := F) w) := inB15 (F := F) h
theorem inB17 : InB (k0_pay17 (F := F) w) := inB15 (F := F) h
theorem inB_one : InB (k0_pay18 (k0_pay15 (F := F) w)) := InB.of_lt fun x => by
  show (w x * 3#32 + 1#32).toNat < 2352; rw [mul3_add_lt (h x) _ (by decide)]; have := h x; simp; omega
theorem inB_two : InB (k0_pay19 (k0_pay15 (F := F) w)) := InB.of_lt fun x => by
  show (w x * 3#32 + 2#32).toNat < 2352; rw [mul3_add_lt (h x) _ (by decide)]; have := h x; simp; omega

end Range

theorem words_lt {G : Vec F S4800 .i32} (hG : ∀ j, (G j : BitVec 32).toNat < 779) (o : ℕ) (ho : o + 16 ≤ 4800) (x : S16.Idx) : (words (F := F) G o ho x).toNat < 779 := hG _

theorem off5_0 (k : Fin k0_t2_loop.trips) : k0_off5 k 1600#32 = ![16 * k.val + 1600] := by
  rw [show (1600#32 : BitVec 32) = BitVec.ofNat 32 (1600 + 1600 * (0 : Fin 2).val) from rfl, k0_off5_eq]; simp
theorem off5_1 (k : Fin k0_t2_loop.trips) : k0_off5 k 3200#32 = ![16 * k.val + 3200] := by
  rw [show (3200#32 : BitVec 32) = BitVec.ofNat 32 (1600 + 1600 * (1 : Fin 2).val) from rfl, k0_off5_eq]
  congr 1; simp; omega

/-! ## The face loop's trip -/

set_option maxHeartbeats 4000000 in
theorem face_trip (k : Fin k0_t2_loop.trips) (X : Buf (Elt F) (loc0 d L)) (G : Buf (Elt F) (loc1 d L)) (f : Buf (Elt F) (loc2 d L))
    (hG : ∀ j : S4800.Idx, (G j : BitVec 32).toNat < 779) (hk : k.val < 100) :
    iprop((loc0 d L ↦{fullShare} X) ∗ (loc1 d L ↦{fullShare} G) ∗ (loc2 d L ↦{fullShare} f) : sProp 𝕄)
      ⊢ wp frame (wpE (defs₀ (F := F)) 𝒱₀ (V d (cV L) (jV L)) none) Set.univ
          (k0_t2_body L vV (Memref.isWhole_whole _) fV (Memref.isWhole_whole _) oV (Memref.isWhole_whole _)
            s0 (Memref.isWhole_whole _) s1 (Memref.isWhole_whole _) s2 (Memref.isWhole_whole _) cc0_scoped0 cc0_scoped1 cc0_scoped2 k ())
          fun _ => iprop((loc0 d L ↦{fullShare} X) ∗ (loc1 d L ↦{fullShare} G) ∗ (loc2 d L ↦{fullShare} trip X G k.val hk f)) := by
  have wA := words_lt (F := F) hG (16 * k.val) (by omega)
  have wB := words_lt (F := F) hG (16 * k.val + 1600) (by omega)
  have wC := words_lt (F := F) hG (16 * k.val + 3200) (by omega)
  have c1 : k0_chk1 (k0_pay15 (F := F) (words (F := F) G (16 * k.val) (by omega))) := ⟨inB15 (F := F) wA, inB15 (F := F) wA⟩
  have c4 : k0_chk4 (k0_pay16 (F := F) (words (F := F) G (16 * k.val + 1600) (by omega))) := ⟨inB16 (F := F) wB, inB16 (F := F) wB⟩
  have c7 : k0_chk7 (k0_pay17 (F := F) (words (F := F) G (16 * k.val + 3200) (by omega))) := ⟨inB17 (F := F) wC, inB17 (F := F) wC⟩
  have c2 : k0_chk2 (k0_pay18 (k0_pay15 (F := F) (words (F := F) G (16 * k.val) (by omega)))) := inB_one (F := F) wA
  have c3 : k0_chk3 (k0_pay19 (k0_pay15 (F := F) (words (F := F) G (16 * k.val) (by omega)))) := inB_two (F := F) wA
  have c5 : k0_chk5 (k0_pay20 (k0_pay16 (F := F) (words (F := F) G (16 * k.val + 1600) (by omega)))) := inB_one (F := F) wB
  have c6 : k0_chk6 (k0_pay21 (k0_pay16 (F := F) (words (F := F) G (16 * k.val + 1600) (by omega)))) := inB_two (F := F) wB
  have c8 : k0_chk8 (k0_pay22 (k0_pay17 (F := F) (words (F := F) G (16 * k.val + 3200) (by omega)))) := inB_one (F := F) wC
  have c9 : k0_chk9 (k0_pay23 (k0_pay17 (F := F) (words (F := F) G (16 * k.val + 3200) (by omega)))) := inB_two (F := F) wC
  have c10 : k0_chk10 (k0_pay9 (k0_pay15 (F := F) (words (F := F) G (16 * k.val) (by omega)))) := inB_one (F := F) wA
  have c11 : k0_chk11 (k0_pay10 (k0_pay15 (F := F) (words (F := F) G (16 * k.val) (by omega)))) := inB_two (F := F) wA
  have c12 : k0_chk12 (k0_pay11 (k0_pay16 (F := F) (words (F := F) G (16 * k.val + 1600) (by omega)))) := inB_one (F := F) wB
  have c13 : k0_chk13 (k0_pay12 (k0_pay16 (F := F) (words (F := F) G (16 * k.val + 1600) (by omega)))) := inB_two (F := F) wB
  have c14 : k0_chk14 (k0_pay13 (k0_pay17 (F := F) (words (F := F) G (16 * k.val + 3200) (by omega)))) := inB_one (F := F) wC
  have c15 : k0_chk15 (k0_pay14 (k0_pay17 (F := F) (words (F := F) G (16 * k.val + 3200) (by omega)))) := inB_two (F := F) wC
  unfold k0_t2_body
  simp only [k0_part1_eq_skeleton]; unfold k0_part1_skel
  simp only [Prog.lift, Prog.bind_op, Prog.bind_ret, Prog.pure_eq_ret, bind_assoc]
  iintro ⟨H0, H1, H2⟩
  iapply (wp_words d L (o := 16 * k.val) (by omega) (k0_off4_eq k)) $$ H1; iintro H1
  rw [wp_assume_of _ _ _ _ c1]
  iapply (wp_words d L (o := 16 * k.val + 1600) (by omega) (off5_0 k)) $$ H1; iintro H1
  rw [wp_assume_of _ _ _ _ c4]
  iapply (wp_words d L (o := 16 * k.val + 3200) (by omega) (off5_1 k)) $$ H1; iintro H1
  rw [wp_assume_of _ _ _ _ c7]
  iapply (wp_gath d L _) $$ H0; iintro H0
  rw [wp_assume_of _ _ _ _ c2]
  iapply (wp_gath d L _) $$ H0; iintro H0
  rw [wp_assume_of _ _ _ _ c3]
  iapply (wp_gath d L _) $$ H0; iintro H0
  iapply (wp_gath d L _) $$ H0; iintro H0
  rw [wp_assume_of _ _ _ _ c5]
  iapply (wp_gath d L _) $$ H0; iintro H0
  rw [wp_assume_of _ _ _ _ c6]
  iapply (wp_gath d L _) $$ H0; iintro H0
  iapply (wp_gath d L _) $$ H0; iintro H0
  rw [wp_assume_of _ _ _ _ c8]
  iapply (wp_gath d L _) $$ H0; iintro H0
  rw [wp_assume_of _ _ _ _ c9]
  iapply (wp_gath d L _) $$ H0; iintro H0
  iapply (wp_scat d L _) $$ H2; iintro H2
  rw [wp_assume_of _ _ _ _ c10]
  iapply (wp_scat d L _) $$ H2; iintro H2
  rw [wp_assume_of _ _ _ _ c11]
  iapply (wp_scat d L _) $$ H2; iintro H2
  iapply (wp_scat d L _) $$ H2; iintro H2
  rw [wp_assume_of _ _ _ _ c12]
  iapply (wp_scat d L _) $$ H2; iintro H2
  rw [wp_assume_of _ _ _ _ c13]
  iapply (wp_scat d L _) $$ H2; iintro H2
  iapply (wp_scat d L _) $$ H2; iintro H2
  rw [wp_assume_of _ _ _ _ c14]
  iapply (wp_scat d L _) $$ H2; iintro H2
  rw [wp_assume_of _ _ _ _ c15]
  iapply (wp_scat d L _) $$ H2; iintro H2
  sl_step
  isplitl [H0]; · iexact H0
  isplitl [H1]; · iexact H1
  iexact H2

/-! ## The task -/

theorem pts_vRow (f : Buf (Elt F) (vLoc d)) :
    ((vRow L).view.loc (V d (cV L) (jV L)) ↦[(vRow L).view.set]{fullShare} f : sProp 𝕄) = vLoc d ↦[rowSet L]{fullShare} f :=
  congrArg (fun S => (vLoc d ↦[S]{fullShare} f : sProp 𝕄)) (set_vRow L)
theorem pts_oRow (f : Buf (Elt F) (oLoc d)) :
    ((oRow L).view.loc (V d (cV L) (jV L)) ↦[(oRow L).view.set]{fullShare} f : sProp 𝕄) = oLoc d ↦[rowSet L]{fullShare} f :=
  congrArg (fun S => (oLoc d ↦[S]{fullShare} f : sProp 𝕄)) (set_oRow L)
theorem pts_fRow (q : PosShare TreeShare) (f : Buf (Elt F) (fLoc d)) :
    ((fRow L).view.loc (V d (cV L) (jV L)) ↦[(fRow L).view.set]{q} f : sProp 𝕄) = fLoc d ↦[faceSet L]{q} f :=
  congrArg (fun S => (fLoc d ↦[S]{q} f : sProp 𝕄)) (set_fRow L)
theorem pts0_view (f : Buf (Elt F) (loc0 d L)) :
    ((s0).view.loc (V d (cV L) (jV L)) ↦{fullShare} f : sProp 𝕄) = loc0 d L ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The three copies' semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

omit [FloatOps F] in
/-- The three scratch buffers are among the subcore's own. -/
theorem ownBufs_V :
    (ownBufs (V d (cV L) (jV L)) : sProp 𝕄)
      = iprop((∃ f, loc0 d L ↦{fullShare} f) ∗ (∃ f, loc1 d L ↦{fullShare} f) ∗ (∃ f, loc2 d L ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

variable (A : (d : Dev nD) → Buf (Elt F) (vLoc d)) (G : (d : Dev nD) → Buf (Elt F) (fLoc d)) (B : (d : Dev nD) → Buf (Elt F) (oLoc d))

/-- The zeroing loop's invariant. -/
def inv1 (k : ℕ) (_ : Unit) : sProp 𝕄 :=
  iprop(∃ f, ⌜∀ j : S2352.Idx, (j 0).val < 16 * k → f j = zf (F := F)⌝ ∗ loc2 d L ↦{fullShare} f)
/-- The face loop's invariant: the sums after `k` trips. -/
def inv2 (k : ℕ) (_ : Unit) : sProp 𝕄 :=
  iprop((loc0 d L ↦{fullShare} rowV (A d) L) ∗ (loc1 d L ↦{fullShare} rowF (G d) L) ∗ (loc2 d L ↦{fullShare} iter (rowV (A d) L) (rowF (G d) L) k))

theorem coordsOf_of_mem {L : grid0.Coords} {i : S16x2x2352.Idx} (h : i ∈ rowSet L) : coordsOf i = L := by
  simp only [rowSet, Finset.mem_filter, Finset.mem_univ, true_and] at h
  funext a
  match a with
  | 0 => exact Fin.ext h.2
  | 1 => exact Fin.ext h.1

/-- The row written back is the call's result on the row. -/
theorem out_row (b : Buf (Elt F) (oLoc d)) (w : S2352.Idx → F .f32) (hw : w = sums (rowV (A d) L) (rowF (G d) L)) :
    ∀ i ∈ rowSet L, (oRow L).view.writes (Elt F) b [⟨Rect.whole S2352, w⟩] i = result (A d) (G d) i := by
  intro i hi
  subst hw
  have hi' : i ∈ (oRow L).view.set := by rw [set_oRow]; exact hi
  obtain ⟨x, -, rfl⟩ := Finset.mem_map.mp hi'
  have h := View.read_writes_cons_emb (Val := Elt F) (oRow L).view b (Rect.whole S2352) (sums (rowV (A d) L) (rowF (G d) L)) [] x
  rw [Rect.emb_whole_apply] at h
  refine Eq.trans ?_ (h.trans ?_)
  · exact ((View.read_apply _ _).trans (cast_eq _ _)).symm
  unfold result
  rw [coordsOf_of_mem hi]
  congr 1
  funext a
  apply Fin.ext
  match a with
  | 0 =>
    show (x 0).val = ((rowRect L).emb (Shape.reshapeEquiv _ x) 2 : ℕ)
    rw [Shape.reshapeEquiv_eq_of_vals (s := S1x1x2352) (s' := S2352) _ x (fun a => match a with | 0 => (0 : Fin 1) | 1 => (0 : Fin 1) | 2 => x 0)
      (x 0).val (x 0).val (by rw [rowMajor_val3 _ 2352 2352 rfl rfl]; simp) (by rw [rowMajor_val1]) rfl, Rect.emb_apply]
    simp [off1_eq]

set_option maxHeartbeats 4000000 in
/-- The task on vector subcore `L 1` of SparseCore `L 0`. -/
theorem tile_body (hF : (K (F := F)).Facts) (hG : FacesOK G) (O : CellTallies nD τ sig (HIx 1)) (W : Waits sig (HIx 1)) (hO : ∀ g, O g none = 0) :
    iprop(levAts (K (F := F)).L (K (F := F)).lev ∗ emp ∗ goP A G B d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_normals_body L vV (Memref.isWhole_whole _) fV (Memref.isWhole_whole _) oV (Memref.isWhole_whole _)
            s0 (Memref.isWhole_whole _) s1 (Memref.isWhole_whole _) s2 (Memref.isWhole_whole _) cc0_scoped0 cc0_scoped1 cc0_scoped2)
          fun _ => iprop(tdP A G d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_normals_body_eq_skeleton]; unfold cc0__sc_normals_body_skel
  simp only [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hv, Hf, Ho⟩, ⟨⟨%g0, H0⟩, ⟨%g1, H1⟩, ⟨%g2, H2⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hv' := (Entails.of_eq (pts_vRow (F := F) d L _).symm) $$ Hv
  ihave Hf' := (Entails.of_eq (pts_fRow (F := F) d L _ _).symm) $$ Hf
  ihave Ho' := (Entails.of_eq (pts_oRow (F := F) d L _).symm) $$ Ho
  ihave H0' := (Entails.of_eq (pts0_view (F := F) d L _).symm) $$ H0
  ihave H1' := (Entails.of_eq (pts1_view (F := F) d L _ _).symm) $$ H1
  ihave H2' := (Entails.of_eq (pts2_view (F := F) d L _).symm) $$ H2
  sl_exec
  have e0 : View.write (Elt F) (s0).view g0 (tile_body.sl.dma0 d L A) Finset.univ = rowV (A d) L := by
    rw [View.write_whole_univ]; exact read_vRow L (A d)
  have e1 : View.write (Elt F) (s1).view g1 (tile_body.sl.dma0_1 d L G) Finset.univ = rowF (G d) L := by
    rw [View.write_whole_univ]; exact read_fRow L (G d)
  rw [e0, e1]
  sl_for (inv1 (F := F) d L) $$ [H2']
  case region =>
    intro k _
    unfold inv1
    iintro ⟨%f, %hf, H⟩
    iapply (zero_trip d L k f hf) $$ H
  · unfold inv1
    iexists g2; isplitr
    · ipureintro; intro j hj; omega
    · iexact H2'
  iintro %_ HI
  unfold inv1
  icases HI with ⟨%f2, %hf2, H2⟩
  have ef : f2 = iter (rowV (A d) L) (rowF (G d) L) 0 := by
    funext j
    refine hf2 j ?_
    rw [show Scf.trips k0_t1_loop.lb k0_t1_loop.ub k0_t1_loop.st = 147 from trips1]; exact (j 0).isLt
  subst ef
  sl_for (inv2 (F := F) d L A G) $$ [H0' H1' H2]
  case region =>
    intro k _
    unfold inv2
    have hk : k.val < 100 := lt_of_lt_of_eq k.isLt trips2
    rw [iter_succ _ _ hk]
    exact face_trip d L k _ _ _ (fun j => hG d _) hk
  · unfold inv2
    isplitl [H0']; · iexact H0'
    isplitl [H1']; · iexact H1'
    iexact H2
  iintro %_ HI
  unfold inv2
  icases HI with ⟨H0, H1, H2⟩
  rw [show Scf.trips k0_t2_loop.lb k0_t2_loop.ub k0_t2_loop.st = 100 from trips2]
  ihave H2' := (Entails.of_eq (pts2_view (F := F) d L _).symm) $$ H2
  sl_exec
  sl_step
  isplitl [Hv' Hf' Ho']
  · isplitl [Hv']; · iapply (Entails.of_eq (pts_vRow (F := F) d L _)); iexact Hv'
    isplitl [Hf']; · iapply (Entails.of_eq (pts_fRow (F := F) d L _ _)); iexact Hf'
    ihave Ho := (Entails.of_eq (pts_oRow (F := F) d L _)) $$ Ho'
    have e2 : tile_body.sl.dma0_2 d L A G = sums (rowV (A d) L) (rowF (G d) L) := by
      unfold tile_body.sl.dma0_2 sums
      exact View.read_whole (cc0_scratch2 : Ref sig .scVector) (iter (rowV (A d) L) (rowF (G d) L) 100)
    ihave Ho := (Entails.of_eq (pointsTo_congr (out_row d L A G (B d) (tile_body.sl.dma0_2 d L A G) e2))) $$ Ho
    iexact Ho
  isplitl [H0 H1 H2' Hbufs]
  · isplitl [H0]; · iexists _; iexact H0
    isplitl [H1]; · iexists _; iexact H1
    isplitl [H2']; · iexists _; iexact H2'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Normals

end
-- ==== Proof.Split.lean ====
/-
  The call's three arrays split among the thirty-two subcores, and join again. The vertices and the output go by rows
  `(s, c)`; the faces' row `s` goes to the two subcores `s`, half a share each.
-/
module

public import proofs.«01_k».proof.Proof.Setup

@[expose] public section

noncomputable section

namespace Cert.Proof.Normals

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The coordinates of SparseCore `c`'s subcore `i`. -/
abbrev cs (c : Fin 2) (i : Fin 16) : grid0.Coords := coordsV c i

theorem rows_disjoint : ∀ p ∈ (Finset.univ : Finset (Fin 2 × Fin 16)), ∀ p' ∈ (Finset.univ : Finset (Fin 2 × Fin 16)), p ≠ p' →
    Disjoint (rowSet (cs p.1 p.2)) (rowSet (cs p'.1 p'.2)) := by
  intro p _ p' _ h
  refine Finset.disjoint_left.mpr fun i hi hi' => h ?_
  simp only [rowSet, Finset.mem_filter] at hi hi'
  exact Prod.ext (Fin.ext (hi.2.2.symm.trans hi'.2.2)) (Fin.ext (hi.2.1.symm.trans hi'.2.1))

theorem rows_cover : (Finset.univ : Finset (Fin 2 × Fin 16)).biUnion (fun p => rowSet (cs p.1 p.2)) = Finset.univ := by
  ext i
  simp only [Finset.mem_biUnion, Finset.mem_univ, true_and, iff_true]
  exact ⟨(⟨(i 1).val, (i 1).isLt⟩, ⟨(i 0).val, (i 0).isLt⟩), Finset.mem_filter.mpr ⟨Finset.mem_univ _, rfl, rfl⟩⟩

theorem faces_disjoint (c : Fin 2) : ∀ i ∈ (Finset.univ : Finset (Fin 16)), ∀ i' ∈ (Finset.univ : Finset (Fin 16)), i ≠ i' →
    Disjoint (faceSet (cs c i)) (faceSet (cs c i')) := by
  intro i _ i' _ h
  refine Finset.disjoint_left.mpr fun j hj hj' => h ?_
  simp only [faceSet, Finset.mem_filter] at hj hj'
  exact Fin.ext (hj.2.symm.trans hj'.2)

theorem faces_cover (c : Fin 2) : (Finset.univ : Finset (Fin 16)).biUnion (fun i => faceSet (cs c i)) = Finset.univ := by
  ext j
  simp only [Finset.mem_biUnion, Finset.mem_univ, true_and, iff_true]
  exact ⟨⟨(j 0).val, (j 0).isLt⟩, Finset.mem_filter.mpr ⟨Finset.mem_univ _, rfl⟩⟩

theorem vPts_rows (d : Dev nD) (f : Buf (Elt F) (vLoc d)) :
    (vLoc d ↦{fullShare} f : sProp 𝕄) = bigSep Finset.univ fun c : Fin 2 => bigSep Finset.univ fun i : Fin 16 => vLoc d ↦[rowSet (cs c i)]{fullShare} f := by
  rw [← bigSep_univ_prod (fun p : Fin 2 × Fin 16 => (vLoc d ↦[rowSet (cs p.1 p.2)]{fullShare} f : sProp 𝕄)),
    ← pointsTo_biUnion Finset.univ (ℓ := vLoc d) (fun p : Fin 2 × Fin 16 => rowSet (cs p.1 p.2)) rows_disjoint, rows_cover]

theorem oPts_rows (d : Dev nD) (f : Buf (Elt F) (oLoc d)) :
    (oLoc d ↦{fullShare} f : sProp 𝕄) = bigSep Finset.univ fun c : Fin 2 => bigSep Finset.univ fun i : Fin 16 => oLoc d ↦[rowSet (cs c i)]{fullShare} f := by
  rw [← bigSep_univ_prod (fun p : Fin 2 × Fin 16 => (oLoc d ↦[rowSet (cs p.1 p.2)]{fullShare} f : sProp 𝕄)),
    ← pointsTo_biUnion Finset.univ (ℓ := oLoc d) (fun p : Fin 2 × Fin 16 => rowSet (cs p.1 p.2)) rows_disjoint, rows_cover]

theorem fPts_half (d : Dev nD) (q : PosShare TreeShare) (c : Fin 2) (f : Buf (Elt F) (fLoc d)) :
    (fLoc d ↦{q} f : sProp 𝕄) = bigSep Finset.univ fun i : Fin 16 => fLoc d ↦[faceSet (cs c i)]{q} f := by
  rw [← pointsTo_biUnion Finset.univ (ℓ := fLoc d) (fun i : Fin 16 => faceSet (cs c i)) (faces_disjoint c), faces_cover]

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem fPts_rows (d : Dev nD) (f : Buf (Elt F) (fLoc d)) :
    (fLoc d ↦{fullShare} f : sProp 𝕄)
      = bigSep Finset.univ fun c : Fin 2 => bigSep Finset.univ fun i : Fin 16 => fLoc d ↦[faceSet (cs c i)]{half c.val} f := by
  rw [bigSep_two]
  show _ = iprop((bigSep Finset.univ fun i : Fin 16 => fLoc d ↦[faceSet (cs 0 i)]{fullShare.left} f)
    ∗ (bigSep Finset.univ fun i : Fin 16 => fLoc d ↦[faceSet (cs 1 i)]{fullShare.right} f))
  rw [← fPts_half d fullShare.left 0 f, ← fPts_half d fullShare.right 1 f]
  exact BI.Entails.antisymm (pointsTo_share (PosShare.mem_left_op_right _)).1 (pointsTo_share (PosShare.mem_left_op_right _)).2

variable [FloatOps F]
variable (A : (d : Dev nD) → Buf (Elt F) (vLoc d)) (G : (d : Dev nD) → Buf (Elt F) (fLoc d)) (B : (d : Dev nD) → Buf (Elt F) (oLoc d))

/-- What the call takes for the two SparseCores: its three arrays. -/
theorem st0_eq (d : Dev nD) : (bigSep Finset.univ fun c : Fin ((K (F := F)).nCore 0) => (P A G B).st 0 d c)
    = iprop((vLoc d ↦{fullShare} A d) ∗ (fLoc d ↦{fullShare} G d) ∗ oLoc d ↦{fullShare} B d) := by
  show (bigSep Finset.univ fun c : Fin 2 => bigSep Finset.univ fun i : Fin 16 => goP A G B d (cs c i)) = _
  rw [vPts_rows, fPts_rows, oPts_rows, ← bigSep_sep', ← bigSep_sep']
  refine bigSep_congr fun c _ => ?_
  rw [← bigSep_sep', ← bigSep_sep']
  rfl

/-- What it hands back: the same, the output at the result. -/
theorem dn0_eq (d : Dev nD) : (bigSep Finset.univ fun c : Fin ((K (F := F)).nCore 0) => (P A G B).dn 0 d c)
    = iprop((vLoc d ↦{fullShare} A d) ∗ (fLoc d ↦{fullShare} G d) ∗ oLoc d ↦{fullShare} result (A d) (G d)) := by
  show (bigSep Finset.univ fun c : Fin 2 => bigSep Finset.univ fun i : Fin 16 => tdP A G d (cs c i)) = _
  rw [vPts_rows, fPts_rows, oPts_rows d (result (A d) (G d)), ← bigSep_sep', ← bigSep_sep']
  refine bigSep_congr fun c _ => ?_
  rw [← bigSep_sep', ← bigSep_sep']
  rfl

end Cert.Proof.Normals

end
-- ==== Proof.Launch.lean ====
/-
  The launch: @main's host operations before and after the call, the call between them, and the run of the whole
  program. `run_main` says what every run ends with: the arguments unchanged, the result at its value as a function of
  the launch memory, every semaphore's counter back at zero.
-/
module

public import proofs.«01_k».proof.Proof.Tile
public import proofs.«01_k».proof.Proof.Split
public import Idealize.ShloMosaic.Lib.Pipeline.Frame

@[expose] public section

noncomputable section

namespace Cert.Proof.Normals

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held wp_seq seq after held_sub_split held_congr)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "vV" => (Memref.whole Cert.KernelIdeal.main_v4_scv : Memref Cert.KernelIdeal.sig Kind.scVector Space.hbm Cert.KernelIdeal.S16x2x2352 EltTy.f32)
local notation "fV" => (Memref.whole Cert.KernelIdeal.main_v7_scv : Memref Cert.KernelIdeal.sig Kind.scVector Space.hbm Cert.KernelIdeal.S16x4800 EltTy.i32)
local notation "oV" => (Memref.whole Cert.KernelIdeal.main_v8_scv : Memref Cert.KernelIdeal.sig Kind.scVector Space.hbm Cert.KernelIdeal.S16x2x2352 EltTy.f32)
local notation "s0" => (Memref.whole Cert.KernelIdeal.cc0_scratch0 : Memref Cert.KernelIdeal.sig Kind.scVector Space.vmem Cert.KernelIdeal.S2352 EltTy.f32)
local notation "s1" => (Memref.whole Cert.KernelIdeal.cc0_scratch1 : Memref Cert.KernelIdeal.sig Kind.scVector Space.vmem Cert.KernelIdeal.S4800 EltTy.i32)
local notation "s2" => (Memref.whole Cert.KernelIdeal.cc0_scratch2 : Memref Cert.KernelIdeal.sig Kind.scVector Space.vmem Cert.KernelIdeal.S2352 EltTy.f32)

variable [FloatOps F]

/-! ## The tiles' obligation -/

theorem defs₀_vector (c : Fin τ.nSC) (s : Fin τ.nSub) :
    defs₀ (F := F) (.scVector c s) 0 ()
      = SparseCore.onTile hcore0 hsub0 (fun c s => cc0__sc_normals_body (coordsV c s) vV (Memref.isWhole_whole _) fV (Memref.isWhole_whole _) oV (Memref.isWhole_whole _)
          s0 (Memref.isWhole_whole _) s1 (Memref.isWhole_whole _) s2 (Memref.isWhole_whole _) cc0_scoped0 cc0_scoped1 cc0_scoped2) ⟨⟩ c s := rfl

theorem obl_post {thr : Thread nD τ} {X Y Z : sProp (MT nD τ sig (HIx 1) (Elt F) ℕ UU ℕ)} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ (iprop(X ∗ Y ∗ Z ∗ ∃ W', ⌜∀ p ∈ W', p ∈ W ∨ p.2 = none ∨ p.2 = some q⌝ ∗ owes thr O W') : sProp (MT nD τ sig (HIx 1) (Elt F) ℕ UU ℕ)) := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

variable (A : (d : Dev nD) → Buf (Elt F) (vLoc d)) (G : (d : Dev nD) → Buf (Elt F) (fLoc d)) (B : (d : Dev nD) → Buf (Elt F) (oLoc d))

set_option maxRecDepth 16384 in
theorem tileObl (hF : (K (F := F)).Facts) (hG : FacesOK G) : (K (F := F)).TileObl (D (F := F)) 𝒱 (P A G B) v₀ 0 := by
  intro d c i O W hO _ _
  simp only [show (P A G B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ()))  _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) A G B hF hG O W hO).trans (wp_mono frame _ _ fun _ => obl_post)

/-- What a SparseCore is handed is its tasks' operands already. -/
theorem vecSplit : (K (F := F)).VecSplit' (P A G B) 0 := by
  intro d c
  show (bigSep Finset.univ fun i : Fin ((K (F := F)).nSub 0) => goP A G B d (co c i)) ⊢ |={Set.univ}=> iprop(
      (bigSep Finset.univ fun i : Fin ((K (F := F)).nSub 0) => goP A G B d (co c i))
      ∗ ((bigSep Finset.univ fun i : Fin ((K (F := F)).nSub 0) => tdP A G d (co c i))
          -∗ bigSep Finset.univ fun i : Fin ((K (F := F)).nSub 0) => tdP A G d (co c i)))
  iintro H; imodintro
  isplitl [H]; · iexact H
  iintro H; iexact H

/-! ## The launch's ghost element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A G B).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A G B).x q thr) = bigSep Finset.univ fun _ => iprop(emp) from
    bigSep_congr fun _ _ => bigSep_univ_of_subsingleton (0 : Fin 1), bigSep_emp']
  iempintro

/-! ## @main's host operations -/

/-- The operations before the call. -/
def opsPre : List (HloOp τ sig (Elt F)) :=
  [StableHlo.unary main_arg0 main_v0 (broadcastInDim S16x1x778x3 ![0, 2, 3] bcast_S16x778x3_S16x1x778x3_0_2_3 : (⟨S16x778x3, .f32⟩ : BufTy).Contents (Elt F) → (⟨S16x1x778x3, .f32⟩ : BufTy).Contents (Elt F)),
   StableHlo.unary main_arg1 main_v1 (broadcastInDim S16x1x778x3 ![0, 2, 3] bcast_S16x778x3_S16x1x778x3_0_2_3 : (⟨S16x778x3, .f32⟩ : BufTy).Contents (Elt F) → (⟨S16x1x778x3, .f32⟩ : BufTy).Contents (Elt F)),
   StableHlo.binary main_v0 main_v1 main_v2 ((fun a b => concatenate S16x2x778x3 1 [⟨S16x1x778x3, a⟩, ⟨S16x1x778x3, b⟩] concatenates_S16x1x778x3_S16x1x778x3_S16x2x778x3_d1) : (⟨S16x1x778x3, .f32⟩ : BufTy).Contents (Elt F) → (⟨S16x1x778x3, .f32⟩ : BufTy).Contents (Elt F) → (⟨S16x2x778x3, .f32⟩ : BufTy).Contents (Elt F)),
   StableHlo.nullary main_c (constantI S_ 32 0#32),
   StableHlo.TRef.unary (.of main_c : StableHlo.TRef sig ⟨S_, .i32⟩) main_call0.v0 (sitofp .f32),
   StableHlo.TRef.binary (.of main_v2 : StableHlo.TRef sig ⟨S16x2x778x3, .f32⟩) main_call0.v0 main_call0.v1 (fun x v => pad S16x2x784x3 ![0, 0, 0, 0] ![0, 0, 6, 0] ![0, 0, 0, 0] x v pads_S16x2x778x3_S16x2x784x3_000_000_060_000 h_S_),
   StableHlo.reshape main_v3 main_v4 (rfl : (.f32 : EltTy) = .f32) shapeCasts_S16x2x784x3_S16x2x2352,
   StableHlo.nullary main_c_0 (constantI S_ 32 778#32),
   StableHlo.TRef.unary (.of main_c_0 : StableHlo.TRef sig ⟨S_, .i32⟩) main_call1.v0 id,
   StableHlo.TRef.binary (.of main_arg2 : StableHlo.TRef sig ⟨S16x1538x3, .i32⟩) main_call1.v0 main_call1.v1 (fun x v => pad S16x1600x3 ![0, 0, 0] ![0, 62, 0] ![0, 0, 0] x v pads_S16x1538x3_S16x1600x3_000_0620_000 h_S_),
   StableHlo.unary main_v5 main_v6 ((transpose S16x3x1600 [0, 2, 1] · transposes_S16x1600x3_S16x3x1600_0_2_1) : (⟨S16x1600x3, .i32⟩ : BufTy).Contents (Elt F) → (⟨S16x3x1600, .i32⟩ : BufTy).Contents (Elt F)),
   StableHlo.reshape main_v6 main_v7 (rfl : (.i32 : EltTy) = .i32) shapeCasts_S16x3x1600_S16x4800]

/-- The operations after it. -/
def opsPost : List (HloOp τ sig (Elt F)) :=
  [StableHlo.reshape main_v8 main_v9 (rfl : (.f32 : EltTy) = .f32) shapeCasts_S16x2x2352_S16x2x784x3,
   StableHlo.unary main_v9 main_v10 ((extractStridedSlice S16x2x778x3 ![0, 0, 0, 0] · slices_S16x2x784x3_S16x2x778x3_0_0_0_0) : (⟨S16x2x784x3, .f32⟩ : BufTy).Contents (Elt F) → (⟨S16x2x778x3, .f32⟩ : BufTy).Contents (Elt F))]

theorem main_eq (d : Dev nD) : main (F := F) d = seq opsPre >>= fun _ => (sc (F := F)).run d 0 >>= fun _ => seq opsPost := rfl

theorem pre_bufs : ∀ op ∈ opsPre (F := F), op.bufs ⊆ ucRefs τ sig := fun op hop => sub_ucRefs op
  (List.forall_iff_forall_mem.mp (show (opsPre (F := F)).Forall fun op => op.bufs ⊆ StableHlo.tcRefs τ sig from
    ⟨StableHlo.unary_bufs_sub .., StableHlo.unary_bufs_sub .., StableHlo.binary_bufs_sub .., StableHlo.nullary_bufs_sub .., StableHlo.unary_bufs_sub ..,
      StableHlo.binary_bufs_sub .., StableHlo.reshape_bufs_sub .., StableHlo.nullary_bufs_sub .., StableHlo.unary_bufs_sub .., StableHlo.binary_bufs_sub ..,
      StableHlo.unary_bufs_sub .., StableHlo.reshape_bufs_sub ..⟩) op hop)
theorem pre_fresh : ∀ op ∈ opsPre (F := F), op.fresh = ∅ := fun op hop =>
  List.forall_iff_forall_mem.mp (show (opsPre (F := F)).Forall fun op => op.fresh = ∅ from
    ⟨rfl, rfl, rfl, rfl, rfl, rfl, rfl, rfl, rfl, rfl, rfl, rfl⟩) op hop
theorem post_bufs : ∀ op ∈ opsPost (F := F), op.bufs ⊆ ucRefs τ sig := fun op hop => sub_ucRefs op
  (List.forall_iff_forall_mem.mp (show (opsPost (F := F)).Forall fun op => op.bufs ⊆ StableHlo.tcRefs τ sig from ⟨StableHlo.reshape_bufs_sub .., StableHlo.unary_bufs_sub ..⟩) op hop)
theorem post_fresh : ∀ op ∈ opsPost (F := F), op.fresh = ∅ := fun op hop =>
  List.forall_iff_forall_mem.mp (show (opsPost (F := F)).Forall fun op => op.fresh = ∅ from ⟨rfl, rfl⟩) op hop

/-! ## @main on the TensorCore -/

section Main

variable (m : (ℓ : Loc nD τ sig) → Buf (Elt F) ℓ) (ρ : Dev nD → PrngReg)

abbrev v4' : DevRef τ sig := Proc.devRef .tc main_v4
abbrev v7' : DevRef τ sig := Proc.devRef .tc main_v7
abbrev v8' : DevRef τ sig := Proc.devRef .tc main_v8

/-- The buffers before the call, after it, and at the end. -/
def V0 (d : Dev nD) : Valuation τ sig (Elt F) := fun b => m (d, b)
def VA (d : Dev nD) : Valuation τ sig (Elt F) := after opsPre (V0 m d)
def Am (d : Dev nD) : Buf (Elt F) (vLoc d) := VA m d v4'
def Gm (d : Dev nD) : Buf (Elt F) (fLoc d) := VA m d v7'
def Bm (d : Dev nD) : Buf (Elt F) (oLoc d) := VA m d v8'
def VB (d : Dev nD) : Valuation τ sig (Elt F) := Function.update (VA m d) v8' (result (Am m d) (Gm m d))
def VC (d : Dev nD) : Valuation τ sig (Elt F) := after opsPost (VB m d)

/-- The call's three arrays among the buffers. -/
abbrev S3 : Finset (DevRef τ sig) := {v4', v7', v8'}

theorem S3_sub : S3 ⊆ ucRefs τ sig := by decide

theorem held_S3 (d : Dev nD) (W : Valuation τ sig (Elt F)) :
    (held (SparseCore.T d) S3 W : sProp 𝕄) = iprop((vLoc d ↦{fullShare} W v4') ∗ (fLoc d ↦{fullShare} W v7') ∗ oLoc d ↦{fullShare} W v8') := by
  unfold held S3
  rw [SparseCore.bigSep_insert' (by decide), SparseCore.bigSep_insert' (by decide), bigSep_singleton]

theorem held_st (d : Dev nD) : (held (SparseCore.T d) S3 (after opsPre (V0 m d)) : sProp 𝕄)
    = bigSep Finset.univ fun c : Fin ((K (F := F)).nCore 0) => (P (Am m) (Gm m) (Bm m)).st 0 d c := by
  rw [st0_eq, held_S3]; rfl

theorem VB_of_ne (d : Dev nD) (b : DevRef τ sig) (h : b ≠ v8') : VB m d b = VA m d b := Function.update_of_ne h _ _
theorem VB_self (d : Dev nD) : VB m d v8' = result (Am m d) (Gm m d) := Function.update_self _ _ _

theorem held_VB (d : Dev nD) : (held (SparseCore.T d) (ucRefs τ sig) (VB m d) : sProp 𝕄)
    = iprop(((vLoc d ↦{fullShare} Am m d) ∗ (fLoc d ↦{fullShare} Gm m d) ∗ oLoc d ↦{fullShare} result (Am m d) (Gm m d))
        ∗ held (SparseCore.T d) (ucRefs τ sig \ S3) (VA m d)) := by
  rw [held_sub_split _ S3_sub, held_S3, VB_of_ne m d v4' (by decide), VB_of_ne m d v7' (by decide), VB_self,
    held_congr _ (S := ucRefs τ sig \ S3) (V := VB m d) (V' := VA m d) fun b hb => VB_of_ne m d b fun e => (Finset.mem_sdiff.mp hb).2 (e ▸ by decide)]
  rfl

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2
abbrev rLoc (d : Dev nD) : Loc nD τ sig := (SparseCore.T d).loc main_v10

/-- The program's result as a function of its arguments' launch contents. -/
def out (d : Dev nD) : Buf (Elt F) (rLoc d) := VC m d (Proc.devRef .tc main_v10)

abbrev S4 : Finset (DevRef τ sig) := {Proc.devRef .tc main_arg0, Proc.devRef .tc main_arg1, Proc.devRef .tc main_arg2, Proc.devRef .tc main_v10}

theorem S4_sub : S4 ⊆ ucRefs τ sig := by decide

/-- What @main leaves the claim: the arguments as launched, the result. -/
abbrev FIN (d : Dev nD) : sProp 𝕄 :=
  iprop((aLoc0 d ↦{fullShare} m (aLoc0 d)) ∗ (aLoc1 d ↦{fullShare} m (aLoc1 d)) ∗ (aLoc2 d ↦{fullShare} m (aLoc2 d)) ∗ rLoc d ↦{fullShare} out m d)

theorem VC_arg0 (d : Dev nD) : VC m d (Proc.devRef .tc main_arg0) = m (aLoc0 d) := by
  unfold VC opsPost; after_results
  rw [VB_of_ne m d _ (by decide)]
  unfold VA opsPre; after_results
  rfl
theorem VC_arg1 (d : Dev nD) : VC m d (Proc.devRef .tc main_arg1) = m (aLoc1 d) := by
  unfold VC opsPost; after_results
  rw [VB_of_ne m d _ (by decide)]
  unfold VA opsPre; after_results
  rfl
theorem VC_arg2 (d : Dev nD) : VC m d (Proc.devRef .tc main_arg2) = m (aLoc2 d) := by
  unfold VC opsPost; after_results
  rw [VB_of_ne m d _ (by decide)]
  unfold VA opsPre; after_results
  rfl

theorem held_VC (d : Dev nD) : (held (SparseCore.T d) (ucRefs τ sig) (VC m d) : sProp 𝕄) ⊢ FIN m d := by
  rw [held_sub_split _ S4_sub]
  unfold held S4
  rw [SparseCore.bigSep_insert' (by decide), SparseCore.bigSep_insert' (by decide), SparseCore.bigSep_insert' (by decide), bigSep_singleton,
    VC_arg0, VC_arg1, VC_arg2]
  iintro ⟨H, -⟩
  iexact H

theorem hmain (κ : GSem nD τ sig → ℕ) (d : Dev nD) :
    iprop((K (F := F)).ctx EH (P (Am m) (Gm m) (Bm m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    unscopedBufs_held d (V0 m d), main_eq]
  iintro ⟨#Hctx, Hst, ⟨Hb, Hheld, Hts, -⟩, -⟩
  iapply (wp_seq 𝒱 none Set.univ d (ucRefs τ sig) (fun _ => (sc (F := F)).run d 0 >>= fun _ => seq opsPost) opsPre pre_bufs pre_fresh (V0 m d)) $$ [Hb Hheld]
  · isplitl [Hb]; · iexact Hb
    iexact Hheld
  iintro ⟨Hb, Hheld⟩
  rw [wp_bind]
  ihave Hh := (Entails.of_eq (held_sub_split (SparseCore.T d) S3_sub (after opsPre (V0 m d)))) $$ Hheld
  icases Hh with ⟨H3, Hrest⟩
  iapply ((K (F := F)).wp_run (D (F := F)) 𝒱 (EH := EH) (P := P (Am m) (Gm m) (Bm m)) κ d 0) $$ [Hst H3 Hrest Hb Hts]
  isplitr; · iexact Hctx
  isplitl [Hst]; · iexact Hst
  isplitl [H3]
  · iapply (Entails.of_eq (held_st m d)); iexact H3
  iintro ⟨Hst, Hdn⟩
  ihave Hdn' := (Entails.of_eq (dn0_eq (Am m) (Gm m) (Bm m) d)) $$ Hdn
  ihave Hheld := (Entails.of_eq (held_VB m d).symm) $$ [Hdn' Hrest]
  · isplitl [Hdn']; · iexact Hdn'
    iexact Hrest
  rw [show (seq (opsPost (F := F)) : Prog (TpuEff nD τ sig (Elt F) (SparseCore.Sig (ΛP (F := F)) 1) .tc) PUnit) = seq opsPost >>= pure from (bind_pure _).symm]
  iapply (wp_seq 𝒱 none Set.univ d (ucRefs τ sig) pure opsPost post_bufs post_fresh (VB m d)) $$ [Hb Hheld]
  · isplitl [Hb]; · iexact Hb
    iexact Hheld
  iintro ⟨Hb, Hheld⟩
  ihave Hfin := (show (held (d.tc : Thread nD τ) (ucRefs τ sig) (after opsPost (VB m d)) : sProp 𝕄) ⊢ FIN m d from held_VC m d) $$ Hheld
  rw [wp_pure]; imodintro
  isplitl [Hst]; · iexact Hst
  isplitl [Hfin]; · iexact Hfin
  isplitl [Hb] <;> iassumption

def fq (d : Dev nD) (s' : Phys nD τ sig (Elt F)) : Prop :=
  s'.mem.mem (aLoc0 d) = m (aLoc0 d) ∧ s'.mem.mem (aLoc1 d) = m (aLoc1 d) ∧ s'.mem.mem (aLoc2 d) = m (aLoc2 d) ∧ s'.mem.mem (rLoc d) = out m d

theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (read_whole s' (aLoc0 d) (m (aLoc0 d))) $$ [HSI H0]
  · isplitl [HSI] <;> iassumption
  icases H with ⟨%h0, HSI⟩
  ihave H := (read_whole s' (aLoc1 d) (m (aLoc1 d))) $$ [HSI H1]
  · isplitl [HSI] <;> iassumption
  icases H with ⟨%h1, HSI⟩
  ihave H := (read_whole s' (aLoc2 d) (m (aLoc2 d))) $$ [HSI H2]
  · isplitl [HSI] <;> iassumption
  icases H with ⟨%h2, HSI⟩
  ihave H := (read_whole s' (rLoc d) (out m d)) $$ [HSI H3]
  · isplitl [HSI] <;> iassumption
  icases H with ⟨%h3, -⟩
  ipureintro; exact ⟨h0, h1, h2, h3⟩

/-! ## The program's run -/

def QC : PUnit × MemSt nD τ sig (Elt F) → Prop := fun r =>
  (∀ c : Dev nD, r.2.mem (aLoc0 c) = m (aLoc0 c) ∧ r.2.mem (aLoc1 c) = m (aLoc1 c) ∧ r.2.mem (aLoc2 c) = m (aLoc2 c) ∧ r.2.mem (rLoc c) = out m c)
    ∧ r.2.sem = fun _ => 0

theorem run_main [∀ e, Nonempty (Elt F e)] (hG : FacesOK (Gm m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Am m) (Gm m) (Bm m)) (A := ∅) facts v₀
    (fun q hq => match q with | 0 => nomatch hq)
    (fun q _ => match q with | 0 => tileObl (Am m) (Gm m) (Bm m) facts hG)
    (fun q _ => match q with | 0 => SparseCore.Cfg.VecSplit.of_plain (vecSplit (Am m) (Gm m) (Bm m)))
    m ρ main (fun _ => iprop(emp)) (FIN m) (u₀ (F := F)) (sep_elim_left.trans (hu₀ (Am m) (Gm m) (Bm m))) (hmain m ρ) (fq m) (hfin m) (QC m) (fun _ h hz => ⟨h, hz⟩)

end Main

end Cert.Proof.Normals

end
-- ==== Proof.Args.lean ====
/-
  The call's operands, element by element, as functions of @main's arguments, and the result as a function of the call's.
-/
module

public import proofs.«01_k».proof.Proof.Launch
public import Idealize.ShloMosaic.Lib.KernelVsHost

@[expose] public section

noncomputable section

namespace Cert.Proof.Normals

open Cert.KernelIdeal Cert.KernelIdeal.Gen

open Idealize.ShloMosaic
open Idealize.ShloMosaic.StableHlo (after)
open Idealize.ShloMosaic.Tactic

/-- The index with the coordinates given. -/
def at2 {n₀ n₁ : ℕ} (a : Fin n₀) (b : Fin n₁) : (⟨2, ![n₀, n₁]⟩ : Shape).Idx := fun | 0 => a | 1 => b
def at3 {n₀ n₁ n₂ : ℕ} (a : Fin n₀) (b : Fin n₁) (c : Fin n₂) : (⟨3, ![n₀, n₁, n₂]⟩ : Shape).Idx := fun | 0 => a | 1 => b | 2 => c
def at4 {n₀ n₁ n₂ n₃ : ℕ} (a : Fin n₀) (b : Fin n₁) (c : Fin n₂) (d : Fin n₃) : (⟨4, ![n₀, n₁, n₂, n₃]⟩ : Shape).Idx :=
  fun | 0 => a | 1 => b | 2 => c | 3 => d

/-- Corner `k` of face `f` of row `b`; 778, the number of no vertex, past the last face. -/
def corner (I : IVec S16x1538x3 32) (b : Fin 16) (k : Fin 3) (f : ℕ) : BitVec 32 :=
  if h : f < 1538 then I (at3 b ⟨f, h⟩ k) else 778#32

variable {F : FTy → Type} [FloatOps F]
variable (m : (ℓ : Loc nD τ sig) → Buf (Elt F) ℓ)

theorem Gm_eq (d : Dev nD) : Gm m d = shapeCast S16x4800 (transpose S16x3x1600 [0, 2, 1]
    (pad S16x1600x3 ![0, 0, 0] ![0, 62, 0] ![0, 0, 0] (m (aLoc2 d) : IVec S16x1538x3 32) (constantI S_ 32 778#32) pads_S16x1538x3_S16x1600x3_000_0620_000 h_S_)
    transposes_S16x1600x3_S16x3x1600_0_2_1) shapeCasts_S16x3x1600_S16x4800 := by
  unfold Gm VA opsPre; after_results
  rfl

theorem Am_eq (d : Dev nD) : Am m d = shapeCast S16x2x2352 (pad S16x2x784x3 ![0, 0, 0, 0] ![0, 0, 6, 0] ![0, 0, 0, 0]
    (concatenate S16x2x778x3 1 [⟨S16x1x778x3, broadcastInDim S16x1x778x3 ![0, 2, 3] bcast_S16x778x3_S16x1x778x3_0_2_3 (m (aLoc0 d) : Vec F S16x778x3 .f32)⟩,
      ⟨S16x1x778x3, broadcastInDim S16x1x778x3 ![0, 2, 3] bcast_S16x778x3_S16x1x778x3_0_2_3 (m (aLoc1 d) : Vec F S16x778x3 .f32)⟩] concatenates_S16x1x778x3_S16x1x778x3_S16x2x778x3_d1)
    (sitofp .f32 (constantI S_ 32 0#32)) pads_S16x2x778x3_S16x2x784x3_000_000_060_000 h_S_) shapeCasts_S16x2x784x3_S16x2x2352 := by
  unfold Am VA opsPre; after_results
  rfl

theorem out_eq (d : Dev nD) : out m d = extractStridedSlice S16x2x778x3 ![0, 0, 0, 0]
    (shapeCast S16x2x784x3 (result (Am m d) (Gm m d)) shapeCasts_S16x2x2352_S16x2x784x3) slices_S16x2x784x3_S16x2x778x3_0_0_0_0 := by
  unfold out VC opsPost; after_results
  rw [show VB m d (Proc.devRef .tc main_v8) = result (Am m d) (Gm m d) from VB_self m d]
  rfl

theorem padFaces_apply (I : IVec S16x1538x3 32) (b : Fin 16) (k : Fin 3) (f : ℕ) (hf : f < 1600) :
    pad S16x1600x3 ![0, 0, 0] ![0, 62, 0] ![0, 0, 0] I (constantI S_ 32 778#32) pads_S16x1538x3_S16x1600x3_000_0620_000 h_S_ (at3 b (⟨f, hf⟩ : Fin 1600) k)
      = corner I b k f := by
  unfold corner
  split
  · next h =>
    rw [pad_apply_of_inside _ _ _ _ _ _ _ _ (at3 b ⟨f, h⟩ k)]
    intro a; match a with
    | 0 => simp [at3]
    | 1 => simp [at3]
    | 2 => simp [at3]
  · next h =>
    rw [pad_apply_of_not_inside _ _ _ _ _ _ _ _ (1 : Fin 3)]
    · rfl
    · simp [at3]; omega

theorem Gm_apply (d : Dev nD) (b : Fin 16) (k : Fin 3) (f : ℕ) (hf : f < 1600) (p : Fin 4800) (hp : p.val = 1600 * k.val + f) :
    Gm m d (at2 b p) = corner (m (aLoc2 d)) b k f := by
  rw [Gm_eq, shapeCast_apply _ _ _ (at3 b k ⟨f, hf⟩), transpose_apply _ _ _ _ (at3 b ⟨f, hf⟩ k)]
  · exact padFaces_apply _ b k f hf
  · intro a; match a with
    | 0 => rfl
    | 1 => rfl
    | 2 => rfl
  · rw [Shape.rowMajor_val_three, Shape.rowMajor_val_two]
    simp [at2, at3]; omega

/-- The coordinates' argument of mesh `k`. -/
def mesh (d : Dev nD) (k : Fin 2) : Vec F S16x778x3 .f32 := if k = 0 then m (aLoc0 d) else m (aLoc1 d)

theorem Am_apply (d : Dev nD) (b : Fin 16) (k : Fin 2) (v : Fin 778) (c : Fin 3) (p : Fin 2352) (hp : p.val = 3 * v.val + c.val) :
    Am m d (at3 b k p) = mesh m d k (at3 b v c) := by
  rw [Am_eq, shapeCast_apply _ _ _ (at4 b k (⟨v.val, by omega⟩ : Fin 784) c), pad_apply_of_inside _ _ _ _ _ _ _ _ (at4 b k v c)]
  · unfold mesh
    split
    · next h =>
      subst h
      refine (concatenate_pair_apply_left (t := S16x2x778x3) (s₁ := S16x1x778x3) (s₂ := S16x1x778x3) 1 _ _ _ _ rfl (at4 b (0 : Fin 1) v c) ?_).trans
        (broadcastInDim_apply _ _ _ _ (at3 b v c) ?_)
      rotate_left
      · intro a; match a with
        | 0 => simp [at3, at4]
        | 1 => simp [at3, at4]
        | 2 => simp [at3, at4]
      · intro a; match a with
        | 0 => rfl
        | 1 => rfl
        | 2 => rfl
        | 3 => rfl
    · next h =>
      have hk : k = 1 := by omega
      subst hk
      refine (concatenate_pair_apply_right (t := S16x2x778x3) (s₁ := S16x1x778x3) (s₂ := S16x1x778x3) 1 _ _ _ _ rfl rfl (at4 b (0 : Fin 1) v c) ?_ ?_).trans
        (broadcastInDim_apply _ _ _ _ (at3 b v c) ?_)
      rotate_left 2
      · intro a; match a with
        | 0 => simp [at3, at4]
        | 1 => simp [at3, at4]
        | 2 => simp [at3, at4]
      · intro a ha; match a with
        | 0 => rfl
        | 1 => exact absurd rfl ha
        | 2 => rfl
        | 3 => rfl
      · rfl
  · intro a; match a with
    | 0 => simp [at4]
    | 1 => simp [at4]
    | 2 => simp [at4]
    | 3 => simp [at4]
  · rw [Shape.rowMajor_val_three, Shape.rowMajor_val_four]
    simp [at3, at4]; omega

theorem out_apply (d : Dev nD) (b : Fin 16) (k : Fin 2) (v : Fin 778) (c : Fin 3) (p : Fin 2352) (hp : p.val = 3 * v.val + c.val) :
    out m d (at4 b k v c) = result (Am m d) (Gm m d) (at3 b k p) := by
  rw [out_eq, extractStridedSlice_apply _ _ _ _ (at4 b k (⟨v.val, by omega⟩ : Fin 784) c), shapeCast_apply _ _ _ (at3 b k p)]
  · rw [Shape.rowMajor_val_three, Shape.rowMajor_val_four]
    simp [at3, at4]; omega
  · intro a; match a with
    | 0 => simp [at4]
    | 1 => simp [at4]
    | 2 => simp [at4]
    | 3 => simp [at4]

/-- Every corner a vertex: what the precondition says. -/
def InRange (I : IVec S16x1538x3 32) : Prop := ∀ j, (I j).toNat < 778

theorem facesOK (h : ∀ d, InRange (m (aLoc2 d))) : FacesOK (Gm m) := by
  intro d j
  obtain ⟨b, p, rfl⟩ : ∃ (b : Fin 16) (p : Fin 4800), j = at2 b p := ⟨j 0, j 1, by
    funext a; match a with
    | 0 => rfl
    | 1 => rfl⟩
  rw [Gm_apply m d b ⟨p.val / 1600, by omega⟩ (p.val % 1600) (Nat.mod_lt _ (by omega)) p (by simp; omega)]
  unfold corner
  split
  · exact Nat.lt_succ_of_lt (h d _)
  · decide

end Cert.Proof.Normals

end
-- ==== Proof.Frames.lean ====
/-
  The frames: under the precondition the kernel's run, of its own text and of its idealization's (the same text), ends
  with the arguments unchanged and every counter at zero; so does the reference's, under none.
-/
module

public import proofs.«01_k».proof.Defs
public import proofs.«01_k».proof.Proof.Args
public import proofs.«01_k».proof.Proof.Gen.Kernel
public import proofs.«01_k».proof.Proof.Gen.Pre_face_range
public import proofs.«01_k».proof.Proof.Gen.ReferenceIdeal.Run
public import Idealize.ShloMosaic.Lib.ReduceAll
public import Idealize.ShloMosaic.Lib.WordCmp
public import Idealize.ShloMosaic.Lib.Affine
public import Idealize.ShloMosaic.Lib.Quiescent

@[expose] public section

noncomputable section

namespace Cert.Proof.Normals

open Idealize.ShloMosaic Idealize.SL.Sem

/-- The precondition says every corner is a vertex. -/
theorem inRange_of_pre {F : FTy → Type} [FloatOps F] (x y : FVec F Cert.Pre_face_range.S16x778x3 .f32) (I : IVec Cert.Pre_face_range.S16x1538x3 32)
    (h : Cert.Pre_face_range.fn x y I = fun _ => 1#1) : InRange I := by
  intro j
  have e := Host.reduce_andi_all _ _ _ _ (Shape.Idx.first Cert.Pre_face_range.Facts.h_S_) (congrFun h _) j
  have e' : IntOp.andi (IntOp.cmpi .sge (I j) 0#32) (IntOp.cmpi .slt (I j) 778#32) = 1#1 := e
  generalize I j = x at e'
  have h2 : (0#32).sle x = true ∧ x.slt 778#32 = true := by
    revert e'
    simp only [IntOp.andi, IntOp.cmpi]
    cases h1 : (0#32).sle x <;> cases h2 : x.slt 778#32 <;> simp [h1, h2]
  obtain ⟨h1, h2⟩ := h2
  rw [BitVec.sle_eq_decide, decide_eq_true_eq] at h1
  rw [BitVec.slt_eq_decide, decide_eq_true_eq] at h2
  rw [BitVec.toInt_eq_toNat_cond] at h1 h2
  rw [BitVec.toInt_eq_toNat_cond] at h1 h2
  simp at h1 h2
  have := x.isLt
  omega

theorem frame_kernel : Cert.quiescent_Kernel (hKernel := Cert.Kernel.Gen.facts) (hPre_face_range := Cert.Pre_face_range.Gen.facts) := fun m ρ hpre =>
  (θ_run Cert.KernelIdeal.defs _ _).mono (fun _ h => ⟨fun c => ⟨(h.1 c).1, (h.1 c).2.1, (h.1 c).2.2.1⟩, h.2⟩)
    (run_main (F := Bits) m ρ (facesOK m fun d => inRange_of_pre _ _ _ (hpre d)))

theorem frame_kernelIdeal : Cert.quiescent_KernelIdeal (hKernelIdeal := Cert.KernelIdeal.Gen.facts) (hPre_face_range := Cert.Pre_face_range.Gen.facts) := fun m ρ hpre =>
  (θ_run Cert.KernelIdeal.defs _ _).mono (fun _ h => ⟨fun c => ⟨(h.1 c).1, (h.1 c).2.1, (h.1 c).2.2.1⟩, h.2⟩)
    (run_main (F := Ideal) m ρ (facesOK m fun d => inRange_of_pre _ _ _ (hpre d)))

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_face_range (hReferenceIdeal := Cert.ReferenceIdeal.Gen.facts)
    (hPre_face_range := Cert.Pre_face_range.Gen.facts) := fun m ρ _ => frame_reference m ρ trivial

end Cert.Proof.Normals

end
-- ==== Proof.Value.lean ====
/-
  The kernel's result on the extended reals: each component of each vertex is the sum, over the three corners and over
  the faces, of the face's normal where the corner is the vertex.
-/
module

public import proofs.«01_k».proof.Proof.Args
public import Idealize.ShloMosaic.Lib.IdealHost
public import Idealize.ShloMosaic.PureOps.Ideal

@[expose] public section

noncomputable section

namespace Cert.Proof.Normals

open Cert.KernelIdeal Cert.KernelIdeal.Gen
open Idealize.ShloMosaic

/-! ## The specification -/

/-- A cross product's components. -/
def cross (p q : Fin 3 → EReal) : Fin 3 → EReal := ![p 1 * q 2 - p 2 * q 1, p 2 * q 0 - p 0 * q 2, p 0 * q 1 - p 1 * q 0]

/-- The normal of the face with the three corners given. -/
def normal (p : Fin 3 → Fin 3 → EReal) : Fin 3 → EReal := cross (fun c => p 1 c - p 0 c) (fun c => p 2 c - p 0 c)

/-- Coordinate `c` of vertex `n` of row `b`. -/
def vertex (X : Vec Ideal S16x778x3 .f32) (b : Fin 16) (n : ℕ) (c : Fin 3) : EReal := if h : n < 778 then X (at3 b ⟨n, h⟩ c) else 0

/-- The normal of face `f` of row `b`. -/
def faceNormal (X : Vec Ideal S16x778x3 .f32) (I : IVec S16x1538x3 32) (b : Fin 16) (f : ℕ) : Fin 3 → EReal :=
  normal fun j => vertex X b (corner I b j f).toNat

/-- The sum of the normals of the faces with vertex `v` among their corners, a face once for each such corner. -/
def normalSum (X : Vec Ideal S16x778x3 .f32) (I : IVec S16x1538x3 32) (b : Fin 16) (v : ℕ) (c : Fin 3) : EReal :=
  ∑ j : Fin 3, ∑ f ∈ Finset.range 1538, if (corner I b j f).toNat = v then faceNormal X I b f c else 0

/-! ## A scatter -/

def at1 {n : ℕ} (a : Fin n) : (⟨1, ![n]⟩ : Shape).Idx := fun | 0 => a

theorem at1_eta {n : ℕ} (j : (⟨1, ![n]⟩ : Shape).Idx) : at1 (j 0) = j := by
  funext a; match a with
  | 0 => rfl

theorem foldl_add {ι α : Type} (L : List ι) (f₀ : α → EReal) (p : ι → α → Prop) [∀ i j, Decidable (p i j)] (g : ι → α → EReal) (u : ι → EReal)
    (step : (α → EReal) → ι → α → EReal) (hstep : ∀ f i j, step f i j = f j + if p i j then u i else 0) (j : α) :
    L.foldl step f₀ j = f₀ j + (L.map fun i => if p i j then u i else 0).sum := by
  induction L generalizing f₀ with
  | nil => simp
  | cons i L ih => rw [List.foldl_cons, ih, hstep, List.map_cons, List.sum_cons, add_assoc]

theorem scat_apply (f : Vec Ideal S2352 .f32) (w : IVec S16 32) (v : Vec Ideal S16 .f32) (hw : InB w) (p : Fin 2352) :
    scat f w v (at1 p) = (f (at1 p) + ∑ l : Fin 16, if (w (at1 l)).toNat = p.val then (v (at1 l) : EReal) else 0 : EReal) := by
  rw [← scat_eq hw]
  unfold storeIdx
  refine (foldl_add (List.finRange 16) f (fun l j => (w (at1 l)).toNat = (j 0).val) (fun _ _ => 0) (fun l => v (at1 l)) _ ?_ (at1 p)).trans ?_
  · intro g l j
    have hl : (Shape.ofLane l : S16.Idx) = at1 l := by
      funext a; match a with
      | 0 => rfl
    refine (congrFun (if_pos rfl) j).trans ?_
    by_cases h : (w (at1 l)).toNat = (j 0).val
    · rw [if_pos h]
      refine (if_pos ?_).trans ?_
      rotate_left
      · have hj : idxAt (s := S2352) ![w] hw (Shape.ofLane l : S16.Idx) = j := by
          funext a; match a with
          | 0 => exact Fin.ext ((congrArg (fun r => (w r).toNat) hl).trans h)
        exact congrArg₂ (fun (q : S2352.Idx) (r : S16.Idx) => (g q + v r : EReal)) hj hl
      · intro a; match a with
        | 0 => exact h.symm.trans (congrArg (fun r => (w r).toNat) hl.symm)
    · rw [if_neg h, add_zero]
      exact if_neg fun h' => h ((congrArg (fun r => (w r).toNat) hl.symm).trans (h' 0).symm)
  · rw [Fin.sum_univ_def]; rfl

/-! ## A trip -/

section Trip
variable {w : IVec S16 32} (hw : ∀ x, (w x).toNat < 779)
include hw

theorem triple_apply (f : Vec Ideal S2352 .f32) (x : Fin 3 → Vec Ideal S16 .f32) (v : ℕ) (c : Fin 3) (p : Fin 2352) (hp : p.val = 3 * v + c.val) :
    scat (scat (scat f (k0_pay15 (F := Ideal) w) (x 0)) (k0_pay9 (k0_pay15 (F := Ideal) w)) (x 1)) (k0_pay10 (k0_pay15 (F := Ideal) w)) (x 2) (at1 p)
      = (f (at1 p) + ∑ l : Fin 16, if (w (at1 l)).toNat = v then (x c (at1 l) : EReal) else 0 : EReal) := by
  rw [show k0_pay9 (k0_pay15 (F := Ideal) w) = k0_pay18 (k0_pay15 (F := Ideal) w) from rfl,
    show k0_pay10 (k0_pay15 (F := Ideal) w) = k0_pay19 (k0_pay15 (F := Ideal) w) from rfl]
  rw [scat_apply _ _ _ (inB_two (F := Ideal) hw), scat_apply _ _ _ (inB_one (F := Ideal) hw), scat_apply _ _ _ (inB15 (F := Ideal) hw), add_assoc, add_assoc,
    ← Finset.sum_add_distrib, ← Finset.sum_add_distrib]
  congr 1
  refine Finset.sum_congr rfl fun l _ => ?_
  have e0 : (k0_pay15 (F := Ideal) w (at1 l)).toNat = 3 * (w (at1 l)).toNat := mul3_lt (hw _)
  have e1 : (k0_pay18 (k0_pay15 (F := Ideal) w) (at1 l)).toNat = 3 * (w (at1 l)).toNat + 1 := mul3_add_lt (hw _) 1#32 (by decide)
  have e2 : (k0_pay19 (k0_pay15 (F := Ideal) w) (at1 l)).toNat = 3 * (w (at1 l)).toNat + 2 := mul3_add_lt (hw _) 2#32 (by decide)
  rw [e0, e1, e2, hp]
  by_cases h : (w (at1 l)).toNat = v
  · match c with
    | 0 => rw [if_pos (by simp [h]), if_neg (by simp [h]), if_neg (by simp [h]), if_pos h, add_zero, add_zero]
    | 1 => rw [if_neg (by simp [h]), if_pos (by simp [h]), if_neg (by simp [h]), if_pos h, add_zero, zero_add]
    | 2 => rw [if_neg (by simp [h]), if_neg (by simp [h]), if_pos (by simp [h]), if_pos h, zero_add, zero_add]
  · have := c.isLt
    rw [if_neg (by omega), if_neg (by omega), if_neg (by omega), if_neg h, add_zero, add_zero]

theorem gath_apply (X : Vec Ideal S2352 .f32) (l : Fin 16) :
    ∀ c : Fin 3, gath X ((![k0_pay15 (F := Ideal) w, k0_pay18 (k0_pay15 (F := Ideal) w), k0_pay19 (k0_pay15 (F := Ideal) w)] : Fin 3 → IVec S16 32) c) (at1 l)
      = X (at1 ⟨3 * (w (at1 l)).toNat + c.val, by have := hw (at1 l); have := c.isLt; omega⟩)
  | 0 => by
    show gath X (k0_pay15 (F := Ideal) w) (at1 l) = _
    rw [← gath_eq (inB15 (F := Ideal) hw)]
    refine congrArg X (funext fun a => ?_)
    match a with
    | 0 => exact Fin.ext (mul3_lt (hw _))
  | 1 => by
    show gath X (k0_pay18 (k0_pay15 (F := Ideal) w)) (at1 l) = _
    rw [← gath_eq (inB_one (F := Ideal) hw)]
    refine congrArg X (funext fun a => ?_)
    match a with
    | 0 => exact Fin.ext (mul3_add_lt (hw _) 1#32 (by decide))
  | 2 => by
    show gath X (k0_pay19 (k0_pay15 (F := Ideal) w)) (at1 l) = _
    rw [← gath_eq (inB_two (F := Ideal) hw)]
    refine congrArg X (funext fun a => ?_)
    match a with
    | 0 => exact Fin.ext (mul3_add_lt (hw _) 2#32 (by decide))

end Trip

/-- Coordinate `c` of the vertex numbered `n` in a row. -/
def rowVertex (X : Vec Ideal S2352 .f32) (n : ℕ) (c : Fin 3) : EReal := if h : n < 779 then X (at1 ⟨3 * n + c.val, by have := c.isLt; omega⟩) else 0

/-- The normal of the face in lane `l` of three vectors of corners. -/
def laneNormal (X : Vec Ideal S2352 .f32) (w : Fin 3 → IVec S16 32) (l : Fin 16) : Fin 3 → EReal := normal fun j => rowVertex X (w j (at1 l)).toNat

theorem rowVertex_of {X : Vec Ideal S2352 .f32} {w : IVec S16 32} (hw : ∀ x, (w x).toNat < 779) (l : Fin 16) (c : Fin 3) :
    gath X ((![k0_pay15 (F := Ideal) w, k0_pay18 (k0_pay15 (F := Ideal) w), k0_pay19 (k0_pay15 (F := Ideal) w)] : Fin 3 → IVec S16 32) c) (at1 l)
      = rowVertex X (w (at1 l)).toNat c := by
  rw [gath_apply hw, rowVertex, dif_pos (hw _)]

section Scats
variable (X : Vec Ideal S2352 .f32) {w : Fin 3 → IVec S16 32} (hw : ∀ j x, (w j x).toNat < 779)
include hw

theorem lane_eq (l : Fin 16) : ∀ c : Fin 3,
    (![laneX X (k0_pay15 (F := Ideal) (w 0)) (k0_pay15 (F := Ideal) (w 1)) (k0_pay15 (F := Ideal) (w 2)),
      laneY X (k0_pay15 (F := Ideal) (w 0)) (k0_pay15 (F := Ideal) (w 1)) (k0_pay15 (F := Ideal) (w 2)),
      laneZ X (k0_pay15 (F := Ideal) (w 0)) (k0_pay15 (F := Ideal) (w 1)) (k0_pay15 (F := Ideal) (w 2))] : Fin 3 → Vec Ideal S16 .f32) c (at1 l)
      = laneNormal X w l c := by
  have e := fun j c => rowVertex_of (X := X) (hw j) l c
  have e0 := fun j => e j 0
  have e1 := fun j => e j 1
  have e2 := fun j => e j 2
  intro c
  unfold laneNormal normal
  simp only [← e]
  match c with
  | 0 => rfl
  | 1 => rfl
  | 2 => rfl

theorem scats_apply (f : Vec Ideal S2352 .f32) (v : ℕ) (c : Fin 3) (p : Fin 2352) (hp : p.val = 3 * v + c.val) :
    scats X (k0_pay15 (F := Ideal) (w 0)) (k0_pay15 (F := Ideal) (w 1)) (k0_pay15 (F := Ideal) (w 2)) f (at1 p)
      = (f (at1 p) + ∑ j : Fin 3, ∑ l : Fin 16, if (w j (at1 l)).toNat = v then laneNormal X w l c else 0 : EReal) := by
  have ht := fun (j : Fin 3) (g : Vec Ideal S2352 .f32) => triple_apply (hw j) g
    ![laneX X (k0_pay15 (F := Ideal) (w 0)) (k0_pay15 (F := Ideal) (w 1)) (k0_pay15 (F := Ideal) (w 2)),
      laneY X (k0_pay15 (F := Ideal) (w 0)) (k0_pay15 (F := Ideal) (w 1)) (k0_pay15 (F := Ideal) (w 2)),
      laneZ X (k0_pay15 (F := Ideal) (w 0)) (k0_pay15 (F := Ideal) (w 1)) (k0_pay15 (F := Ideal) (w 2))] v c p hp
  simp only [lane_eq X hw] at ht
  rw [Fin.sum_univ_three, ← add_assoc, ← add_assoc]
  exact (ht 2 _).trans (congrArg (· + _) ((ht 1 _).trans (congrArg (· + _) (ht 0 f))))

end Scats

/-! ## The loop -/

theorem words_congr (G : Vec Ideal S4800 .i32) {o o' : ℕ} {ho : o + 16 ≤ 4800} {ho' : o' + 16 ≤ 4800} (h : o = o') :
    words (F := Ideal) G o ho = words (F := Ideal) G o' ho' := by
  subst h; rfl

section Loop
variable (X : Vec Ideal S2352 .f32) {G : Vec Ideal S4800 .i32} (hG : ∀ j, (G j : BitVec 32).toNat < 779)

/-- Corner `j` of face `f` in a row. -/
def rowCorner (G : Vec Ideal S4800 .i32) (j : Fin 3) (f : ℕ) : ℕ := if h : 1600 * j.val + f < 4800 then (G (at1 ⟨1600 * j.val + f, h⟩) : BitVec 32).toNat else 0

def rowTerm (G : Vec Ideal S4800 .i32) (v : ℕ) (c j : Fin 3) (f : ℕ) : EReal :=
  if rowCorner G j f = v then normal (fun i => rowVertex X (rowCorner G i f)) c else 0

include hG
theorem iter_apply (v : ℕ) (c : Fin 3) (p : Fin 2352) (hp : p.val = 3 * v + c.val) : ∀ n, n ≤ 100 →
    iter X G n (at1 p) = (∑ j : Fin 3, ∑ f ∈ Finset.range (16 * n), rowTerm X G v c j f : EReal)
  | 0, _ => by
    simp only [Nat.mul_zero, Finset.range_zero, Finset.sum_empty, Finset.sum_const_zero]
    exact Ideal.ofBits_zero_f32
  | n + 1, hn => by
    rw [iter_succ X G (by omega : n < 100)]
    let w : Fin 3 → IVec S16 32 := fun j => words (F := Ideal) G (1600 * j.val + 16 * n) (by have := j.isLt; omega)
    have hw : ∀ j x, (w j x).toNat < 779 := fun j x => words_lt hG _ _ x
    have e0 : words (F := Ideal) G (16 * n) (by omega) = w 0 := words_congr G (by simp)
    have e1 : words (F := Ideal) G (16 * n + 1600) (by omega) = w 1 := words_congr G (by simp [Nat.add_comm])
    have e2 : words (F := Ideal) G (16 * n + 3200) (by omega) = w 2 := words_congr G (by simp [Nat.add_comm])
    unfold trip
    rw [e0, e1, e2]
    refine (scats_apply X hw _ v c p hp).trans ?_
    rw [iter_apply v c p hp n (by omega), ← Finset.sum_add_distrib]
    refine Finset.sum_congr rfl fun j _ => ?_
    rw [show 16 * (n + 1) = 16 * n + 16 from by ring, Finset.sum_range_add]
    congr 1
    rw [Finset.sum_range]
    refine Finset.sum_congr rfl fun l _ => ?_
    have hc : ∀ i : Fin 3, (w i (at1 l)).toNat = rowCorner G i (16 * n + l.val) := fun i => by
      have h : 1600 * i.val + (16 * n + l.val) < 4800 := by have := i.isLt; have := l.isLt; omega
      rw [rowCorner, dif_pos h]
      refine congrArg (fun q => (G q : BitVec 32).toNat) (funext fun a => ?_)
      match a with
      | 0 => exact Fin.ext (Nat.add_assoc _ _ _)
    unfold rowTerm laneNormal
    simp only [hc]

end Loop

/-! ## The result -/

variable (m : (ℓ : Loc nD τ sig) → Buf (Elt Ideal) ℓ)

theorem out_value (d : Dev nD) (hI : ∀ d, InRange (m (aLoc2 d))) (b : Fin 16) (k : Fin 2) (v : Fin 778) (c : Fin 3) :
    @Eq EReal (out m d (at4 b k v c)) (normalSum (mesh m d k) (m (aLoc2 d)) b v.val c) := by
  have hv := v.isLt
  have hc := c.isLt
  rw [out_apply m d b k v c ⟨3 * v.val + c.val, by omega⟩ rfl]
  have hFO := facesOK m hI
  let L := coordsOf (at3 b k (⟨3 * v.val + c.val, by omega⟩ : Fin 2352))
  have h1 : result (Am m d) (Gm m d) (at3 b k ⟨3 * v.val + c.val, by omega⟩)
      = iter (rowV (Am m d) L) (rowF (Gm m d) L) 100 (at1 ⟨3 * v.val + c.val, by omega⟩) := by
    refine congrArg (iter (rowV (Am m d) L) (rowF (Gm m d) L) 100) (funext fun a => ?_)
    match a with
    | 0 => rfl
  rw [h1, iter_apply (rowV (Am m d) L) (G := rowF (Gm m d) L) (fun j => hFO d _) v.val c _ rfl 100 le_rfl]
  have hcor : ∀ (j : Fin 3) (f : ℕ), f < 1600 → rowCorner (rowF (Gm m d) L) j f = (corner (m (aLoc2 d)) b j f).toNat := fun j f hf => by
    have h : 1600 * j.val + f < 4800 := by have := j.isLt; omega
    rw [rowCorner, dif_pos h, ← Gm_apply m d b j f hf ⟨1600 * j.val + f, h⟩ rfl]
    refine congrArg (fun q => (Gm m d q : BitVec 32).toNat) (funext fun a => ?_)
    match a with
    | 0 => rfl
    | 1 => rfl
  have hver : ∀ (n : ℕ) (c : Fin 3), n < 778 → rowVertex (rowV (Am m d) L) n c = vertex (mesh m d k) b n c := fun n c hn => by
    have := c.isLt
    rw [rowVertex, dif_pos (by omega), vertex, dif_pos hn, ← Am_apply m d b k ⟨n, hn⟩ c ⟨3 * n + c.val, by omega⟩ rfl]
    refine congrArg (Am m d) (funext fun a => ?_)
    match a with
    | 0 => rfl
    | 1 => rfl
    | 2 => rfl
  unfold normalSum
  refine Finset.sum_congr rfl fun j _ => ?_
  rw [show 16 * 100 = 1538 + 62 from rfl, Finset.sum_range_add]
  rw [Finset.sum_eq_zero (s := Finset.range 62) (fun x hx => ?_), add_zero]
  · refine Finset.sum_congr rfl fun f hf => ?_
    rw [Finset.mem_range] at hf
    unfold rowTerm
    rw [hcor j f (by omega)]
    have hin : ∀ i, (corner (m (aLoc2 d)) b i f).toNat < 778 := fun i => by
      rw [corner, dif_pos hf]; exact hI d _
    have : (fun i => rowVertex (rowV (Am m d) L) (rowCorner (rowF (Gm m d) L) i f)) = fun i => vertex (mesh m d k) b (corner (m (aLoc2 d)) b i f).toNat :=
      funext fun i => funext fun c' => by rw [hcor i f (by omega), hver _ _ (hin i)]
    rw [this]; rfl
  · rw [Finset.mem_range] at hx
    unfold rowTerm
    rw [if_neg]
    rw [hcor j _ (by omega), corner, dif_neg (by omega)]
    have : (778#32 : BitVec 32).toNat = 778 := rfl
    omega

end Cert.Proof.Normals

end
-- ==== Proof.RefValue.lean ====
/-
  The reference's result on the extended reals, element by element: the same sums of face normals.
-/
module

public import proofs.«01_k».proof.Proof.Value
public import proofs.«01_k».proof.Proof.Gen.ReferenceIdeal.Run
public import Idealize.ShloMosaic.Lib.Routing.OpsPair

@[expose] public section

noncomputable section

namespace Cert.Proof.Normals.Ref

open Cert.ReferenceIdeal Cert.ReferenceIdeal.Gen
open Idealize.ShloMosaic
open Cert.Proof.Normals

abbrev gd := gather_S16x778x3_S16x1538x2_S16x1538x3_2_01_n_n_01_2_113
abbrev sd := scatter_S16x778x3_S16x1538x2_S16x1538x3_2_01_01_2

/-! ## The tables of indices -/

/-- Column `k` of the faces. -/
def col {α : Type} (I : S16x1538x3.Idx → α) : Fin 3 → S16x1538.Idx → α
  | 0 => shapeCast S16x1538 (extractStridedSlice S16x1538x1 ![0, 0, 0] I slices_S16x1538x3_S16x1538x1_0_0_0) shapeCasts_S16x1538x1_S16x1538
  | 1 => shapeCast S16x1538 (extractStridedSlice S16x1538x1 ![0, 0, 1] I slices_S16x1538x3_S16x1538x1_0_0_1) shapeCasts_S16x1538x1_S16x1538
  | 2 => shapeCast S16x1538 (extractStridedSlice S16x1538x1 ![0, 0, 2] I slices_S16x1538x3_S16x1538x1_0_0_2) shapeCasts_S16x1538x1_S16x1538

theorem col_apply {α : Type} (I : S16x1538x3.Idx → α) (b : Fin 16) (f : Fin 1538) : ∀ k, col I k (at2 b f) = I (at3 b f k)
  | 0 => by
    refine (shapeCast_apply _ _ _ (at3 b f (0 : Fin 1)) ?_).trans (extractStridedSlice_apply _ _ _ _ _ fun a => ?_)
    · rw [Shape.rowMajor_val_three, Shape.rowMajor_val_two]; simp [at2, at3]
    · match a with
      | 0 => simp [at3]
      | 1 => simp [at3]
      | 2 => simp [at3]
  | 1 => by
    refine (shapeCast_apply _ _ _ (at3 b f (0 : Fin 1)) ?_).trans (extractStridedSlice_apply _ _ _ _ _ fun a => ?_)
    · rw [Shape.rowMajor_val_three, Shape.rowMajor_val_two]; simp [at2, at3]
    · match a with
      | 0 => simp [at3]
      | 1 => simp [at3]
      | 2 => simp [at3]
  | 2 => by
    refine (shapeCast_apply _ _ _ (at3 b f (0 : Fin 1)) ?_).trans (extractStridedSlice_apply _ _ _ _ _ fun a => ?_)
    · rw [Shape.rowMajor_val_three, Shape.rowMajor_val_two]; simp [at2, at3]
    · match a with
      | 0 => simp [at3]
      | 1 => simp [at3]
      | 2 => simp [at3]

/-- The rows' numbers. -/
def rows : IVec S16x1 32 := broadcastInDim S16x1 ![0] bcast_S16_S16x1_0 (iotaInDim S16 32 0)

/-- The pairs (row, vertex) read and written through. -/
def table (c : IVec S16x1538 32) : IVec S16x1538x2 32 :=
  concatenate S16x1538x2 2 [⟨S16x1538x1, (broadcastInDim S16x1538x1 ![0, 1] bcast_S16x1538_S16x1538x1_0_1 (broadcastInDim S16x1538 ![0, 1] bcast_S16x1_S16x1538_0_1
      (select (cmpi .slt rows (broadcastInDim S16x1 ![] bcast_S_S16x1 (constantI S_ 32 0#32))) (addi rows (broadcastInDim S16x1 ![] bcast_S_S16x1 (constantI S_ 32 16#32))) rows)))⟩,
    ⟨S16x1538x1, (broadcastInDim S16x1538x1 ![0, 1] bcast_S16x1538_S16x1538x1_0_1
      (select (cmpi .slt c (broadcastInDim S16x1538 ![] bcast_S_S16x1538 (constantI S_ 32 0#32))) (addi c (broadcastInDim S16x1538 ![] bcast_S_S16x1538 (constantI S_ 32 778#32))) c))⟩]
    concatenates_S16x1538x1_S16x1538x1_S16x1538x2_d2

theorem rows_apply (b : Fin 16) : rows (at2 b (0 : Fin 1)) = BitVec.ofNat 32 b.val := rfl

theorem table_row (c : IVec S16x1538 32) (b : Fin 16) (f : Fin 1538) : table c (at3 b f (0 : Fin 2)) = BitVec.ofNat 32 b.val := by
  refine (concatenate_pair_apply_left (t := S16x1538x2) (s₁ := S16x1538x1) (s₂ := S16x1538x1) 2 _ _ _ _ rfl (at3 b f (0 : Fin 1)) ?_).trans ?_
  · intro a; match a with
    | 0 => rfl
    | 1 => rfl
    | 2 => rfl
  refine (broadcastInDim_apply _ _ _ _ (at2 b f) ?_).trans ?_
  · intro a; match a with
    | 0 => simp [at2, at3]
    | 1 => simp [at2, at3]
  refine (broadcastInDim_apply _ _ _ _ (at2 b (0 : Fin 1)) ?_).trans ?_
  · intro a; match a with
    | 0 => simp [at2]
    | 1 => simp [at2]
  refine Eq.trans (Routing.wrap_of_lt (rows (at2 b (0 : Fin 1))) (IntOp.addi (rows (at2 b (0 : Fin 1))) 16#32) ?_) (rows_apply b)
  rw [rows_apply, BitVec.toNat_ofNat]; have := b.isLt; omega

theorem table_vertex (c : IVec S16x1538 32) (b : Fin 16) (f : Fin 1538) (h : (c (at2 b f)).toNat < 778) : table c (at3 b f (1 : Fin 2)) = c (at2 b f) := by
  refine (concatenate_pair_apply_right (t := S16x1538x2) (s₁ := S16x1538x1) (s₂ := S16x1538x1) 2 _ _ _ _ rfl rfl (at3 b f (0 : Fin 1)) ?_ rfl).trans ?_
  · intro a ha; match a with
    | 0 => rfl
    | 1 => rfl
    | 2 => exact absurd rfl ha
  refine (broadcastInDim_apply _ _ _ _ (at2 b f) ?_).trans ?_
  · intro a; match a with
    | 0 => simp [at2, at3]
    | 1 => simp [at2, at3]
  exact Routing.wrap_of_lt (c (at2 b f)) (IntOp.addi (c (at2 b f)) 778#32) (by omega)

theorem table_row_toInt (c : IVec S16x1538 32) (b : Fin 16) (f : Fin 1538) : (table c (at3 b f (0 : Fin 2))).toInt = b.val := by
  rw [table_row, BitVec.toInt_eq_toNat_cond, BitVec.toNat_ofNat]
  have := b.isLt
  rw [Nat.mod_eq_of_lt (by omega), if_pos (by omega)]

theorem table_vertex_toInt (c : IVec S16x1538 32) (b : Fin 16) (f : Fin 1538) (h : (c (at2 b f)).toNat < 778) :
    (table c (at3 b f (1 : Fin 2))).toInt = (c (at2 b f)).toNat := by
  rw [table_vertex c b f h, BitVec.toInt_eq_toNat_cond, if_pos (by omega)]

/-! ## A gather -/

theorem g_start0 (b : Fin 16) (f : Fin 1538) (k : Fin 3) (T : IVec S16x1538x2 32) :
    gd.start (at3 b f k) T 0 = min (T (at3 b f (0 : Fin 2))).toInt.toNat 15 := by
  unfold GatherDims.start
  rw [dif_pos (show (0 : Fin 3) ∈ gd.startIndexMap by decide)]
  refine congrArg (fun q => min (T q).toInt.toNat 15) (funext fun a => ?_)
  match a with
  | 0 => exact Fin.ext rfl
  | 1 => exact Fin.ext rfl
  | 2 => exact Fin.ext rfl
theorem g_start1 (b : Fin 16) (f : Fin 1538) (k : Fin 3) (T : IVec S16x1538x2 32) :
    gd.start (at3 b f k) T 1 = min (T (at3 b f (1 : Fin 2))).toInt.toNat 777 := by
  unfold GatherDims.start
  rw [dif_pos (show (1 : Fin 3) ∈ gd.startIndexMap by decide)]
  refine congrArg (fun q => min (T q).toInt.toNat 777) (funext fun a => ?_)
  match a with
  | 0 => exact Fin.ext rfl
  | 1 => exact Fin.ext rfl
  | 2 => exact Fin.ext rfl
theorem g_start2 (b : Fin 16) (f : Fin 1538) (k : Fin 3) (T : IVec S16x1538x2 32) : gd.start (at3 b f k) T 2 = 0 := by
  unfold GatherDims.start
  rw [dif_neg (show (2 : Fin 3) ∉ gd.startIndexMap by decide)]
theorem g_batch (b : Fin 16) (f : Fin 1538) (k : Fin 3) (a : Fin 3) : gd.batchCoord (at3 b f k) a = 0 :=
  gd.batchCoord_eq_zero _ _ (by simp [gather_S16x778x3_S16x1538x2_S16x1538x3_2_01_n_n_01_2_113])
theorem g_off0 (b : Fin 16) (f : Fin 1538) (k : Fin 3) : gd.offCoord (at3 b f k) 0 = 0 := gd.offCoord_eq_zero _ _ (by decide)
theorem g_off1 (b : Fin 16) (f : Fin 1538) (k : Fin 3) : gd.offCoord (at3 b f k) 1 = 0 := gd.offCoord_eq_zero _ _ (by decide)
theorem g_off2 (b : Fin 16) (f : Fin 1538) (k : Fin 3) : gd.offCoord (at3 b f k) 2 = k.val := by
  unfold GatherDims.offCoord
  rw [dif_pos (show (2 : Fin 3) ∈ gd.sKept by decide)]
  rfl

theorem gather_apply {α : Type} (X : S16x778x3.Idx → α) (c : IVec S16x1538 32) (b : Fin 16) (f : Fin 1538) (k : Fin 3) (h : (c (at2 b f)).toNat < 778) :
    Host.gather gd X (table c) (at3 b f k) = X (at3 b ⟨(c (at2 b f)).toNat, h⟩ k) := by
  refine congrArg X (funext fun a => Fin.ext ?_)
  show gd.start (at3 b f k) (table c) a + gd.batchCoord (at3 b f k) a + gd.offCoord (at3 b f k) a = _
  rw [g_batch]
  match a with
  | 0 =>
    rw [g_start0, g_off0, table_row_toInt]
    have := b.isLt
    show min (b.val : Int).toNat 15 + 0 + 0 = b.val
    simp; omega
  | 1 =>
    rw [g_start1, g_off1, table_vertex_toInt c b f h]
    show min ((c (at2 b f)).toNat : Int).toNat 777 + 0 + 0 = (c (at2 b f)).toNat
    simp; omega
  | 2 =>
    rw [g_start2, g_off2]
    show 0 + 0 + k.val = k.val
    omega

/-! ## A scatter -/

theorem s_start0 (b : Fin 16) (f : Fin 1538) (k : Fin 3) (T : IVec S16x1538x2 32) : sd.start (at3 b f k) T 0 = (T (at3 b f (0 : Fin 2))).toInt := by
  unfold ScatterDims.start
  rw [dif_pos (show (0 : Fin 3) ∈ sd.scatterDimsToOperandDims by decide)]
  refine congrArg (fun q => (T q).toInt) (funext fun a => ?_)
  match a with
  | 0 => exact Fin.ext rfl
  | 1 => exact Fin.ext rfl
  | 2 => exact Fin.ext rfl
theorem s_start1 (b : Fin 16) (f : Fin 1538) (k : Fin 3) (T : IVec S16x1538x2 32) : sd.start (at3 b f k) T 1 = (T (at3 b f (1 : Fin 2))).toInt := by
  unfold ScatterDims.start
  rw [dif_pos (show (1 : Fin 3) ∈ sd.scatterDimsToOperandDims by decide)]
  refine congrArg (fun q => (T q).toInt) (funext fun a => ?_)
  match a with
  | 0 => exact Fin.ext rfl
  | 1 => exact Fin.ext rfl
  | 2 => exact Fin.ext rfl
theorem s_start2 (b : Fin 16) (f : Fin 1538) (k : Fin 3) (T : IVec S16x1538x2 32) : sd.start (at3 b f k) T 2 = 0 := by
  unfold ScatterDims.start
  rw [dif_neg (show (2 : Fin 3) ∉ sd.scatterDimsToOperandDims by decide)]
theorem s_window0 (b : Fin 16) (f : Fin 1538) (k : Fin 3) : sd.window (at3 b f k) 0 = 0 := by
  unfold ScatterDims.window
  rw [dif_neg (show (0 : Fin 3) ∉ sd.sKept by decide)]
theorem s_window1 (b : Fin 16) (f : Fin 1538) (k : Fin 3) : sd.window (at3 b f k) 1 = 0 := by
  unfold ScatterDims.window
  rw [dif_neg (show (1 : Fin 3) ∉ sd.sKept by decide)]
theorem s_window2 (b : Fin 16) (f : Fin 1538) (k : Fin 3) : sd.window (at3 b f k) 2 = k.val := by
  unfold ScatterDims.window
  rw [dif_pos (show (2 : Fin 3) ∈ sd.sKept by decide)]
  rfl

theorem lands (c : IVec S16x1538 32) (hc : ∀ b f, (c (at2 b f)).toNat < 778) (b b' : Fin 16) (f : Fin 1538) (k k' : Fin 3) (v : Fin 778) :
    sd.resultIdx? (at3 b f k) (table c) = some (at3 b' v k') ↔ b = b' ∧ (c (at2 b f)).toNat = v.val ∧ k = k' := by
  rw [Routing.resultIdx?_eq_some]
  constructor
  · intro h
    have h0 := h 0; have h1 := h 1; have h2 := h 2
    rw [s_start0, s_window0, table_row_toInt] at h0
    rw [s_start1, s_window1, table_vertex_toInt c b f (hc b f)] at h1
    rw [s_start2, s_window2] at h2
    have e0 : ((at3 b' v k' : S16x778x3.Idx) 0).val = b'.val := rfl
    have e1 : ((at3 b' v k' : S16x778x3.Idx) 1).val = v.val := rfl
    have e2 : ((at3 b' v k' : S16x778x3.Idx) 2).val = k'.val := rfl
    rw [e0] at h0; rw [e1] at h1; rw [e2] at h2
    exact ⟨Fin.ext (by omega), by omega, Fin.ext (by omega)⟩
  · rintro ⟨rfl, h1, rfl⟩ a
    match a with
    | 0 => rw [s_start0, s_window0, table_row_toInt]; show (b.val : Int) + (0 : ℕ) = b.val; omega
    | 1 => rw [s_start1, s_window1, table_vertex_toInt c b f (hc b f)]; show ((c (at2 b f)).toNat : Int) + (0 : ℕ) = v.val; omega
    | 2 => rw [s_start2, s_window2]; show (0 : Int) + (k.val : ℕ) = k.val; omega

theorem scatter_apply (X : FVec Ideal S16x778x3 .f32) (c : IVec S16x1538 32) (hc : ∀ b f, (c (at2 b f)).toNat < 778) (U : FVec Ideal S16x1538x3 .f32)
    (b : Fin 16) (v : Fin 778) (k : Fin 3) :
    @Eq EReal (Host.scatterAdd sd X (table c) U (at3 b v k))
      (X (at3 b v k) + ∑ f : Fin 1538, if (c (at2 b f)).toNat = v.val then (U (at3 b f k) : EReal) else 0) := by
  show (X (at3 b v k) + ∑ j ∈ Finset.univ.filter (fun j => sd.resultIdx? j (table c) = some (at3 b v k)), U j : EReal) = _
  congr 1
  rw [← Finset.sum_filter]
  refine Finset.sum_bij' (fun j _ => (j 1 : Fin 1538)) (fun f _ => at3 b f k) ?_ ?_ ?_ ?_ ?_
  all_goals
    first
      | intro j hj
        obtain ⟨b', f, k', rfl⟩ : ∃ (b' : Fin 16) (f : Fin 1538) (k' : Fin 3), j = at3 b' f k' := ⟨j 0, j 1, j 2, by
          funext a; match a with
          | 0 => rfl
          | 1 => rfl
          | 2 => rfl⟩
        obtain ⟨rfl, h1, rfl⟩ := (lands c hc b' b f k' k v).1 (Finset.mem_filter.1 hj).2
        first
          | exact Finset.mem_filter.2 ⟨Finset.mem_univ _, h1⟩
          | rfl
      | intro f hf
        first
          | exact Finset.mem_filter.2 ⟨Finset.mem_univ _, (lands c hc b b f k k v).2 ⟨rfl, (Finset.mem_filter.1 hf).2, rfl⟩⟩
          | rfl

/-- Three matrices stacked along a last axis. -/
theorem stack_apply {α : Type} (x y z : S16x1538.Idx → α) (b : Fin 16) (f : Fin 1538) (k : Fin 3) :
    concatenate S16x1538x3 2 [⟨S16x1538x1, broadcastInDim S16x1538x1 ![0, 1] bcast_S16x1538_S16x1538x1_0_1 x⟩,
      ⟨S16x1538x1, broadcastInDim S16x1538x1 ![0, 1] bcast_S16x1538_S16x1538x1_0_1 y⟩,
      ⟨S16x1538x1, broadcastInDim S16x1538x1 ![0, 1] bcast_S16x1538_S16x1538x1_0_1 z⟩]
      concatenates_S16x1538x1_S16x1538x1_S16x1538x1_S16x1538x3_d2 (at3 b f k) = (![x, y, z] : Fin 3 → S16x1538.Idx → α) k (at2 b f) := by
  refine (concatenate_ofFn_unit_apply (t := S16x1538x3) (s₁ := S16x1538x1) 2
    (fun n : Fin 3 => broadcastInDim S16x1538x1 ![0, 1] bcast_S16x1538_S16x1538x1_0_1 ((![x, y, z] : Fin 3 → S16x1538.Idx → α) n))
    concatenates_S16x1538x1_S16x1538x1_S16x1538x1_S16x1538x3_d2 rfl rfl (at3 b f k) k rfl (at3 b f (0 : Fin 1)) ?_).trans ?_
  · intro a ha; match a with
    | 0 => rfl
    | 1 => rfl
    | 2 => exact absurd rfl ha
  · refine broadcastInDim_apply _ _ _ _ (at2 b f) fun a => ?_
    match a with
    | 0 => simp [at2, at3]
    | 1 => simp [at2, at3]

/-! ## The sums -/

section Sums
variable {F : FTy → Type} [FloatOps F] (X : FVec F S16x778x3 .f32) (I : IVec S16x1538x3 32)

def origin : FVec F S16x1538x3 .f32 := Host.gather gd X (table (col I 0))
def edge₁ : FVec F S16x1538x3 .f32 := subf (Host.gather gd X (table (col I 1))) (origin X I)
def edge₂ : FVec F S16x1538x3 .f32 := subf (Host.gather gd X (table (col I 2))) (origin X I)

/-- Component `r` of the cross products, from the components after it. -/
def crossAt (p q : FVec F S16x1538x3 .f32) (i j : Fin 3) : FVec F S16x1538 .f32 := subf (mulf (col p i) (col q j)) (mulf (col p j) (col q i))

def normals : FVec F S16x1538x3 .f32 :=
  concatenate S16x1538x3 2 [⟨S16x1538x1, broadcastInDim S16x1538x1 ![0, 1] bcast_S16x1538_S16x1538x1_0_1 (crossAt (edge₁ X I) (edge₂ X I) 1 2)⟩,
    ⟨S16x1538x1, broadcastInDim S16x1538x1 ![0, 1] bcast_S16x1538_S16x1538x1_0_1 (crossAt (edge₁ X I) (edge₂ X I) 2 0)⟩,
    ⟨S16x1538x1, broadcastInDim S16x1538x1 ![0, 1] bcast_S16x1538_S16x1538x1_0_1 (crossAt (edge₁ X I) (edge₂ X I) 0 1)⟩]
    concatenates_S16x1538x1_S16x1538x1_S16x1538x1_S16x1538x3_d2

def sumsOf : FVec F S16x778x3 .f32 :=
  Host.scatterAdd sd (Host.scatterAdd sd (Host.scatterAdd sd (broadcastInDim S16x778x3 ![] bcast_S_S16x778x3 (constant S_ .f32 0x00000000#32))
    (table (col I 0)) (normals X I)) (table (col I 1)) (normals X I)) (table (col I 2)) (normals X I)

end Sums

theorem res_eq {F : FTy → Type} [FloatOps F] (V : Valuation τ sig (Elt F)) :
    Value.res_main_v290 V = concatenate S16x2x778x3 1 [⟨S16x1x778x3, broadcastInDim S16x1x778x3 ![0, 2, 3] bcast_S16x778x3_S16x1x778x3_0_2_3
        (sumsOf (V (Proc.devRef .tc main_arg0) : FVec F S16x778x3 .f32) (V (Proc.devRef .tc main_arg2) : IVec S16x1538x3 32))⟩,
      ⟨S16x1x778x3, broadcastInDim S16x1x778x3 ![0, 2, 3] bcast_S16x778x3_S16x1x778x3_0_2_3
        (sumsOf (V (Proc.devRef .tc main_arg1) : FVec F S16x778x3 .f32) (V (Proc.devRef .tc main_arg2) : IVec S16x1538x3 32))⟩]
      concatenates_S16x1x778x3_S16x1x778x3_S16x2x778x3_d1 := rfl

section Value
variable (X : FVec Ideal S16x778x3 .f32) (I : IVec S16x1538x3 32) (hI : InRange I)
include hI

theorem col_lt (k : Fin 3) (b : Fin 16) (f : Fin 1538) : (col I k (at2 b f)).toNat < 778 := by rw [col_apply]; exact hI _

theorem corner_eq (k : Fin 3) (b : Fin 16) (f : Fin 1538) : col I k (at2 b f) = corner I b k f.val := by
  rw [col_apply, corner, dif_pos f.isLt]

theorem gathered (j : Fin 3) (b : Fin 16) (f : Fin 1538) (k : Fin 3) :
    @Eq EReal (Host.gather gd X (table (col I j)) (at3 b f k)) (vertex X b (corner I b j f.val).toNat k) := by
  refine (gather_apply X (col I j) b f k (col_lt I hI j b f)).trans ?_
  rw [← corner_eq I hI j b f, vertex, dif_pos (col_lt I hI j b f)]

theorem edge₁_apply (b : Fin 16) (f : Fin 1538) (k : Fin 3) :
    @Eq EReal (edge₁ X I (at3 b f k)) (vertex X b (corner I b 1 f.val).toNat k - vertex X b (corner I b 0 f.val).toNat k) := by
  rw [← gathered X I hI 1, ← gathered X I hI 0]; rfl
theorem edge₂_apply (b : Fin 16) (f : Fin 1538) (k : Fin 3) :
    @Eq EReal (edge₂ X I (at3 b f k)) (vertex X b (corner I b 2 f.val).toNat k - vertex X b (corner I b 0 f.val).toNat k) := by
  rw [← gathered X I hI 2, ← gathered X I hI 0]; rfl

theorem crossAt_apply (i j : Fin 3) (b : Fin 16) (f : Fin 1538) :
    @Eq EReal (crossAt (edge₁ X I) (edge₂ X I) i j (at2 b f))
      ((edge₁ X I (at3 b f i) * edge₂ X I (at3 b f j) : EReal) - (edge₁ X I (at3 b f j) * edge₂ X I (at3 b f i) : EReal)) := by
  rw [← col_apply (edge₁ X I) b f i, ← col_apply (edge₁ X I) b f j, ← col_apply (edge₂ X I) b f i, ← col_apply (edge₂ X I) b f j]; rfl

theorem normals_apply (b : Fin 16) (f : Fin 1538) (k : Fin 3) : @Eq EReal (normals X I (at3 b f k)) (faceNormal X I b f.val k) := by
  have h1 : normals X I (at3 b f k) = (![crossAt (edge₁ X I) (edge₂ X I) 1 2, crossAt (edge₁ X I) (edge₂ X I) 2 0, crossAt (edge₁ X I) (edge₂ X I) 0 1] :
      Fin 3 → FVec Ideal S16x1538 .f32) k (at2 b f) := by
    unfold normals
    exact stack_apply _ _ _ b f k
  rw [h1]
  unfold faceNormal normal
  simp only [← edge₁_apply X I hI, ← edge₂_apply X I hI]
  match k with
  | 0 => exact crossAt_apply X I hI 1 2 b f
  | 1 => exact crossAt_apply X I hI 2 0 b f
  | 2 => exact crossAt_apply X I hI 0 1 b f

theorem sumsOf_apply (b : Fin 16) (v : Fin 778) (k : Fin 3) : @Eq EReal (sumsOf X I (at3 b v k)) (normalSum X I b v.val k) := by
  unfold sumsOf
  rw [scatter_apply _ _ (fun b f => col_lt I hI 2 b f), scatter_apply _ _ (fun b f => col_lt I hI 1 b f), scatter_apply _ _ (fun b f => col_lt I hI 0 b f)]
  have h0 : @Eq EReal (broadcastInDim S16x778x3 ![] bcast_S_S16x778x3 (constant S_ .f32 0x00000000#32 : FVec Ideal S_ .f32) (at3 b v k)) 0 := Ideal.ofBits_zero_f32
  rw [h0, zero_add]
  unfold normalSum
  rw [Fin.sum_univ_three]
  simp only [corner_eq I hI, normals_apply X I hI, Finset.sum_range]

end Value

/-- The reference's result, from its arguments. -/
theorem res_apply (V : Valuation τ sig (Elt Ideal)) (hI : InRange (V (Proc.devRef .tc main_arg2) : IVec S16x1538x3 32)) (b : Fin 16) (k : Fin 2) (v : Fin 778) (c : Fin 3) :
    @Eq EReal (Value.res_main_v290 V (at4 b k v c))
      (normalSum (if k = 0 then (V (Proc.devRef .tc main_arg0) : FVec Ideal S16x778x3 .f32) else V (Proc.devRef .tc main_arg1))
        (V (Proc.devRef .tc main_arg2)) b v.val c) := by
  rw [res_eq]
  match k with
  | 0 =>
    refine (concatenate_pair_apply_left (t := S16x2x778x3) (s₁ := S16x1x778x3) (s₂ := S16x1x778x3) 1 _ _ _ _ rfl (at4 b (0 : Fin 1) v c) ?_).trans
      ((broadcastInDim_apply _ _ _ _ (at3 b v c) ?_).trans (sumsOf_apply _ _ hI b v c))
    · intro a; match a with
      | 0 => rfl
      | 1 => rfl
      | 2 => rfl
      | 3 => rfl
    · intro a; match a with
      | 0 => simp [at3, at4]
      | 1 => simp [at3, at4]
      | 2 => simp [at3, at4]
  | 1 =>
    refine (concatenate_pair_apply_right (t := S16x2x778x3) (s₁ := S16x1x778x3) (s₂ := S16x1x778x3) 1 _ _ _ _ rfl rfl (at4 b (0 : Fin 1) v c) ?_ rfl).trans
      ((broadcastInDim_apply _ _ _ _ (at3 b v c) ?_).trans (sumsOf_apply _ _ hI b v c))
    · intro a ha; match a with
      | 0 => rfl
      | 1 => exact absurd rfl ha
      | 2 => rfl
      | 3 => rfl
    · intro a; match a with
      | 0 => simp [at3, at4]
      | 1 => simp [at3, at4]
      | 2 => simp [at3, at4]

end Cert.Proof.Normals.Ref

end
-- ==== Proof.Algebraic.lean ====
/-
  Kernel and reference end with the same summed face normals, on the extended reals.
-/
module

public import proofs.«01_k».proof.Proof.Frames
public import proofs.«01_k».proof.Proof.RefValue

@[expose] public section

noncomputable section

namespace Cert.Proof.Normals

open Idealize.ShloMosaic Idealize.SL.Sem

theorem at4_eta {n₀ n₁ n₂ n₃ : ℕ} (i : (⟨4, ![n₀, n₁, n₂, n₃]⟩ : Shape).Idx) : i = at4 (i 0) (i 1) (i 2) (i 3) := by
  funext a; match a with
  | 0 => rfl
  | 1 => rfl
  | 2 => rfl
  | 3 => rfl

/-- From equal arguments the reference's result is the kernel's, element by element. -/
theorem res_eq_out (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (hI : ∀ d, InRange (m (aLoc2 d)))
    (h0 : m' ((d.tc : Thread Cert.ReferenceIdeal.nD Cert.ReferenceIdeal.τ).loc Cert.ReferenceIdeal.main_arg0) = m (aLoc0 d))
    (h1 : m' ((d.tc : Thread Cert.ReferenceIdeal.nD Cert.ReferenceIdeal.τ).loc Cert.ReferenceIdeal.main_arg1) = m (aLoc1 d))
    (h2 : m' ((d.tc : Thread Cert.ReferenceIdeal.nD Cert.ReferenceIdeal.τ).loc Cert.ReferenceIdeal.main_arg2) = m (aLoc2 d)) :
    Cert.ReferenceIdeal.Value.res_main_v290 (F := Ideal) (StableHlo.launchContents m' d) = out m d := by
  have key : ∀ (b : Fin 16) (k : Fin 2) (v : Fin 778) (c : Fin 3),
      @Eq EReal (Cert.ReferenceIdeal.Value.res_main_v290 (F := Ideal) (StableHlo.launchContents m' d) (at4 b k v c)) (out m d (at4 b k v c)) := by
    intro b k v c
    refine (Ref.res_apply (StableHlo.launchContents m' d) (fun j => ?_) b k v c).trans ((out_value m d hI b k v c).trans ?_).symm
    · exact (congrArg (fun w : BitVec 32 => w.toNat) (congrFun h2 j)).trans_lt (hI d j)
    · refine congrArg₂ (fun X I => normalSum X I b v.val c) ?_ h2.symm
      unfold mesh
      split
      · exact h0.symm
      · exact h1.symm
  funext i
  refine (congrArg (Cert.ReferenceIdeal.Value.res_main_v290 (F := Ideal) (StableHlo.launchContents m' d)) (at4_eta i)).trans
    ((key (i 0) (i 1) (i 2) (i 3)).trans (congrArg (out m d) (at4_eta i).symm))

theorem algebraic : Cert.algebraic_KernelIdeal_ReferenceIdeal (hKernelIdeal := Cert.KernelIdeal.Gen.facts) (hReferenceIdeal := Cert.ReferenceIdeal.Gen.facts)
    (hPre_face_range := Cert.Pre_face_range.Gen.facts) := by
  intro m g m' g' hpre hargs
  have hI : ∀ d, InRange (m (aLoc2 d)) := fun d => inRange_of_pre _ _ _ (hpre d)
  refine ⟨fun c => out m c, ?_, ?_⟩
  · exact (θ_run Cert.KernelIdeal.defs _ _).mono (fun _ h c => ⟨(h.1 c).2.2.2, (h.1 c).1, (h.1 c).2.1, (h.1 c).2.2.1⟩)
      (run_main (F := Ideal) m g (facesOK m hI))
  · exact (θ_run Cert.ReferenceIdeal.defs _ _).mono
      (fun _ h c => ⟨(h c).1.trans (res_eq_out m m' c hI (hargs c).1 (hargs c).2.1 (hargs c).2.2), (h c).2⟩)
      (Cert.ReferenceIdeal.Value.run (F := Ideal) m' g')

end Cert.Proof.Normals

end
-- ==== Proof.LossStep.lean ====
module

public import proofs.«01_k».proof.Proof.Gen.LossIdeal.Value

@[expose] public section

noncomputable section

namespace Cert.Proof.Losses

open Cert.LossIdeal Cert.LossIdeal.Gen Idealize.ShloMosaic Idealize.ShloMosaic.TcCoe Idealize.SL.Sem

variable {F : FTy → Type} [FloatOps F] [Named F]

theorem hz3 : (![0, 0, 0] : Fin 3 → Nat) = fun _ => 0 := funext fun a => by fin_cases a <;> rfl

theorem hz : (![0, 0] : Fin 2 → Nat) = fun _ => 0 := funext fun a => by fin_cases a <;> rfl

/-! ### What one grid point computes -/

/-- The squared distances of a mesh's vertices from one chunk of object points. -/
def dist (v : FVec F S778x3 .f32) (q : Vec F S1x3x1024 .f32) : FVec F S778x1024 .f32 := k0_pay21 v q

/-- The row of `w` of each object point's nearest vertex. -/
def pick (w : FVec F S778x6 .f32) (d : FVec F S778x1024 .f32) : FVec F S1024x6 .f32 :=
  k0_pay22 w (iota .tc S778x1024 32 [0] iota_S778x1024_d0_w32) d

/-- The signed distance of each object point from a mesh. -/
def signed (w : FVec F S778x6 .f32) (q : Vec F S1x1024x3 .f32) (d : FVec F S778x1024 .f32) : FVec F S1024x1 .f32 :=
  mulf (k0_pay26 w (iota .tc S778x1024 32 [0] iota_S778x1024_d0_w32) (k0_pay19 q) d)
    (k0_pay27 w (iota .tc S778x1024 32 [0] iota_S778x1024_d0_w32) (k0_pay19 q) d)

/-- The weight of each object point. -/
def weight (s t : FVec F S1024x1 .f32) : FVec F S1024x1 .f32 :=
  select (cmpf .olt s (broadcast S1024x1 (Scalar.ofBits .f32 0x00000000#32)))
    (broadcast S1024x1 (Scalar.ofBits .f32 0x3FC00000#32))
    (select (andi (cmpf .olt t (broadcast S1024x1 (Scalar.ofBits .f32 0x3C23D70A#32)))
        (cmpf .ogt t (broadcast S1024x1 (Scalar.ofBits .f32 0xBBA3D70A#32))))
      (broadcast S1024x1 (Scalar.ofBits .f32 0x3F800000#32))
      (broadcast S1024x1 (Scalar.ofBits .f32 0x3DCCCCCD#32)))

/-- The weighted difference of the two meshes' signed distances, over one chunk. -/
def chunk (s t : FVec F S1024x1 .f32) : F .f32 :=
  extractAt ![0, 0, 0]
    (shapeCast S1x1x1
      (multiReduction .add [1, 2] S1
        (shapeCast S1x1024x1 (mulf (absf (subf s t)) (weight s t)) shapeCasts_S1024x1_S1x1024x1)
        0x00000000#32 reduces_S1x1024x1_S1 (.inl rfl) rfl)
      shapeCasts_S1_S1x1x1) inpos_S1x1x1_p0_0_0

/-- The smallest distance of each vertex from one chunk of object points. -/
def low (d : FVec F S778x1024 .f32) : FVec F S778x1 .f32 := k0_pay28 d

/-- The nearest object point, within one chunk, of each vertex. -/
def near (q : Vec F S1x1024x3 .f32) (d : FVec F S778x1024 .f32) : FVec F S778x3 .f32 :=
  matmul dot_S778x1024_S1024x3_S778x3_1_0_0_1_n_n none
    (sitofp .f32 (extui 32 (cmpi .eq (iota .tc S778x1024 32 [1] iota_S778x1024_d1_w32)
      (broadcastTo S778x1024
        (shapeCast S778x1
          (multiReductionI .minsi [1] S778
            (select (cmpf .oeq d (broadcastTo S778x1024 (low d) broadcasts_S778x1_S778x1024))
              (iota .tc S778x1024 32 [1] iota_S778x1024_d1_w32) (broadcast S778x1024 1073741824#32))
            2147483647#32 reduces_S778x1024_S778 rfl)
          shapeCasts_S778_S778x1)
        broadcasts_S778x1_S778x1024)) natLt_1_32))
    (k0_pay19 q) (constant S778x3 .f32 0x00000000#32)

/-- The object point kept for each vertex: the later chunk's, where it is nearer than the one kept. -/
def keep (l m : FVec F S778x1 .f32) (a b : FVec F S778x3 .f32) : FVec F S778x3 .f32 :=
  select (broadcastTo S778x3 (shapeCast S778x1 (cmpf .olt l m) shapeCasts_S778x1_S778x1) broadcasts_S778x1_S778x3) a b

/-- The nearest object point of each vertex, over both chunks. -/
def nearest (q0 q1 : Vec F S1x1024x3 .f32) (d0 d1 : FVec F S778x1024 .f32) : FVec F S778x3 .f32 :=
  keep (low d1) (select (cmpf .olt (low d0) k0_pay14) (low d0) k0_pay14) (near q1 d1)
    (keep (low d0) k0_pay14 (near q0 d0) k0_pay15)

/-- The squared distance of each vertex from a point. -/
def gap (v p : FVec F S778x3 .f32) : FVec F S778 .f32 :=
  multiReduction .add [1] S778 (mulf (subf v p) (subf v p)) 0x00000000#32 reduces_S778x3_S778 (.inl rfl) rfl

/-- The object loss of one batch element. -/
def hoVal (x0 x1 : Vec F S1x778x3 .f32) (na nb : Vec F S1x1x778x3 .f32) (t0 t1 : Vec F S1x3x1024 .f32)
    (q0 q1 : Vec F S1x1024x3 .f32) (x5 : Vec F S778x1 .f32) : F .f32 :=
  k0_pay73 (k0_pay5 x5)
    (Scalar.addf
      (Scalar.addf (Scalar.ofBits .f32 0x00000000#32)
        (chunk (signed (k0_pay10 x0 na) q0 (dist (k0_pay3 x0) t0))
          (signed (k0_pay10 x1 nb) q0 (dist (k0_pay3 x1) t0))))
      (chunk (signed (k0_pay10 x0 na) q1 (dist (k0_pay3 x0) t1))
        (signed (k0_pay10 x1 nb) q1 (dist (k0_pay3 x1) t1))))
    (sqrt (shapeCast S778x1
      (gap (k0_pay3 x0) (nearest q0 q1 (dist (k0_pay3 x0) t0) (dist (k0_pay3 x0) t1))) shapeCasts_S778_S778x1))
    (gap (k0_pay3 x1) (nearest q0 q1 (dist (k0_pay3 x1) t0) (dist (k0_pay3 x1) t1)))

/-- The object loss of one batch element, from the blocks the kernel is given. -/
def hoOf (x0 x1 : Vec F S1x778x3 .f32) (x2 : Vec F S1x2x778x3 .f32) (x3 : Vec F S1x3x2048 .f32)
    (x4 : Vec F S1x2048x3 .f32) (x5 : Vec F S778x1 .f32) : F .f32 :=
  hoVal x0 x1 (View.ld x2 (Rect.unit ![0, 0, 0, 0] ![1, 1, 778, 3] inb_S1x2x778x3_S1x1x778x3_0_0_0_0))
    (View.ld x2 (Rect.unit ![0, 1, 0, 0] ![1, 1, 778, 3] inb_S1x2x778x3_S1x1x778x3_0_1_0_0))
    (View.ld x3 (Rect.unit ![0, 0, 0] ![1, 3, 1024] inb_S1x3x2048_S1x3x1024_0_0_0))
    (View.ld x3 (Rect.unit ![0, 0, 1024] ![1, 3, 1024] inb_S1x3x2048_S1x3x1024_0_0_1024))
    (View.ld x4 (Rect.unit ![0, 0, 0] ![1, 1024, 3] inb_S1x2048x3_S1x1024x3_0_0_0))
    (View.ld x4 (Rect.unit ![0, 1024, 0] ![1, 1024, 3] inb_S1x2048x3_S1x1024x3_0_1024_0)) x5

/-- The parameter loss of one batch element. -/
def paramOf (x6 x7 : Vec F S1x1x61 .f32) : F .f32 := k0_pay74 (k0_pay6 x6) (k0_pay7 x7)

/-- The reconstruction loss of one batch element. -/
def reconOf (x0 x1 : Vec F S1x778x3 .f32) : F .f32 := k0_pay75 (k0_pay3 x0) (k0_pay4 x1)

/-- The divergence of one batch element. -/
def kldOf (x8 x9 : Vec F S1x1x64 .f32) : F .f32 := k0_pay76 (k0_pay8 x8) (k0_pay9 x9)

/-- The whole loss of one batch element, from its four parts. -/
def lossOf (recon kld param ho : F .f32) : F .f32 :=
  Scalar.addf (Scalar.addf (Scalar.addf recon kld) (Scalar.mulf (Scalar.ofBits .f32 0x3DCCCCCD#32) param))
    (Scalar.mulf (Scalar.ofBits .f32 0x41200000#32) ho)

/-- One step of a running sum, as the kernel takes it. -/
def plus (prev : Vec F S1x1 .f32) (v : F .f32) : Vec F S1x1 .f32 :=
  addf prev (mulf (broadcast S1x1 (Scalar.ofBits .f32 0x3F800000#32)) (broadcast S1x1 v))

/-- The zero a running sum starts from. -/
def zero : Vec F S1x1 .f32 := broadcast S1x1 (Scalar.ofBits .f32 0x00000000#32)

theorem step10 (h r : F .f32) (x : Vec F S1x1 .f32) : k0_pay78 h r x =
    plus x (Scalar.addf r (Scalar.mulf (Scalar.ofBits .f32 0x41200000#32) h)) := by
  unfold k0_pay78
  simp only [shapeCast_self]
  rfl

theorem step11 (v : F .f32) (x : Vec F S1x1 .f32) : k0_pay79 v x = plus x v := by
  unfold k0_pay79
  simp only [shapeCast_self]
  rfl

theorem step12 (v : F .f32) (x : Vec F S1x1 .f32) : k0_pay80 v x = plus x v := by
  unfold k0_pay80
  simp only [shapeCast_self]
  rfl

theorem step13 (v : F .f32) (x : Vec F S1x1 .f32) : k0_pay81 v x = plus x v := by
  unfold k0_pay81
  simp only [shapeCast_self]
  rfl

theorem step14 (v : F .f32) (x : Vec F S1x1 .f32) :
    k0_pay1 v (k0_pay82 x) (Scalar.ofBits .f32 0x3F800000#32) = plus x v := by
  unfold k0_pay1 k0_pay82
  simp only [shapeCast_self]
  rfl

/-! ### What the body leaves in each result block -/

theorem loss_A (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
      plus zero (lossOf (reconOf x0 x1) (kldOf x8 x9) (paramOf x6 x7) (hoOf x0 x1 x2 x3 x4 x5)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step10 ..).trans (congrArg (plus _) rfl)

theorem param_A (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
      plus zero (paramOf x6 x7) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step11 ..).trans (congrArg (plus _) rfl)

theorem ho_A (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
      plus zero (hoOf x0 x1 x2 x3 x4 x5) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step12 ..).trans (congrArg (plus _) rfl)

theorem recon_A (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
      plus zero (reconOf x0 x1) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step13 ..).trans (congrArg (plus _) rfl)

theorem kld_A (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 =
      plus zero (kldOf x8 x9) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step14 ..).trans (congrArg (plus _) rfl)

theorem loss_B (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : ¬cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) (xo10 : Vec F S1x1 .f32) (xo11 : Vec F S1x1 .f32) (xo12 : Vec F S1x1 .f32) (xo13 : Vec F S1x1 .f32) (xo14 : Vec F S1x1 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14 =
      plus xo10 (lossOf (reconOf x0 x1) (kldOf x8 x9) (paramOf x6 x7) (hoOf x0 x1 x2 x3 x4 x5)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step10 ..).trans (congrArg (plus _) rfl)

theorem param_B (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : ¬cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) (xo10 : Vec F S1x1 .f32) (xo11 : Vec F S1x1 .f32) (xo12 : Vec F S1x1 .f32) (xo13 : Vec F S1x1 .f32) (xo14 : Vec F S1x1 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14 =
      plus xo11 (paramOf x6 x7) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step11 ..).trans (congrArg (plus _) rfl)

theorem ho_B (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : ¬cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) (xo10 : Vec F S1x1 .f32) (xo11 : Vec F S1x1 .f32) (xo12 : Vec F S1x1 .f32) (xo13 : Vec F S1x1 .f32) (xo14 : Vec F S1x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14 =
      plus xo12 (hoOf x0 x1 x2 x3 x4 x5) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg13.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step12 ..).trans (congrArg (plus _) rfl)

theorem recon_B (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : ¬cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) (xo10 : Vec F S1x1 .f32) (xo11 : Vec F S1x1 .f32) (xo12 : Vec F S1x1 .f32) (xo13 : Vec F S1x1 .f32) (xo14 : Vec F S1x1 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14 =
      plus xo13 (reconOf x0 x1) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg14.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step13 ..).trans (congrArg (plus _) rfl)

theorem kld_B (c : Dev nD) (i : grid0.Coords) (arg1 : Memref sig .tc .vmem S1x778x3 .f32) (harg1 : arg1.IsWhole) (arg2 : Memref sig .tc .vmem S1x778x3 .f32) (harg2 : arg2.IsWhole) (arg3 : Memref sig .tc .vmem S1x2x778x3 .f32) (harg3 : arg3.IsWhole) (arg4 : Memref sig .tc .vmem S1x3x2048 .f32) (harg4 : arg4.IsWhole) (arg5 : Memref sig .tc .vmem S1x2048x3 .f32) (harg5 : arg5.IsWhole) (arg6 : Memref sig .tc .vmem S778x1 .f32) (harg6 : arg6.IsWhole) (arg7 : Memref sig .tc .vmem S1x1x61 .f32) (harg7 : arg7.IsWhole) (arg8 : Memref sig .tc .vmem S1x1x61 .f32) (harg8 : arg8.IsWhole) (arg9 : Memref sig .tc .vmem S1x1x64 .f32) (harg9 : arg9.IsWhole) (arg10 : Memref sig .tc .vmem S1x1x64 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1 .f32) (harg15 : arg15.IsWhole) (hc0 : ¬cond0_0 i)
    (x0 : Vec F S1x778x3 .f32) (x1 : Vec F S1x778x3 .f32) (x2 : Vec F S1x2x778x3 .f32) (x3 : Vec F S1x3x2048 .f32) (x4 : Vec F S1x2048x3 .f32) (x5 : Vec F S778x1 .f32) (x6 : Vec F S1x1x61 .f32) (x7 : Vec F S1x1x61 .f32) (x8 : Vec F S1x1x64 .f32) (x9 : Vec F S1x1x64 .f32) (xo10 : Vec F S1x1 .f32) (xo11 : Vec F S1x1 .f32) (xo12 : Vec F S1x1 .f32) (xo13 : Vec F S1x1 .f32) (xo14 : Vec F S1x1 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14 =
      plus xo14 (kldOf x8 x9) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xo10 xo11 xo12 xo13 xo14)]
  unfold kernelRun0_B
  dsimp only
  rw [View.canon_unit_zero hz]
  sl_unfold_words
  simp only [View.readAt_eq_ld, harg1.read_unread, harg2.read_unread, harg3.read_unread, harg4.read_unread, harg5.read_unread, harg6.read_unread, harg7.read_unread, harg8.read_unread, harg9.read_unread, harg10.read_unread, harg15.read_unread, View.ld_unit_zero (S := S1x1) hz, View.ld_unit_zero (S := S1x778x3) hz3,
    View.ld_unit_zero (S := S778x1) hz, View.ld_unit_zero (S := S1x1x61) hz3, View.ld_unit_zero (S := S1x1x64) hz3]
  exact (step14 ..).trans (congrArg (plus _) rfl)

end Cert.Proof.Losses

end
-- ==== Proof.LossFold.lean ====
module

public import proofs.«01_k».proof.Proof.LossStep

@[expose] public section

noncomputable section

namespace Cert.Proof.Losses

open Cert.LossIdeal Cert.LossIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ### The five running sums -/

/-- The parameter loss of the batch element of point `t`. -/
def paramAt (c : Dev nD) (t : Fin cfg0.N) : F .f32 := paramOf (iblk m c 6 t) (iblk m c 7 t)

/-- The reconstruction loss of the batch element of point `t`. -/
def reconAt (c : Dev nD) (t : Fin cfg0.N) : F .f32 := reconOf (iblk m c 0 t) (iblk m c 1 t)

/-- The divergence of the batch element of point `t`. -/
def kldAt (c : Dev nD) (t : Fin cfg0.N) : F .f32 := kldOf (iblk m c 8 t) (iblk m c 9 t)

/-- The object loss of the batch element of point `t`. -/
def hoAt (c : Dev nD) (t : Fin cfg0.N) : F .f32 :=
  hoOf (iblk m c 0 t) (iblk m c 1 t) (iblk m c 2 t) (iblk m c 3 t) (iblk m c 4 t) (iblk m c 5 t)

/-- The whole loss of the batch element of point `t`. -/
def lossAt (c : Dev nD) (t : Fin cfg0.N) : F .f32 :=
  lossOf (reconAt m c t) (kldAt m c t) (paramAt m c t) (hoAt m c t)

/-- The running sum of `f` after point `n`. -/
def chain (f : Fin cfg0.N → F .f32) : (n : ℕ) → n < cfg0.N → Vec F S1x1 .f32
  | 0, h => plus zero (f ⟨0, h⟩)
  | n + 1, h => plus (chain f n (Nat.lt_of_succ_lt h)) (f ⟨n + 1, h⟩)

/-- The result blocks hold the running sums. -/
theorem outsAt_eq (c : Dev nD) : ∀ (n : ℕ) (h : n < cfg0.N), outsAt0 m c n h =
    (chain (lossAt m c) n h, chain (paramAt m c) n h, chain (hoAt m c) n h, chain (reconAt m c) n h,
      chain (kldAt m c) n h)
  | 0, h => (outsAt0_A m c ⟨0, h⟩ rfl).trans (by
      rw [loss_A, param_A, ho_A, recon_A, kld_A]; rfl)
  | n + 1, h => by
    have hN : cfg0.N = 16 := N_0
    have hB : ¬(⟨n + 1, h⟩ : Fin cfg0.N).val % 16 = 0 := by dsimp only; omega
    refine (outsAt0_B m c ⟨n + 1, h⟩ hB).trans ?_
    rw [loss_B, param_B, ho_B, recon_B, kld_B]
    have ih := outsAt_eq c n (Nat.lt_of_succ_lt h)
    show (plus (outsAt0 m c n _).1 _, plus (outsAt0 m c n _).2.1 _, plus (outsAt0 m c n _).2.2.1 _,
      plus (outsAt0 m c n _).2.2.2.1 _, plus (outsAt0 m c n _).2.2.2.2 _) = _
    rw [ih]
    rfl

theorem last : 15 < cfg0.N := by rw [show cfg0.N = 16 from N_0]; decide

theorem loss_flushed (c : Dev nD) (t : Fin cfg0.N) (hf : (cfg0.win 10).flush t = true) :
    (dats m 0 c).flushed 10 t = ((cfg0.win 10).blk t).view.read (Elt F) (chain (lossAt m c) 15 last) := by
  have hN : cfg0.N = 16 := N_0
  have h3 : t.val = 15 := by have := (flush0_10 t).mp hf; have := t.isLt; omega
  obtain rfl : t = ⟨15, last⟩ := Fin.ext h3
  show (cfg0.win 10).cut (grid0.coords ⟨15, last⟩) ((dats m 0 c).after 10 ⟨15, last⟩) = _
  rw [after0_10, outsAt_eq]
  have hz' : (fun a => win0_10.index (⟨15, last⟩ : Fin cfg0.N) a * main_v6_0.ty.shape.size a) = fun _ => 0 :=
    funext fun a => by fin_cases a <;> decide
  exact (Memref.read_access_unit_zero (Elt F) main_v6_0 hz' (fun a => by rw [congrFun hz' a]; simp)
    (chain (lossAt m c) 15 last)).symm

/-- The result array ends holding the sum over the batch. -/
theorem loss_final (c : Dev nD) : (dats m 0 c).arrAt 10 cfg0.N = chain (lossAt m c) 15 last :=
  (dats m 0 c).arrAt_eq_of_cover 10 (chain (lossAt m c) 15 last) (loss_flushed m c) fun i =>
    ⟨⟨15, last⟩, (flush0_10 ⟨15, last⟩).mpr rfl, by
      show i ∈ ((View.whole main_v6_0).slice (win0_10.rect (⟨15, last⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_10.index (⟨15, last⟩ : Fin cfg0.N) 0 * win0_10.size 0 ≤ (i 0 : Nat) ∧
                    (i 0 : Nat) < win0_10.index (⟨15, last⟩ : Fin cfg0.N) 0 * win0_10.size 0 +
                      win0_10.xsize (grid0.coords (⟨15, last⟩ : Fin cfg0.N)) 0
                  rw [show win0_10.index (⟨15, last⟩ : Fin cfg0.N) 0 * win0_10.size 0 = 0 from by decide +kernel,
                    show win0_10.xsize (grid0.coords (⟨15, last⟩ : Fin cfg0.N)) 0 = 1 from by decide +kernel]; omega
      | ⟨1, _⟩ => show win0_10.index (⟨15, last⟩ : Fin cfg0.N) 1 * win0_10.size 1 ≤ (i 1 : Nat) ∧
                    (i 1 : Nat) < win0_10.index (⟨15, last⟩ : Fin cfg0.N) 1 * win0_10.size 1 +
                      win0_10.xsize (grid0.coords (⟨15, last⟩ : Fin cfg0.N)) 1
                  rw [show win0_10.index (⟨15, last⟩ : Fin cfg0.N) 1 * win0_10.size 1 = 0 from by decide +kernel,
                    show win0_10.xsize (grid0.coords (⟨15, last⟩ : Fin cfg0.N)) 1 = 1 from by decide +kernel]; omega⟩

theorem param_flushed (c : Dev nD) (t : Fin cfg0.N) (hf : (cfg0.win 11).flush t = true) :
    (dats m 0 c).flushed 11 t = ((cfg0.win 11).blk t).view.read (Elt F) (chain (paramAt m c) 15 last) := by
  have hN : cfg0.N = 16 := N_0
  have h3 : t.val = 15 := by have := (flush0_11 t).mp hf; have := t.isLt; omega
  obtain rfl : t = ⟨15, last⟩ := Fin.ext h3
  show (cfg0.win 11).cut (grid0.coords ⟨15, last⟩) ((dats m 0 c).after 11 ⟨15, last⟩) = _
  rw [after0_11, outsAt_eq]
  have hz' : (fun a => win0_11.index (⟨15, last⟩ : Fin cfg0.N) a * main_v6_1.ty.shape.size a) = fun _ => 0 :=
    funext fun a => by fin_cases a <;> decide
  exact (Memref.read_access_unit_zero (Elt F) main_v6_1 hz' (fun a => by rw [congrFun hz' a]; simp)
    (chain (paramAt m c) 15 last)).symm

/-- The result array ends holding the sum over the batch. -/
theorem param_final (c : Dev nD) : (dats m 0 c).arrAt 11 cfg0.N = chain (paramAt m c) 15 last :=
  (dats m 0 c).arrAt_eq_of_cover 11 (chain (paramAt m c) 15 last) (param_flushed m c) fun i =>
    ⟨⟨15, last⟩, (flush0_11 ⟨15, last⟩).mpr rfl, by
      show i ∈ ((View.whole main_v6_1).slice (win0_11.rect (⟨15, last⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_11.index (⟨15, last⟩ : Fin cfg0.N) 0 * win0_11.size 0 ≤ (i 0 : Nat) ∧
                    (i 0 : Nat) < win0_11.index (⟨15, last⟩ : Fin cfg0.N) 0 * win0_11.size 0 +
                      win0_11.xsize (grid0.coords (⟨15, last⟩ : Fin cfg0.N)) 0
                  rw [show win0_11.index (⟨15, last⟩ : Fin cfg0.N) 0 * win0_11.size 0 = 0 from by decide +kernel,
                    show win0_11.xsize (grid0.coords (⟨15, last⟩ : Fin cfg0.N)) 0 = 1 from by decide +kernel]; omega
      | ⟨1, _⟩ => show win0_11.index (⟨15, last⟩ : Fin cfg0.N) 1 * win0_11.size 1 ≤ (i 1 : Nat) ∧
                    (i 1 : Nat) < win0_11.index (⟨15, last⟩ : Fin cfg0.N) 1 * win0_11.size 1 +
                      win0_11.xsize (grid0.coords (⟨15, last⟩ : Fin cfg0.N)) 1
                  rw [show win0_11.index (⟨15, last⟩ : Fin cfg0.N) 1 * win0_11.size 1 = 0 from by decide +kernel,
                    show win0_11.xsize (grid0.coords (⟨15, last⟩ : Fin cfg0.N)) 1 = 1 from by decide +kernel]; omega⟩

theorem ho_flushed (c : Dev nD) (t : Fin cfg0.N) (hf : (cfg0.win 12).flush t = true) :
    (dats m 0 c).flushed 12 t = ((cfg0.win 12).blk t).view.read (Elt F) (chain (hoAt m c) 15 last) := by
  have hN : cfg0.N = 16 := N_0
  have h3 : t.val = 15 := by have := (flush0_12 t).mp hf; have := t.isLt; omega
  obtain rfl : t = ⟨15, last⟩ := Fin.ext h3
  show (cfg0.win 12).cut (grid0.coords ⟨15, last⟩) ((dats m 0 c).after 12 ⟨15, last⟩) = _
  rw [after0_12, outsAt_eq]
  have hz' : (fun a => win0_12.index (⟨15, last⟩ : Fin cfg0.N) a * main_v6_2.ty.shape.size a) = fun _ => 0 :=
    funext fun a => by fin_cases a <;> decide
  exact (Memref.read_access_unit_zero (Elt F) main_v6_2 hz' (fun a => by rw [congrFun hz' a]; simp)
    (chain (hoAt m c) 15 last)).symm

/-- The result array ends holding the sum over the batch. -/
theorem ho_final (c : Dev nD) : (dats m 0 c).arrAt 12 cfg0.N = chain (hoAt m c) 15 last :=
  (dats m 0 c).arrAt_eq_of_cover 12 (chain (hoAt m c) 15 last) (ho_flushed m c) fun i =>
    ⟨⟨15, last⟩, (flush0_12 ⟨15, last⟩).mpr rfl, by
      show i ∈ ((View.whole main_v6_2).slice (win0_12.rect (⟨15, last⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_12.index (⟨15, last⟩ : Fin cfg0.N) 0 * win0_12.size 0 ≤ (i 0 : Nat) ∧
                    (i 0 : Nat) < win0_12.index (⟨15, last⟩ : Fin cfg0.N) 0 * win0_12.size 0 +
                      win0_12.xsize (grid0.coords (⟨15, last⟩ : Fin cfg0.N)) 0
                  rw [show win0_12.index (⟨15, last⟩ : Fin cfg0.N) 0 * win0_12.size 0 = 0 from by decide +kernel,
                    show win0_12.xsize (grid0.coords (⟨15, last⟩ : Fin cfg0.N)) 0 = 1 from by decide +kernel]; omega
      | ⟨1, _⟩ => show win0_12.index (⟨15, last⟩ : Fin cfg0.N) 1 * win0_12.size 1 ≤ (i 1 : Nat) ∧
                    (i 1 : Nat) < win0_12.index (⟨15, last⟩ : Fin cfg0.N) 1 * win0_12.size 1 +
                      win0_12.xsize (grid0.coords (⟨15, last⟩ : Fin cfg0.N)) 1
                  rw [show win0_12.index (⟨15, last⟩ : Fin cfg0.N) 1 * win0_12.size 1 = 0 from by decide +kernel,
                    show win0_12.xsize (grid0.coords (⟨15, last⟩ : Fin cfg0.N)) 1 = 1 from by decide +kernel]; omega⟩

theorem recon_flushed (c : Dev nD) (t : Fin cfg0.N) (hf : (cfg0.win 13).flush t = true) :
    (dats m 0 c).flushed 13 t = ((cfg0.win 13).blk t).view.read (Elt F) (chain (reconAt m c) 15 last) := by
  have hN : cfg0.N = 16 := N_0
  have h3 : t.val = 15 := by have := (flush0_13 t).mp hf; have := t.isLt; omega
  obtain rfl : t = ⟨15, last⟩ := Fin.ext h3
  show (cfg0.win 13).cut (grid0.coords ⟨15, last⟩) ((dats m 0 c).after 13 ⟨15, last⟩) = _
  rw [after0_13, outsAt_eq]
  have hz' : (fun a => win0_13.index (⟨15, last⟩ : Fin cfg0.N) a * main_v6_3.ty.shape.size a) = fun _ => 0 :=
    funext fun a => by fin_cases a <;> decide
  exact (Memref.read_access_unit_zero (Elt F) main_v6_3 hz' (fun a => by rw [congrFun hz' a]; simp)
    (chain (reconAt m c) 15 last)).symm

/-- The result array ends holding the sum over the batch. -/
theorem recon_final (c : Dev nD) : (dats m 0 c).arrAt 13 cfg0.N = chain (reconAt m c) 15 last :=
  (dats m 0 c).arrAt_eq_of_cover 13 (chain (reconAt m c) 15 last) (recon_flushed m c) fun i =>
    ⟨⟨15, last⟩, (flush0_13 ⟨15, last⟩).mpr rfl, by
      show i ∈ ((View.whole main_v6_3).slice (win0_13.rect (⟨15, last⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_13.index (⟨15, last⟩ : Fin cfg0.N) 0 * win0_13.size 0 ≤ (i 0 : Nat) ∧
                    (i 0 : Nat) < win0_13.index (⟨15, last⟩ : Fin cfg0.N) 0 * win0_13.size 0 +
                      win0_13.xsize (grid0.coords (⟨15, last⟩ : Fin cfg0.N)) 0
                  rw [show win0_13.index (⟨15, last⟩ : Fin cfg0.N) 0 * win0_13.size 0 = 0 from by decide +kernel,
                    show win0_13.xsize (grid0.coords (⟨15, last⟩ : Fin cfg0.N)) 0 = 1 from by decide +kernel]; omega
      | ⟨1, _⟩ => show win0_13.index (⟨15, last⟩ : Fin cfg0.N) 1 * win0_13.size 1 ≤ (i 1 : Nat) ∧
                    (i 1 : Nat) < win0_13.index (⟨15, last⟩ : Fin cfg0.N) 1 * win0_13.size 1 +
                      win0_13.xsize (grid0.coords (⟨15, last⟩ : Fin cfg0.N)) 1
                  rw [show win0_13.index (⟨15, last⟩ : Fin cfg0.N) 1 * win0_13.size 1 = 0 from by decide +kernel,
                    show win0_13.xsize (grid0.coords (⟨15, last⟩ : Fin cfg0.N)) 1 = 1 from by decide +kernel]; omega⟩

theorem kld_flushed (c : Dev nD) (t : Fin cfg0.N) (hf : (cfg0.win 14).flush t = true) :
    (dats m 0 c).flushed 14 t = ((cfg0.win 14).blk t).view.read (Elt F) (chain (kldAt m c) 15 last) := by
  have hN : cfg0.N = 16 := N_0
  have h3 : t.val = 15 := by have := (flush0_14 t).mp hf; have := t.isLt; omega
  obtain rfl : t = ⟨15, last⟩ := Fin.ext h3
  show (cfg0.win 14).cut (grid0.coords ⟨15, last⟩) ((dats m 0 c).after 14 ⟨15, last⟩) = _
  rw [after0_14, outsAt_eq]
  have hz' : (fun a => win0_14.index (⟨15, last⟩ : Fin cfg0.N) a * main_v6_4.ty.shape.size a) = fun _ => 0 :=
    funext fun a => by fin_cases a <;> decide
  exact (Memref.read_access_unit_zero (Elt F) main_v6_4 hz' (fun a => by rw [congrFun hz' a]; simp)
    (chain (kldAt m c) 15 last)).symm

/-- The result array ends holding the sum over the batch. -/
theorem kld_final (c : Dev nD) : (dats m 0 c).arrAt 14 cfg0.N = chain (kldAt m c) 15 last :=
  (dats m 0 c).arrAt_eq_of_cover 14 (chain (kldAt m c) 15 last) (kld_flushed m c) fun i =>
    ⟨⟨15, last⟩, (flush0_14 ⟨15, last⟩).mpr rfl, by
      show i ∈ ((View.whole main_v6_4).slice (win0_14.rect (⟨15, last⟩ : Fin cfg0.N))).set
      rw [View.set_slice_whole, Rect.mem_set_unit]
      intro a
      have h0 : (i 0 : Nat) < 1 := (i 0).isLt
      have h1 : (i 1 : Nat) < 1 := (i 1).isLt
      match a with
      | ⟨0, _⟩ => show win0_14.index (⟨15, last⟩ : Fin cfg0.N) 0 * win0_14.size 0 ≤ (i 0 : Nat) ∧
                    (i 0 : Nat) < win0_14.index (⟨15, last⟩ : Fin cfg0.N) 0 * win0_14.size 0 +
                      win0_14.xsize (grid0.coords (⟨15, last⟩ : Fin cfg0.N)) 0
                  rw [show win0_14.index (⟨15, last⟩ : Fin cfg0.N) 0 * win0_14.size 0 = 0 from by decide +kernel,
                    show win0_14.xsize (grid0.coords (⟨15, last⟩ : Fin cfg0.N)) 0 = 1 from by decide +kernel]; omega
      | ⟨1, _⟩ => show win0_14.index (⟨15, last⟩ : Fin cfg0.N) 1 * win0_14.size 1 ≤ (i 1 : Nat) ∧
                    (i 1 : Nat) < win0_14.index (⟨15, last⟩ : Fin cfg0.N) 1 * win0_14.size 1 +
                      win0_14.xsize (grid0.coords (⟨15, last⟩ : Fin cfg0.N)) 1
                  rw [show win0_14.index (⟨15, last⟩ : Fin cfg0.N) 1 * win0_14.size 1 = 0 from by decide +kernel,
                    show win0_14.xsize (grid0.coords (⟨15, last⟩ : Fin cfg0.N)) 1 = 1 from by decide +kernel]; omega⟩

end Cert.Proof.Losses

end
-- ==== Proof.LossMath.lean ====
/- The plain mathematics the losses' proof needs, on extended reals: the first index of a least value and the ways the
   programs find it, sums scaled by a constant, and the values of the float constants both programs print. -/
module

public import Idealize.ShloMosaic.Lib.Pointwise
public import Idealize.ShloMosaic.Lib.IdealHost
public import Idealize.ShloMosaic.PureOps.Ideal.Laws

@[expose] public section

namespace Cert.Proof.LossMath
open Idealize.ShloMosaic

/-! ## Constants -/

theorem bits_top : Ideal.ofBits .f32 2139095040#32 = ⊤ := by simp [Ideal.ofBits, Ideal.ieee]
theorem bits_zero : Ideal.ofBits .f32 0#32 = 0 := by simp [Ideal.ofBits, Ideal.ieee]
theorem bits_neg_one : Ideal.ofBits .f32 3212836864#32 = -1 := by
  rw [show (-1 : EReal) = ((-(1 : ℝ) : ℝ) : EReal) by rw [EReal.coe_neg, EReal.coe_one]]
  simp [Ideal.ofBits, Ideal.ieee, -EReal.coe_mul, -EReal.coe_neg]; norm_num
theorem bits_sixteen : Ideal.ofBits .f32 1098907648#32 = ((16 : ℝ) : EReal) := by
  simp [Ideal.ofBits, Ideal.ieee, -EReal.coe_mul]; norm_num
theorem bits_neg_half : Ideal.ofBits .f32 3204448256#32 = ((-(1 / 2) : ℝ) : EReal) := by
  simp [Ideal.ofBits, Ideal.ieee, -EReal.coe_mul, -EReal.coe_neg]; norm_num
theorem bits_ten : Ideal.ofBits .f32 1092616192#32 = ((10 : ℝ) : EReal) := by
  simp [Ideal.ofBits, Ideal.ieee, -EReal.coe_mul]; norm_num
theorem bits_two : Ideal.ofBits .f32 1073741824#32 = ((2 : ℝ) : EReal) := by
  simp [Ideal.ofBits, Ideal.ieee, -EReal.coe_mul]; norm_num
theorem bits_tenth : Ideal.ofBits .f32 1036831949#32 = (((13421773 : ℝ) / 134217728 : ℝ) : EReal) := by
  simp [Ideal.ofBits, Ideal.ieee, -EReal.coe_mul]; norm_num
theorem bits_power : Ideal.ofBits .f32 1053609165#32 = (((13421773 : ℝ) / 33554432 : ℝ) : EReal) := by
  simp [Ideal.ofBits, Ideal.ieee, -EReal.coe_mul]; norm_num
theorem bits_35 : Ideal.ofBits .f32 1108082688#32 = ((35 : ℝ) : EReal) := by
  simp [Ideal.ofBits, Ideal.ieee, -EReal.coe_mul]; norm_num
theorem bits_30 : Ideal.ofBits .f32 1106247680#32 = ((30 : ℝ) : EReal) := by
  simp [Ideal.ofBits, Ideal.ieee, -EReal.coe_mul]; norm_num
theorem bits_12448 : Ideal.ofBits .f32 1178763264#32 = ((12448 : ℝ) : EReal) := by
  simp [Ideal.ofBits, Ideal.ieee, -EReal.coe_mul]; norm_num
theorem bits_32768 : Ideal.ofBits .f32 1191182336#32 = ((32768 : ℝ) : EReal) := by
  simp [Ideal.ofBits, Ideal.ieee, -EReal.coe_mul]; norm_num
theorem bits_199 : Ideal.ofBits .f32 1128726528#32 = ((199 : ℝ) : EReal) := by
  simp [Ideal.ofBits, Ideal.ieee, -EReal.coe_mul]; norm_num
theorem bits_200 : Ideal.ofBits .f32 1128792064#32 = ((200 : ℝ) : EReal) := by
  simp [Ideal.ofBits, Ideal.ieee, -EReal.coe_mul]; norm_num

/-! ## The first index of a least value -/

/-- `i` is the first index at which `f` is least. -/
def IsFirst {n : ℕ} (f : Fin n → EReal) (i : Fin n) : Prop := (∀ j, f i ≤ f j) ∧ ∀ j, j < i → f i < f j

theorem IsFirst.unique {n : ℕ} {f : Fin n → EReal} {i j : Fin n} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

theorem exists_first {n : ℕ} [NeZero n] (f : Fin n → EReal) : ∃ i, IsFirst f i := by
  classical
  obtain ⟨m, -, hm⟩ := Finset.exists_min_image Finset.univ f ⟨0, Finset.mem_univ _⟩
  have hS : (Finset.univ.filter fun i => ∀ j, f i ≤ f j).Nonempty :=
    ⟨m, Finset.mem_filter.mpr ⟨Finset.mem_univ _, fun j => hm j (Finset.mem_univ _)⟩⟩
  have hmin := (Finset.mem_filter.mp (Finset.min'_mem _ hS)).2
  refine ⟨Finset.min' _ hS, hmin, fun j hj => ?_⟩
  by_contra h
  have hj' : j ∈ Finset.univ.filter fun i => ∀ j, f i ≤ f j :=
    Finset.mem_filter.mpr ⟨Finset.mem_univ _, fun k => (not_lt.mp h).trans (hmin k)⟩
  exact absurd (Finset.min'_le _ j hj') (not_le.mpr hj)

noncomputable def first {n : ℕ} [NeZero n] (f : Fin n → EReal) : Fin n := Classical.choose (exists_first f)
theorem first_spec {n : ℕ} [NeZero n] (f : Fin n → EReal) : IsFirst f (first f) := Classical.choose_spec (exists_first f)
theorem first_eq {n : ℕ} [NeZero n] {f : Fin n → EReal} {i : Fin n} (h : IsFirst f i) : first f = i :=
  (first_spec f).unique h

/-- A fold of `min` from `⊤` is the value at the first least index. -/
theorem fold_min {n : ℕ} [NeZero n] (f : Fin n → EReal) : Finset.fold min (⊤ : EReal) f Finset.univ = f (first f) :=
  le_antisymm ((Finset.fold_min_le _).mpr (.inr ⟨first f, Finset.mem_univ _, le_rfl⟩))
    ((Finset.le_fold_min _).mpr ⟨le_top, fun j _ => (first_spec f).1 j⟩)

theorem toInt_ofNat {k : ℕ} (h : k < 2 ^ 31) : (BitVec.ofNat 32 k).toInt = k := by
  have h' : (BitVec.ofNat 32 k).toNat = k := by rw [BitVec.toNat_ofNat]; omega
  rw [BitVec.toInt_eq_toNat_of_lt (by omega), h']

theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- The least of the indices where `f` takes its least value, as the kernel finds it. -/
theorem fold_minsi {n : ℕ} [NeZero n] (hn : n ≤ 1073741824) (f : Fin n → EReal) (v : EReal) (hv : v = f (first f))
    [∀ x, Decidable (f x = v)] :
    Finset.fold IntOp.minsi 2147483647#32
        (fun x : Fin n => if f x = v then BitVec.ofNat 32 x.val else 1073741824#32) Finset.univ
      = BitVec.ofNat 32 (first f).val := by
  apply BitVec.eq_of_toInt_eq
  rw [← Finset.fold_hom (op' := min) (m := BitVec.toInt) toInt_minsi]
  have hf := (first f).isLt
  have e1 : (BitVec.ofNat 32 (first f).val).toInt = ((first f).val : ℤ) := toInt_ofNat (by omega)
  apply le_antisymm
  · refine (Finset.fold_min_le _).mpr (.inr ⟨first f, Finset.mem_univ _, ?_⟩)
    simp [hv]
  · refine (Finset.le_fold_min _).mpr ⟨?_, fun x _ => ?_⟩
    · rw [e1, show (2147483647#32).toInt = 2147483647 from by decide]; omega
    · have hx := x.isLt
      split
      · rename_i h
        rw [e1, toInt_ofNat (by omega)]
        by_contra hc
        have hlt : x < first f := by rw [Fin.lt_def]; omega
        exact absurd ((first_spec f).2 x hlt) (by rw [h, hv]; exact lt_irrefl _)
      · rw [e1, show (1073741824#32).toInt = 1073741824 from by decide]; omega

theorem onehot {n : ℕ} (hn : n ≤ 1073741824) (x i : Fin n) :
    (FloatOps.sitofp (F := Ideal) .f32 (BitVec.setWidth 32
        (IntOp.cmpi .eq (BitVec.ofNat 32 x.val) (BitVec.ofNat 32 i.val))) : EReal) = if x = i then 1 else 0 := by
  have hx := x.isLt
  have hi := i.isLt
  by_cases h : x = i
  · subst h
    show (((BitVec.setWidth 32 (IntOp.cmpi .eq (BitVec.ofNat 32 x.val) (BitVec.ofNat 32 x.val))).toInt : ℝ) : EReal) = _
    simp [IntOp.cmpi]
  · have hne : BitVec.ofNat 32 x.val ≠ BitVec.ofNat 32 i.val := fun e => h (Fin.ext (by
      have := congrArg BitVec.toNat e
      rw [BitVec.toNat_ofNat, BitVec.toNat_ofNat] at this; omega))
    show (((BitVec.setWidth 32 (IntOp.cmpi .eq (BitVec.ofNat 32 x.val) (BitVec.ofNat 32 i.val))).toInt : ℝ) : EReal) = _
    rw [show IntOp.cmpi .eq (BitVec.ofNat 32 x.val) (BitVec.ofNat 32 i.val) = 0#1 from by
      show BitVec.ofBool (BitVec.ofNat 32 x.val == BitVec.ofNat 32 i.val) = 0#1
      rw [beq_eq_false_iff_ne.mpr hne]; rfl, if_neg h]
    simp

/-- The kernel's way of picking: a one-hot row, placed where the least value first stands, against the picked values. -/
theorem pick_sum {n : ℕ} [NeZero n] (hn : n ≤ 1073741824) (f : Fin n → EReal) (v : EReal) (hv : v = f (first f))
    [∀ x, Decidable (f x = v)] (w : Fin n → EReal) :
    (∑ x : Fin n, (FloatOps.sitofp (F := Ideal) .f32 (BitVec.setWidth 32 (IntOp.cmpi .eq (BitVec.ofNat 32 x.val)
        (Finset.fold IntOp.minsi 2147483647#32
          (fun x : Fin n => if f x = v then BitVec.ofNat 32 x.val else 1073741824#32) Finset.univ))) : EReal) * w x)
      = w (first f) := by
  rw [fold_minsi hn f v hv]
  simp only [onehot hn, ite_mul, one_mul, zero_mul, Finset.sum_ite_eq', Finset.mem_univ, if_true]

/-- The first least index of two chunks put together. -/
theorem first_two (f : Fin 2048 → EReal) (a b : Fin 1024 → EReal)
    (ha : ∀ j : Fin 1024, a j = f ⟨j.val, by omega⟩) (hb : ∀ j : Fin 1024, b j = f ⟨1024 + j.val, by omega⟩) :
    first f = if b (first b) < a (first a) then ⟨1024 + (first b).val, by omega⟩ else ⟨(first a).val, by omega⟩ := by
  have hA := first_spec a
  have hB := first_spec b
  have fa : ∀ (k : Fin 2048) (h : k.val < 1024), f k = a ⟨k.val, h⟩ := fun k h => (ha ⟨k.val, h⟩).symm
  have fb : ∀ (k : Fin 2048) (h : 1024 ≤ k.val), f k = b ⟨k.val - 1024, by omega⟩ := fun k h => by
    rw [hb]; congr 1; apply Fin.ext; show k.val = 1024 + (k.val - 1024); omega
  apply first_eq
  split
  · rename_i h
    refine ⟨fun j => ?_, fun j hj => ?_⟩
    · rw [← hb]
      by_cases hj : j.val < 1024
      · rw [fa j hj]; exact h.le.trans (hA.1 _)
      · rw [fb j (by omega)]; exact hB.1 _
    · rw [← hb]
      by_cases hj' : j.val < 1024
      · rw [fa j hj']; exact h.trans_le (hA.1 _)
      · rw [fb j (by omega)]; refine hB.2 _ ?_
        rw [Fin.lt_def] at hj ⊢; simp only at hj ⊢; omega
  · rename_i h
    refine ⟨fun j => ?_, fun j hj => ?_⟩
    · rw [← ha]
      by_cases hj : j.val < 1024
      · rw [fa j hj]; exact hA.1 _
      · rw [fb j (by omega)]; exact (not_lt.mp h).trans (hB.1 _)
    · rw [← ha]
      have hj' : j.val < 1024 := by rw [Fin.lt_def] at hj; simp only at hj; omega
      rw [fa j hj']; refine hA.2 _ ?_
      rw [Fin.lt_def] at hj ⊢; simpa using hj

/-! ## The reference's way of finding it: a left fold over (value, index) pairs -/

/-- The pair order of an argmin: by value, then by index. -/
def Before (r e : EReal × BitVec 32) : Prop := r.1 < e.1 ∨ (r.1 = e.1 ∧ r.2.toInt ≤ e.2.toInt)

theorem Before.refl (r : EReal × BitVec 32) : Before r r := .inr ⟨rfl, le_rfl⟩
theorem Before.trans {a b c : EReal × BitVec 32} (h : Before a b) (h' : Before b c) : Before a c := by
  rcases h with h | ⟨h, k⟩ <;> rcases h' with h' | ⟨h', k'⟩
  · exact .inl (h.trans h')
  · exact .inl (h.trans_eq h')
  · exact .inl (h.trans_lt h')
  · exact .inr ⟨h.trans h', k.trans k'⟩

theorem foldl_least (g : EReal × BitVec 32 → EReal × BitVec 32 → EReal × BitVec 32)
    (hg : ∀ a b, (g a b = a ∧ Before a b) ∨ (g a b = b ∧ Before b a)) (l : List (EReal × BitVec 32))
    (a : EReal × BitVec 32) : (l.foldl g a) ∈ a :: l ∧ ∀ e ∈ a :: l, Before (l.foldl g a) e := by
  induction l generalizing a with
  | nil => simp [Before.refl]
  | cons x l ih =>
    obtain ⟨h1, h2⟩ := ih (g a x)
    have hb := h2 _ List.mem_cons_self
    rw [List.foldl_cons]
    rcases hg a x with ⟨e, k⟩ | ⟨e, k⟩ <;> rw [e] at h1 h2 hb ⊢
    · refine ⟨?_, fun y hy => ?_⟩
      · rcases List.mem_cons.mp h1 with h | h
        · rw [h]; simp
        · exact List.mem_cons_of_mem _ (List.mem_cons_of_mem _ h)
      · rcases List.mem_cons.mp hy with h | h
        · rw [h]; exact hb
        · rcases List.mem_cons.mp h with h | h
          · rw [h]; exact hb.trans k
          · exact h2 _ (List.mem_cons_of_mem _ h)
    · refine ⟨List.mem_cons_of_mem _ h1, fun y hy => ?_⟩
      rcases List.mem_cons.mp hy with h | h
      · rw [h]; exact hb.trans k
      · exact h2 _ h

theorem foldl_first {n : ℕ} [NeZero n] (hn : n ≤ 1073741824) (f : Fin n → EReal)
    (g : EReal × BitVec 32 → EReal × BitVec 32 → EReal × BitVec 32)
    (hg : ∀ a b, (g a b = a ∧ Before a b) ∨ (g a b = b ∧ Before b a)) (l : List (EReal × BitVec 32))
    (hl : ∀ e, e ∈ l ↔ ∃ i : Fin n, e = (f i, BitVec.ofNat 32 i.val)) :
    (l.foldl g (⊤, 0#32)).2 = BitVec.ofNat 32 (first f).val := by
  obtain ⟨h1, h2⟩ := foldl_least g hg l (⊤, 0#32)
  have hi := first_spec f
  have hb := h2 _ (List.mem_cons_of_mem _ ((hl _).mpr ⟨first f, rfl⟩))
  have hlt := (first f).isLt
  rcases List.mem_cons.mp h1 with h | h
  · rw [h] at hb ⊢
    have ht : f (first f) = ⊤ := by
      rcases hb with hb | hb
      · exact absurd hb (not_lt.mpr le_top)
      · exact hb.1.symm
    have h0 : first f = 0 := by
      by_contra hc
      have := hi.2 0 (Nat.pos_of_ne_zero fun e => hc (Fin.ext (by simpa using e)))
      rw [ht] at this
      exact absurd this (not_lt.mpr le_top)
    rw [h0]; simp
  · obtain ⟨q, hq⟩ := (hl _).mp h
    rw [hq] at hb ⊢
    have hql := q.isLt
    suffices q = first f by rw [this]
    rcases hb with hb | ⟨hv, hb⟩
    · exact absurd hb (not_lt.mpr (hi.1 q))
    · simp only at hb
      rw [toInt_ofNat (by omega), toInt_ofNat (by omega)] at hb
      rcases lt_trichotomy q (first f) with k | k | k
      · exact absurd (hi.2 q k) (by rw [show f q = f (first f) from hv]; exact lt_irrefl _)
      · exact k
      · rw [Fin.lt_def] at k; omega

/-! ## Sums scaled by a constant -/

theorem mul_sum {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

theorem coe_nonneg_ne_top {r : ℝ} (h : 0 ≤ r) : (0 : EReal) ≤ (r : EReal) ∧ (r : EReal) ≠ ⊤ :=
  ⟨EReal.coe_nonneg.mpr h, EReal.coe_ne_top r⟩

theorem sum_ne_top {ι : Type*} (s : Finset ι) (f : ι → EReal) (h : ∀ i, f i ≠ ⊤) : ∑ i ∈ s, f i ≠ ⊤ := by
  classical
  induction s using Finset.induction_on with
  | empty => simp
  | insert a s ha ih => rw [Finset.sum_insert ha]; exact (EReal.add_lt_top (h a) ih).ne

theorem neg_sum {ι : Type*} (s : Finset ι) (f : ι → EReal) (h : ∀ i, f i ≠ ⊤) :
    -(∑ i ∈ s, f i) = ∑ i ∈ s, -(f i) := by
  classical
  induction s using Finset.induction_on with
  | empty => simp
  | insert a s ha ih =>
    rw [Finset.sum_insert ha, Finset.sum_insert ha,
      EReal.neg_add (.inr (sum_ne_top s f h)) (.inl (h a)), sub_eq_add_neg, ih]

theorem negHalf_sum {ι : Type*} (s : Finset ι) (f : ι → EReal) (h : ∀ i, f i ≠ ⊤) :
    ((-(1 / 2) : ℝ) : EReal) * ∑ i ∈ s, f i = ∑ i ∈ s, ((-(1 / 2) : ℝ) : EReal) * f i := by
  have e : ∀ x : EReal, ((-(1 / 2) : ℝ) : EReal) * x = ((1 / 2 : ℝ) : EReal) * -x := fun x => by
    rw [EReal.coe_neg, EReal.neg_mul, mul_comm _ (-x), EReal.neg_mul, mul_comm x]
  obtain ⟨h0, ht⟩ := coe_nonneg_ne_top (r := 1 / 2) (by norm_num)
  rw [e, neg_sum s f h, mul_sum s _ h0 ht]
  exact Finset.sum_congr rfl fun i _ => (e _).symm

theorem div_coe (x : EReal) {r : ℝ} (h : r ≠ 0) : Ideal.div x ((r : ℝ) : EReal) = ((r⁻¹ : ℝ) : EReal) * x := by
  have h' : ((r : ℝ) : EReal) ≠ 0 := fun e => h (by exact_mod_cast e)
  unfold Ideal.div
  rw [if_neg h', mul_comm, EReal.coe_inv]

theorem div_sum {ι : Type*} (s : Finset ι) (f : ι → EReal) {r : ℝ} (h : 0 < r) :
    Ideal.div (∑ i ∈ s, f i) ((r : ℝ) : EReal) = ∑ i ∈ s, Ideal.div (f i) ((r : ℝ) : EReal) := by
  obtain ⟨h0, ht⟩ := coe_nonneg_ne_top (r := r⁻¹) (inv_nonneg.mpr h.le)
  simp only [div_coe _ h.ne', mul_sum s _ h0 ht]

/-- The reference's weight of a mean of squares or distances, as the kernel's one constant. -/
theorem weighted (S : EReal) {a n k : ℝ} (hn : n ≠ 0) (hk : a * n⁻¹ * 199 * 200⁻¹ = k) :
    Ideal.div ((a : EReal) * Ideal.div S (n : EReal) * ((199 : ℝ) : EReal)) ((200 : ℝ) : EReal) = (k : EReal) * S := by
  rw [div_coe _ (by norm_num), div_coe _ hn, ← hk]
  simp only [EReal.coe_mul]
  ac_rfl

/-! ## Powers, signs, squares -/

theorem power (v : EReal) (hv : 0 ≤ v) :
    Ideal.exp (Ideal.ofBits .f32 1053609165#32 * Ideal.log v) = Ideal.pow v (Ideal.ofBits .f32 1053609165#32) := by
  rw [bits_power]
  have hy : (0 : ℝ) < 13421773 / 33554432 := by norm_num
  generalize (13421773 / 33554432 : ℝ) = y at hy
  induction v using EReal.rec with
  | bot => exact absurd hv (by simp)
  | top =>
    have : Ideal.log (⊤ : EReal) = ⊤ := rfl
    rw [this, EReal.coe_mul_top_of_pos hy]
    have h2 : Ideal.pow (⊤ : EReal) ((y : ℝ) : EReal) =
      if 0 < ((y : ℝ) : EReal) then ⊤ else if ((y : ℝ) : EReal) = 0 then 1 else 0 := rfl
    rw [h2, if_pos (EReal.coe_pos.mpr hy)]
    rfl
  | coe r =>
    have hr : 0 ≤ r := EReal.coe_nonneg.mp hv
    rcases hr.eq_or_lt with h | h
    · subst h
      have hl : Ideal.log ((0 : ℝ) : EReal) = ⊥ := if_pos le_rfl
      have h2 : Ideal.pow ((0 : ℝ) : EReal) ((y : ℝ) : EReal) = ((Real.rpow 0 y : ℝ) : EReal) := rfl
      rw [hl, EReal.coe_mul_bot_of_pos hy, h2, show Real.rpow 0 y = 0 from Real.zero_rpow hy.ne']
      rfl
    · have hl : Ideal.log ((r : ℝ) : EReal) = ((Real.log r : ℝ) : EReal) := if_neg h.not_ge
      rw [hl, ← EReal.coe_mul]
      have h2 : Ideal.pow ((r : ℝ) : EReal) ((y : ℝ) : EReal) = ((r ^ y : ℝ) : EReal) := rfl
      rw [h2, Real.rpow_def_of_pos h, mul_comm]
      rfl

theorem sign_ite (x : EReal) [Decidable (0 < x)] [Decidable (x < 0)] :
    (if 0 < x then (1 : EReal) else if x < 0 then -1 else 0) = Ideal.sign x := by
  by_cases h : 0 < x
  · rw [if_pos h, Ideal.sign_of_pos h]
  · rw [if_neg h]
    by_cases h' : x < 0
    · rw [if_pos h', Ideal.sign_of_neg h']
    · rw [if_neg h', le_antisymm (not_lt.mp h) (not_lt.mp h'), Ideal.sign_zero]

theorem sq_ne_bot (a : EReal) : a * a ≠ ⊥ := by
  induction a using EReal.rec with
  | bot => simp
  | top => simp
  | coe r => rw [← EReal.coe_mul]; exact EReal.coe_ne_bot _

/-- A vertex so far off that its squared distance to a finite point is infinite is infinitely far from any point. -/
theorem gap_top (x o y : Fin 3 → EReal) (ho : ∀ c, o c ≠ ⊤ ∧ o c ≠ ⊥) (hy : ∀ c, y c ≠ ⊤ ∧ y c ≠ ⊥)
    (h : max ((∑ c, x c * x c + ∑ c, o c * o c) - ((2 : ℝ) : EReal) * ∑ c, x c * o c) 0 = ⊤) :
    ∑ c, (x c - y c) * (x c - y c) = ⊤ := by
  by_cases hx : ∀ c, x c ≠ ⊤ ∧ x c ≠ ⊥
  · exfalso
    obtain ⟨X, hX⟩ : ∃ X : Fin 3 → ℝ, ∀ c, x c = ((X c : ℝ) : EReal) :=
      ⟨fun c => (x c).toReal, fun c => (EReal.coe_toReal (hx c).1 (hx c).2).symm⟩
    obtain ⟨O, hO⟩ : ∃ O : Fin 3 → ℝ, ∀ c, o c = ((O c : ℝ) : EReal) :=
      ⟨fun c => (o c).toReal, fun c => (EReal.coe_toReal (ho c).1 (ho c).2).symm⟩
    rw [show max _ _ = _ from rfl] at h
    simp only [hX, hO, Fin.sum_univ_three, ← EReal.coe_mul, ← EReal.coe_add, ← EReal.coe_sub] at h
    rcases le_total ((((X 0 * X 0 + X 1 * X 1 + X 2 * X 2 + (O 0 * O 0 + O 1 * O 1 + O 2 * O 2)
      - 2 * (X 0 * O 0 + X 1 * O 1 + X 2 * O 2) : ℝ)) : EReal)) 0 with k | k
    · rw [max_eq_right k] at h; exact EReal.zero_ne_top h
    · rw [max_eq_left k] at h; exact EReal.coe_ne_top _ h
  · obtain ⟨c, hc⟩ := not_forall.mp hx
    have hsq : (x c - y c) * (x c - y c) = ⊤ := by
      have hY : y c = (((y c).toReal : ℝ) : EReal) := (EReal.coe_toReal (hy c).1 (hy c).2).symm
      rw [hY]
      by_cases ht : x c = ⊤
      · rw [ht]; simp
      · have hb : x c = ⊥ := by by_contra hb; exact hc ⟨ht, hb⟩
        rw [hb]; simp
    rw [← Finset.add_sum_erase _ _ (Finset.mem_univ c), hsq]
    refine EReal.top_add_of_ne_bot ?_
    have : ∀ s : Finset (Fin 3), ∑ c ∈ s, (x c - y c) * (x c - y c) ≠ ⊥ := fun s => by
      induction s using Finset.induction_on with
      | empty => simp
      | insert a s ha ih =>
        rw [Finset.sum_insert ha, Ne, EReal.add_eq_bot_iff, not_or]
        exact ⟨sq_ne_bot _, ih⟩
    exact this _

theorem kld_ne_top (m l : EReal) : (1 + l - m * m) - Ideal.exp l ≠ ⊤ := by
  have hm : m * m ≠ ⊥ := sq_ne_bot m
  induction l using EReal.rec with
  | bot => simp [sub_eq_add_neg]
  | top => rw [show Ideal.exp (⊤ : EReal) = ⊤ from rfl]; simp [sub_eq_add_neg]
  | coe r =>
    have h1 : (1 + ((r : ℝ) : EReal)) ≠ ⊤ := (EReal.add_lt_top (EReal.coe_ne_top 1) (EReal.coe_ne_top r)).ne
    have h2 : 1 + ((r : ℝ) : EReal) - m * m ≠ ⊤ := by
      rw [sub_eq_add_neg]
      exact (EReal.add_lt_top h1 (by simpa using hm)).ne
    rw [sub_eq_add_neg]
    refine (EReal.add_lt_top h2 ?_).ne
    rw [Ne, EReal.neg_eq_top_iff]
    exact EReal.coe_ne_bot _

/-! ## What both programs compute, of one batch element -/

/-- The squared distance of vertex `p` from object point `q`, by the expanded square. -/
noncomputable def sqd (X : Fin 778 → Fin 3 → EReal) (O : Fin 2048 → Fin 3 → EReal) (p : Fin 778) (q : Fin 2048) : EReal :=
  max ((∑ c, X p c * X p c + ∑ c, O q c * O q c) - Ideal.ofBits .f32 1073741824#32 * ∑ c, X p c * O q c) 0

/-- The vertex nearest to an object point. -/
noncomputable def nearV (X : Fin 778 → Fin 3 → EReal) (O : Fin 2048 → Fin 3 → EReal) (q : Fin 2048) : Fin 778 :=
  first fun p => sqd X O p q

/-- The object point nearest to a vertex. -/
noncomputable def nearO (X : Fin 778 → Fin 3 → EReal) (O : Fin 2048 → Fin 3 → EReal) (p : Fin 778) : Fin 2048 :=
  first fun q => sqd X O p q

/-- A normal brought to length one. -/
noncomputable def unit (N : Fin 778 → Fin 3 → EReal) (p : Fin 778) (c : Fin 3) : EReal :=
  Ideal.div (N p c) (max (Ideal.sqrt (∑ x, N p x * N p x)) (Ideal.ofBits .f32 897988541#32))

/-- The signed distance of an object point from a mesh. -/
noncomputable def sd (X N : Fin 778 → Fin 3 → EReal) (O : Fin 2048 → Fin 3 → EReal) (q : Fin 2048) : EReal :=
  Ideal.sqrt (∑ c, (O q c - X (nearV X O q) c) * (O q c - X (nearV X O q) c)) *
    Ideal.sign (∑ c, unit N (nearV X O q) c * (O q c - X (nearV X O q) c))

/-- The squared distance of a vertex from its nearest object point, by the differences. -/
noncomputable def gapR (X : Fin 778 → Fin 3 → EReal) (O : Fin 2048 → Fin 3 → EReal) (p : Fin 778) : EReal :=
  ∑ c, (X p c - O (nearO X O p) c) * (X p c - O (nearO X O p) c)

/-- One object point's weighted difference of signed distances. -/
noncomputable def objT (s t : EReal) : EReal :=
  FloatOps.absf (F := Ideal) (φ := .f32) (s - t) *
    if s < 0 then Ideal.ofBits .f32 1069547520#32
    else Scalar.select (α := EReal)
      (IntOp.andi (BitVec.ofBool (decide (t < Ideal.ofBits .f32 1008981770#32)))
        (BitVec.ofBool (decide (Ideal.ofBits .f32 3148076810#32 < t)))) 1 (Ideal.ofBits .f32 1036831949#32)

/-- One vertex's weighted difference of distances. -/
noncomputable def handT (g h w : EReal) : EReal :=
  FloatOps.absf (F := Ideal) (φ := .f32)
      (FloatOps.absf (F := Ideal) (φ := .f32) (Ideal.sqrt g) - FloatOps.absf (F := Ideal) (φ := .f32) (Ideal.sqrt h)) *
    Ideal.pow w (Ideal.ofBits .f32 1053609165#32)

/-- The object loss of one batch element. -/
noncomputable def hoSpec (X Y N M : Fin 778 → Fin 3 → EReal) (O : Fin 2048 → Fin 3 → EReal) (w : Fin 778 → EReal) : EReal :=
  ((1393 / 497920 : ℝ) : EReal) * ∑ p, handT (gapR X O p) (gapR Y O p) (w p) +
    ((597 / 655360 : ℝ) : EReal) * ∑ q, objT (sd X N O q) (sd Y M O q)

/-- The parameter loss of one batch element. -/
noncomputable def paramB (x y : Fin 61 → EReal) : EReal :=
  Ideal.div (∑ j, (x j - y j) * (x j - y j)) (Ideal.ofBits .f32 1098907648#32)

/-- The reconstruction loss of one batch element. -/
noncomputable def reconB (X Y : Fin 778 → Fin 3 → EReal) : EReal :=
  Ideal.div (∑ p, ∑ c, (X p c - Y p c) * (X p c - Y p c)) (Ideal.ofBits .f32 1098907648#32)

/-- The divergence of one batch element. -/
noncomputable def kldB (m l : Fin 64 → EReal) : EReal :=
  Ideal.div (Ideal.ofBits .f32 3204448256#32 * ∑ j, (1 + l j - m j * m j - Ideal.exp (l j))) (Ideal.ofBits .f32 1098907648#32)

end Cert.Proof.LossMath
-- ==== Proof.LossKernel.lean ====
module

public import proofs.«01_k».proof.Proof.LossFold
public import proofs.«01_k».proof.Proof.LossMath

@[expose] public section

noncomputable section

namespace Cert.Proof.Losses

open Cert.LossIdeal Cert.LossIdeal.Gen Idealize.ShloMosaic Idealize.ShloMosaic.TcCoe Idealize.SL.Sem
open Cert.Proof.LossMath

/-! ### The pieces of the kernel, read at an index -/

theorem low_eq (d : FVec Ideal S778x1024 .f32) (p : Fin 778) :
    @Eq EReal (low d (ix2 p 0)) (d (ix2 p (first fun j : Fin 1024 => (d (ix2 p j) : EReal)))) := by
  pointwise [low, k0_pay28]
  rw [bits_top]
  exact fold_min _

theorem near_eq (q : Vec Ideal S1x1024x3 .f32) (d : FVec Ideal S778x1024 .f32) (p : Fin 778) (c : Fin 3) :
    @Eq EReal (near q d (ix2 p c)) (q (ix3 0 (first fun j : Fin 1024 => (d (ix2 p j) : EReal)) c)) := by
  pointwise [near, k0_pay19]
  exact pick_sum (by norm_num) (fun j : Fin 1024 => (d (ix2 p j) : EReal)) _ (low_eq d p) fun j => q (ix3 0 j c)

theorem pick_eq (w : FVec Ideal S778x6 .f32) (d : FVec Ideal S778x1024 .f32) (j : Fin 1024) (c : Fin 6) :
    @Eq EReal (pick w d (ix2 j c)) (w (ix2 (first fun p : Fin 778 => (d (ix2 p j) : EReal)) c)) := by
  pointwise [pick, k0_pay22]
  refine pick_sum (by norm_num) (fun p : Fin 778 => (d (ix2 p j) : EReal)) _ ?_ fun p => w (ix2 p c)
  rw [bits_top]
  exact fold_min _

theorem keep_eq (l m : FVec Ideal S778x1 .f32) (a b : FVec Ideal S778x3 .f32) (p : Fin 778) (c : Fin 3) :
    @Eq EReal (keep l m a b (ix2 p c))
      (if (l (ix2 p 0) : EReal) < m (ix2 p 0) then a (ix2 p c) else b (ix2 p c)) := by
  pointwise [keep]

theorem gap_eq (v w : FVec Ideal S778x3 .f32) (p : Fin 778) :
    @Eq EReal (gap v w (ix1 p)) (∑ c : Fin 3, ((v (ix2 p c) : EReal) - w (ix2 p c)) * (v (ix2 p c) - w (ix2 p c))) := by
  pointwise [gap]

theorem pay3_eq (x : Vec Ideal S1x778x3 .f32) (p : Fin 778) (c : Fin 3) :
    @Eq EReal (k0_pay3 x (ix2 p c)) (x (ix3 0 p c)) := by
  pointwise [k0_pay3]

theorem start_eq (p : Fin 778) : @Eq EReal ((k0_pay14 : FVec Ideal S778x1 .f32) (ix2 p 0)) ⊤ := rfl

theorem zeros_eq (p : Fin 778) (c : Fin 3) : @Eq EReal ((k0_pay15 : FVec Ideal S778x3 .f32) (ix2 p c)) 0 := by
  pointwise [k0_pay15]

theorem chunk_eq (s t : FVec Ideal S1024x1 .f32) :
    @Eq EReal (chunk s t) (∑ j : Fin 1024, objT (s (ix2 j 0)) (t (ix2 j 0))) := by
  pointwise [chunk, weight]
  refine Finset.sum_congr rfl fun j _ => ?_
  rw [Fin.sum_univ_one]
  rfl

/-! ### One mesh against one chunk of object points -/

section
variable {x : Vec Ideal S1x778x3 .f32} {n : Vec Ideal S1x1x778x3 .f32} {t : Vec Ideal S1x3x1024 .f32}
  {q : Vec Ideal S1x1024x3 .f32} {X N : Fin 778 → Fin 3 → EReal} {O : Fin 2048 → Fin 3 → EReal}
  {e : Fin 1024 → Fin 2048}
  (hx : ∀ p c, @Eq EReal (x (ix3 0 p c)) (X p c)) (hn : ∀ p c, @Eq EReal (n (ix4 0 0 p c)) (N p c))
  (ht : ∀ j c, @Eq EReal (t (ix3 0 c j)) (O (e j) c)) (hq : ∀ j c, @Eq EReal (q (ix3 0 j c)) (O (e j) c))

include hx ht in
theorem dist_eq (p : Fin 778) (j : Fin 1024) : @Eq EReal (dist (k0_pay3 x) t (ix2 p j)) (sqd X O p (e j)) := by
  pointwise [dist, k0_pay21, k0_pay12, k0_pay20, k0_pay18]
  simp only [pay3_eq, hx, ht]
  rfl

include hx ht in
theorem first_eq' (j : Fin 1024) :
    (first fun p : Fin 778 => (dist (k0_pay3 x) t (ix2 p j) : EReal)) = nearV X O (e j) := by
  unfold nearV
  congr 1
  exact funext fun p => dist_eq hx ht p j

include hx hn in
theorem pos_eq (p : Fin 778) (c : Fin 3) : @Eq EReal (k0_pay10 x n (ix2 p ⟨c.val, by omega⟩)) (X p c) := by
  pointwise [k0_pay10, k0_pay3]
  exact hx p c

include hx hn in
theorem nrm_eq (p : Fin 778) (c : Fin 3) : @Eq EReal (k0_pay10 x n (ix2 p ⟨c.val + 3, by omega⟩)) (unit N p c) := by
  pointwise [k0_pay10, k0_pay3]
  rw [dif_neg (by omega)]
  simp only [Nat.add_sub_cancel, Fin.eta, hn]
  rfl

include hx hn ht hq in
theorem signed_eq (j : Fin 1024) :
    @Eq EReal (signed (k0_pay10 x n) q (dist (k0_pay3 x) t) (ix2 j 0)) (sd X N O (e j)) := by
  have P : ∀ c : Fin 3, @Eq EReal (pick (k0_pay10 x n) (dist (k0_pay3 x) t) (ix2 j ⟨c.val, by omega⟩))
      (X (nearV X O (e j)) c) := fun c => by
    rw [pick_eq, first_eq' hx ht]; exact pos_eq hx hn _ c
  have Q : ∀ c : Fin 3, @Eq EReal (pick (k0_pay10 x n) (dist (k0_pay3 x) t) (ix2 j ⟨c.val + 3, by omega⟩))
      (unit N (nearV X O (e j)) c) := fun c => by
    rw [pick_eq, first_eq' hx ht]; exact nrm_eq hx hn _ c
  generalize k0_pay10 x n = w at P Q ⊢
  generalize dist (k0_pay3 x) t = d at P Q ⊢
  have h : k0_pay22 w (iota .tc S778x1024 32 [0] iota_S778x1024_d0_w32) d = pick w d := rfl
  pointwise [signed, k0_pay26, k0_pay27, k0_pay23, k0_pay24, k0_pay25, h, k0_pay19]
  have P0 : @Eq EReal (pick w d (ix2 j 0)) _ := P 0
  have P1 : @Eq EReal (pick w d (ix2 j 1)) _ := P 1
  have P2 : @Eq EReal (pick w d (ix2 j 2)) _ := P 2
  have Q0 : @Eq EReal (pick w d (ix2 j 3)) _ := Q 0
  have Q1 : @Eq EReal (pick w d (ix2 j 4)) _ := Q 1
  have Q2 : @Eq EReal (pick w d (ix2 j 5)) _ := Q 2
  rw [P0, P1, P2, Q0, Q1, Q2, hq, hq, hq, bits_neg_one, sign_ite]
  unfold sd
  rw [Fin.sum_univ_three, Fin.sum_univ_three]

include hx ht hq in
theorem near_eq' (p : Fin 778) (c : Fin 3) : @Eq EReal (near q (dist (k0_pay3 x) t) (ix2 p c))
    (O (e (first fun j => sqd X O p (e j))) c) := by
  rw [near_eq, hq]
  congr 2
  congr 1
  exact funext fun j => dist_eq hx ht p j

include hx ht in
theorem low_eq' (p : Fin 778) : @Eq EReal (low (dist (k0_pay3 x) t) (ix2 p 0))
    (sqd X O p (e (first fun j => sqd X O p (e j)))) := by
  rw [low_eq, dist_eq hx ht]
  congr 2
  congr 1
  exact funext fun j => dist_eq hx ht p j

end

/-! ### One mesh against both chunks -/

section
variable {x : Vec Ideal S1x778x3 .f32} {n : Vec Ideal S1x1x778x3 .f32} {t0 t1 : Vec Ideal S1x3x1024 .f32}
  {q0 q1 : Vec Ideal S1x1024x3 .f32} {X N : Fin 778 → Fin 3 → EReal} {O : Fin 2048 → Fin 3 → EReal}
  (hx : ∀ p c, @Eq EReal (x (ix3 0 p c)) (X p c))
  (ht0 : ∀ j c, @Eq EReal (t0 (ix3 0 c j)) (O ⟨j.val, by omega⟩ c))
  (ht1 : ∀ j c, @Eq EReal (t1 (ix3 0 c j)) (O ⟨1024 + j.val, by omega⟩ c))
  (hq0 : ∀ j c, @Eq EReal (q0 (ix3 0 j c)) (O ⟨j.val, by omega⟩ c))
  (hq1 : ∀ j c, @Eq EReal (q1 (ix3 0 j c)) (O ⟨1024 + j.val, by omega⟩ c))
  (hO : ∀ q c, O q c ≠ ⊤ ∧ O q c ≠ ⊥)

include hx ht0 ht1 hq0 hq1 hO in
/-- The squared distance of a vertex from the point the kernel keeps. Where no point is nearer than the start value the
    kernel keeps the origin; the vertex is then infinitely far from every point. -/
theorem gapR_eq (p : Fin 778) :
    @Eq EReal (gap (k0_pay3 x) (nearest q0 q1 (dist (k0_pay3 x) t0) (dist (k0_pay3 x) t1)) (ix1 p)) (gapR X O p) := by
  rw [gap_eq]
  have L0 := low_eq' (e := fun j => ⟨j.val, by omega⟩) hx ht0 p
  have L1 := low_eq' (e := fun j => ⟨1024 + j.val, by omega⟩) hx ht1 p
  have N0 := near_eq' (e := fun j => ⟨j.val, by omega⟩) hx ht0 hq0 p
  have N1 := near_eq' (e := fun j => ⟨1024 + j.val, by omega⟩) hx ht1 hq1 p
  have F := first_two (fun q => sqd X O p q) (fun j => sqd X O p ⟨j.val, by omega⟩)
    (fun j => sqd X O p ⟨1024 + j.val, by omega⟩) (fun _ => rfl) (fun _ => rfl)
  have S : @Eq EReal ((select (cmpf .olt (low (dist (k0_pay3 x) t0)) k0_pay14) (low (dist (k0_pay3 x) t0)) k0_pay14 :
      FVec Ideal S778x1 .f32) (ix2 p 0))
      (low (dist (k0_pay3 x) t0) (ix2 p 0)) := by
    pointwise []
    rw [start_eq]
    split
    · rfl
    · rename_i h; exact (not_lt_top_iff.mp h).symm
  have K : ∀ c : Fin 3, @Eq EReal (nearest q0 q1 (dist (k0_pay3 x) t0) (dist (k0_pay3 x) t1) (ix2 p c))
      (if sqd X O p (nearO X O p) = ⊤ then 0 else O (nearO X O p) c) := fun c => by
    unfold nearest
    rw [keep_eq, S, keep_eq, start_eq, zeros_eq, L0, L1, N0, N1]
    unfold nearO
    rw [F]
    by_cases h : sqd X O p ⟨1024 + (first fun j : Fin 1024 => sqd X O p ⟨1024 + j.val, by omega⟩).val, by omega⟩ <
      sqd X O p ⟨(first fun j : Fin 1024 => sqd X O p ⟨j.val, by omega⟩).val, by omega⟩
    · rw [if_pos h, if_pos h, if_neg (h.trans_le le_top).ne]
    · rw [if_neg h, if_neg h]
      by_cases k : sqd X O p ⟨(first fun j : Fin 1024 => sqd X O p ⟨j.val, by omega⟩).val, by omega⟩ = ⊤
      · rw [if_pos k, if_neg (by rw [k]; exact lt_irrefl _)]
      · rw [if_neg k, if_pos (lt_top_iff_ne_top.mpr k)]
  simp only [K, pay3_eq, hx]
  unfold gapR
  by_cases h : sqd X O p (nearO X O p) = ⊤
  · simp only [if_pos h]
    have h' := h
    unfold sqd at h'
    rw [bits_two] at h'
    rw [gap_top (X p) (O (nearO X O p)) (fun _ => 0) (hO _) (fun _ => ⟨EReal.zero_ne_top, EReal.zero_ne_bot⟩) h',
      gap_top (X p) (O (nearO X O p)) (O (nearO X O p)) (hO _) (hO _) h']
  · simp only [if_neg h]

end

theorem low_lt (j : Fin 1024) : j.val < 2048 := by omega
theorem high_lt (j : Fin 1024) : 1024 + j.val < 2048 := by omega

theorem hoVal_eq (x0 x1 : Vec Ideal S1x778x3 .f32) (na nb : Vec Ideal S1x1x778x3 .f32) (t0 t1 : Vec Ideal S1x3x1024 .f32)
    (q0 q1 : Vec Ideal S1x1024x3 .f32) (x5 : Vec Ideal S778x1 .f32)
    (X Y N M : Fin 778 → Fin 3 → EReal) (O : Fin 2048 → Fin 3 → EReal) (w : Fin 778 → EReal)
    (hx : ∀ p c, @Eq EReal (x0 (ix3 0 p c)) (X p c)) (hy : ∀ p c, @Eq EReal (x1 (ix3 0 p c)) (Y p c))
    (hn : ∀ p c, @Eq EReal (na (ix4 0 0 p c)) (N p c)) (hm : ∀ p c, @Eq EReal (nb (ix4 0 0 p c)) (M p c))
    (ht0 : ∀ j c, @Eq EReal (t0 (ix3 0 c j)) (O ⟨j.val, low_lt j⟩ c))
    (ht1 : ∀ j c, @Eq EReal (t1 (ix3 0 c j)) (O ⟨1024 + j.val, high_lt j⟩ c))
    (hq0 : ∀ j c, @Eq EReal (q0 (ix3 0 j c)) (O ⟨j.val, low_lt j⟩ c))
    (hq1 : ∀ j c, @Eq EReal (q1 (ix3 0 j c)) (O ⟨1024 + j.val, high_lt j⟩ c))
    (hO : ∀ q c, O q c ≠ ⊤ ∧ O q c ≠ ⊥) (hw : ∀ p, @Eq EReal (x5 (ix2 p 0)) (w p)) (hw0 : ∀ p, 0 ≤ w p) :
    @Eq EReal (hoVal x0 x1 na nb t0 t1 q0 q1 x5) (hoSpec X Y N M O w) := by
  have G0 := gapR_eq hx ht0 ht1 hq0 hq1 hO
  have G1 := gapR_eq hy ht0 ht1 hq0 hq1 hO
  have A0 := signed_eq (e := fun j => ⟨j.val, by omega⟩) hx hn ht0 hq0
  have A1 := signed_eq (e := fun j => ⟨1024 + j.val, by omega⟩) hx hn ht1 hq1
  have B0 := signed_eq (e := fun j => ⟨j.val, by omega⟩) hy hm ht0 hq0
  have B1 := signed_eq (e := fun j => ⟨1024 + j.val, by omega⟩) hy hm ht1 hq1
  pointwise [hoVal, k0_pay73, k0_pay5]
  rw [chunk_eq, chunk_eq]
  simp only [A0, A1, B0, B1, G0, G1, hw]
  unfold hoSpec
  have hsum : (∑ q : Fin 2048, objT (sd X N O q) (sd Y M O q)) =
      ∑ j : Fin 1024, objT (sd X N O ⟨j.val, by omega⟩) (sd Y M O ⟨j.val, by omega⟩) +
        ∑ j : Fin 1024, objT (sd X N O ⟨1024 + j.val, by omega⟩) (sd Y M O ⟨1024 + j.val, by omega⟩) :=
    Fin.sum_univ_add (a := 1024) (b := 1024) fun q => objT (sd X N O q) (sd Y M O q)
  have hhand : (Named.named (F := Ideal) κ "hand_mean" (φ := .f32) 993482900#32 : EReal) = ((1393 / 497920 : ℝ) : EReal) := rfl
  have hobj : (Named.named (F := Ideal) κ "object_mean" (φ := .f32) 980339917#32 : EReal) = ((597 / 655360 : ℝ) : EReal) := rfl
  rw [hsum, hhand, hobj]
  congr 2
  refine Finset.sum_congr rfl fun p _ => ?_
  rw [Fin.sum_univ_one, power _ (hw0 p)]
  rfl

end Cert.Proof.Losses

end
-- ==== Proof.LossBlocks.lean ====
module

public import proofs.«01_k».proof.Proof.LossKernel
public import Idealize.ShloMosaic.Lib.Routing.OpsPair

@[expose] public section

noncomputable section

namespace Cert.Proof.Losses

open Cert.LossIdeal Cert.LossIdeal.Gen Idealize.ShloMosaic Idealize.ShloMosaic.TcCoe Idealize.SL.Sem
open Cert.Proof.LossMath

variable (m : (ℓ : Loc nD τ sig) → Buf (Elt Ideal) ℓ)

/-- The batch element of a grid point. -/
def row (t : Fin cfg0.N) : Fin 16 := ⟨t.val, lt_of_lt_of_eq t.isLt N_0⟩

/-! ### What the windows read -/

theorem index0 : ∀ t : Fin cfg0.N, win0_0.index t 0 = t.val ∧ win0_0.index t 1 = 0 ∧ win0_0.index t 2 = 0 := by decide +kernel

theorem read0 (c : Dev nD) (t : Fin cfg0.N) (j : Fin 778) (k : Fin 3) : @Eq EReal ((iblk m c 0 t : Vec Ideal S1x778x3 .f32) (ix3 0 j k))
    ((V m c main_arg4 : FVec Ideal S16x778x3 .f32) (ix3 (row t) j k)) := by
  have hi := index0 t
  unfold iblk
  rw [View.read_apply]
  show V m c main_arg4 _ = V m c main_arg4 _
  congr 1
  funext a
  apply Fin.ext
  match a with
  | ⟨0, _⟩ => show win0_0.index t 0 * 1 + 1 * 0 = t.val; rw [hi.1]; omega
  | ⟨1, _⟩ => show win0_0.index t 1 * 778 + 1 * j.val = j.val; rw [hi.2.1]; omega
  | ⟨2, _⟩ => show win0_0.index t 2 * 3 + 1 * k.val = k.val; rw [hi.2.2]; omega

theorem index1 : ∀ t : Fin cfg0.N, win0_1.index t 0 = t.val ∧ win0_1.index t 1 = 0 ∧ win0_1.index t 2 = 0 := by decide +kernel

theorem read1 (c : Dev nD) (t : Fin cfg0.N) (j : Fin 778) (k : Fin 3) : @Eq EReal ((iblk m c 1 t : Vec Ideal S1x778x3 .f32) (ix3 0 j k))
    ((V m c main_arg5 : FVec Ideal S16x778x3 .f32) (ix3 (row t) j k)) := by
  have hi := index1 t
  unfold iblk
  rw [View.read_apply]
  show V m c main_arg5 _ = V m c main_arg5 _
  congr 1
  funext a
  apply Fin.ext
  match a with
  | ⟨0, _⟩ => show win0_1.index t 0 * 1 + 1 * 0 = t.val; rw [hi.1]; omega
  | ⟨1, _⟩ => show win0_1.index t 1 * 778 + 1 * j.val = j.val; rw [hi.2.1]; omega
  | ⟨2, _⟩ => show win0_1.index t 2 * 3 + 1 * k.val = k.val; rw [hi.2.2]; omega

theorem index2 : ∀ t : Fin cfg0.N, win0_2.index t 0 = t.val ∧ win0_2.index t 1 = 0 ∧ win0_2.index t 2 = 0 ∧ win0_2.index t 3 = 0 := by decide +kernel

theorem read2 (c : Dev nD) (t : Fin cfg0.N) (j : Fin 2) (k : Fin 778) (l : Fin 3) : @Eq EReal ((iblk m c 2 t : Vec Ideal S1x2x778x3 .f32) (ix4 0 j k l))
    ((V m c main_arg6 : FVec Ideal S16x2x778x3 .f32) (ix4 (row t) j k l)) := by
  have hi := index2 t
  unfold iblk
  rw [View.read_apply]
  show V m c main_arg6 _ = V m c main_arg6 _
  congr 1
  funext a
  apply Fin.ext
  match a with
  | ⟨0, _⟩ => show win0_2.index t 0 * 1 + 1 * 0 = t.val; rw [hi.1]; omega
  | ⟨1, _⟩ => show win0_2.index t 1 * 2 + 1 * j.val = j.val; rw [hi.2.1]; omega
  | ⟨2, _⟩ => show win0_2.index t 2 * 778 + 1 * k.val = k.val; rw [hi.2.2.1]; omega
  | ⟨3, _⟩ => show win0_2.index t 3 * 3 + 1 * l.val = l.val; rw [hi.2.2.2]; omega

theorem index3 : ∀ t : Fin cfg0.N, win0_3.index t 0 = t.val ∧ win0_3.index t 1 = 0 ∧ win0_3.index t 2 = 0 := by decide +kernel

theorem read3 (c : Dev nD) (t : Fin cfg0.N) (j : Fin 3) (k : Fin 2048) : @Eq EReal ((iblk m c 3 t : Vec Ideal S1x3x2048 .f32) (ix3 0 j k))
    ((V m c main_v0 : FVec Ideal S16x3x2048 .f32) (ix3 (row t) j k)) := by
  have hi := index3 t
  unfold iblk
  rw [View.read_apply]
  show V m c main_v0 _ = V m c main_v0 _
  congr 1
  funext a
  apply Fin.ext
  match a with
  | ⟨0, _⟩ => show win0_3.index t 0 * 1 + 1 * 0 = t.val; rw [hi.1]; omega
  | ⟨1, _⟩ => show win0_3.index t 1 * 3 + 1 * j.val = j.val; rw [hi.2.1]; omega
  | ⟨2, _⟩ => show win0_3.index t 2 * 2048 + 1 * k.val = k.val; rw [hi.2.2]; omega

theorem index4 : ∀ t : Fin cfg0.N, win0_4.index t 0 = t.val ∧ win0_4.index t 1 = 0 ∧ win0_4.index t 2 = 0 := by decide +kernel

theorem read4 (c : Dev nD) (t : Fin cfg0.N) (j : Fin 2048) (k : Fin 3) : @Eq EReal ((iblk m c 4 t : Vec Ideal S1x2048x3 .f32) (ix3 0 j k))
    ((V m c main_arg7 : FVec Ideal S16x2048x3 .f32) (ix3 (row t) j k)) := by
  have hi := index4 t
  unfold iblk
  rw [View.read_apply]
  show V m c main_arg7 _ = V m c main_arg7 _
  congr 1
  funext a
  apply Fin.ext
  match a with
  | ⟨0, _⟩ => show win0_4.index t 0 * 1 + 1 * 0 = t.val; rw [hi.1]; omega
  | ⟨1, _⟩ => show win0_4.index t 1 * 2048 + 1 * j.val = j.val; rw [hi.2.1]; omega
  | ⟨2, _⟩ => show win0_4.index t 2 * 3 + 1 * k.val = k.val; rw [hi.2.2]; omega

theorem index5 : ∀ t : Fin cfg0.N, win0_5.index t 0 = 0 ∧ win0_5.index t 1 = 0 := by decide +kernel

theorem read5 (c : Dev nD) (t : Fin cfg0.N) (i : Fin 778) : @Eq EReal ((iblk m c 5 t : Vec Ideal S778x1 .f32) (ix2 i 0)) ((V m c main_v1 : FVec Ideal S778x1 .f32) (ix2 i 0)) := by
  have hi := index5 t
  unfold iblk
  rw [View.read_apply]
  show V m c main_v1 _ = V m c main_v1 _
  congr 1
  funext a
  apply Fin.ext
  match a with
  | ⟨0, _⟩ => show win0_5.index t 0 * 778 + 1 * i.val = i.val; rw [hi.1]; omega
  | ⟨1, _⟩ => show win0_5.index t 1 * 1 + 1 * 0 = 0; rw [hi.2]

theorem index6 : ∀ t : Fin cfg0.N, win0_6.index t 0 = t.val ∧ win0_6.index t 1 = 0 ∧ win0_6.index t 2 = 0 := by decide +kernel

theorem read6 (c : Dev nD) (t : Fin cfg0.N) (j : Fin 1) (k : Fin 61) : @Eq EReal ((iblk m c 6 t : Vec Ideal S1x1x61 .f32) (ix3 0 j k))
    ((V m c main_v2 : FVec Ideal S16x1x61 .f32) (ix3 (row t) j k)) := by
  have hi := index6 t
  unfold iblk
  rw [View.read_apply]
  show V m c main_v2 _ = V m c main_v2 _
  congr 1
  funext a
  apply Fin.ext
  match a with
  | ⟨0, _⟩ => show win0_6.index t 0 * 1 + 1 * 0 = t.val; rw [hi.1]; omega
  | ⟨1, _⟩ => show win0_6.index t 1 * 1 + 1 * j.val = j.val; rw [hi.2.1]; omega
  | ⟨2, _⟩ => show win0_6.index t 2 * 61 + 1 * k.val = k.val; rw [hi.2.2]; omega

theorem index7 : ∀ t : Fin cfg0.N, win0_7.index t 0 = t.val ∧ win0_7.index t 1 = 0 ∧ win0_7.index t 2 = 0 := by decide +kernel

theorem read7 (c : Dev nD) (t : Fin cfg0.N) (j : Fin 1) (k : Fin 61) : @Eq EReal ((iblk m c 7 t : Vec Ideal S1x1x61 .f32) (ix3 0 j k))
    ((V m c main_v3 : FVec Ideal S16x1x61 .f32) (ix3 (row t) j k)) := by
  have hi := index7 t
  unfold iblk
  rw [View.read_apply]
  show V m c main_v3 _ = V m c main_v3 _
  congr 1
  funext a
  apply Fin.ext
  match a with
  | ⟨0, _⟩ => show win0_7.index t 0 * 1 + 1 * 0 = t.val; rw [hi.1]; omega
  | ⟨1, _⟩ => show win0_7.index t 1 * 1 + 1 * j.val = j.val; rw [hi.2.1]; omega
  | ⟨2, _⟩ => show win0_7.index t 2 * 61 + 1 * k.val = k.val; rw [hi.2.2]; omega

theorem index8 : ∀ t : Fin cfg0.N, win0_8.index t 0 = t.val ∧ win0_8.index t 1 = 0 ∧ win0_8.index t 2 = 0 := by decide +kernel

theorem read8 (c : Dev nD) (t : Fin cfg0.N) (j : Fin 1) (k : Fin 64) : @Eq EReal ((iblk m c 8 t : Vec Ideal S1x1x64 .f32) (ix3 0 j k))
    ((V m c main_v4 : FVec Ideal S16x1x64 .f32) (ix3 (row t) j k)) := by
  have hi := index8 t
  unfold iblk
  rw [View.read_apply]
  show V m c main_v4 _ = V m c main_v4 _
  congr 1
  funext a
  apply Fin.ext
  match a with
  | ⟨0, _⟩ => show win0_8.index t 0 * 1 + 1 * 0 = t.val; rw [hi.1]; omega
  | ⟨1, _⟩ => show win0_8.index t 1 * 1 + 1 * j.val = j.val; rw [hi.2.1]; omega
  | ⟨2, _⟩ => show win0_8.index t 2 * 64 + 1 * k.val = k.val; rw [hi.2.2]; omega

theorem index9 : ∀ t : Fin cfg0.N, win0_9.index t 0 = t.val ∧ win0_9.index t 1 = 0 ∧ win0_9.index t 2 = 0 := by decide +kernel

theorem read9 (c : Dev nD) (t : Fin cfg0.N) (j : Fin 1) (k : Fin 64) : @Eq EReal ((iblk m c 9 t : Vec Ideal S1x1x64 .f32) (ix3 0 j k))
    ((V m c main_v5 : FVec Ideal S16x1x64 .f32) (ix3 (row t) j k)) := by
  have hi := index9 t
  unfold iblk
  rw [View.read_apply]
  show V m c main_v5 _ = V m c main_v5 _
  congr 1
  funext a
  apply Fin.ext
  match a with
  | ⟨0, _⟩ => show win0_9.index t 0 * 1 + 1 * 0 = t.val; rw [hi.1]; omega
  | ⟨1, _⟩ => show win0_9.index t 1 * 1 + 1 * j.val = j.val; rw [hi.2.1]; omega
  | ⟨2, _⟩ => show win0_9.index t 2 * 64 + 1 * k.val = k.val; rw [hi.2.2]; omega

/-! ### The host's operations before the call -/

theorem V_v0 (c : Dev nD) : V m c main_v0 =
    transpose S16x3x2048 [0, 2, 1] (m ((c : Thread nD τ).loc main_arg7) : FVec Ideal S16x2048x3 .f32) transposes_S16x2048x3_S16x3x2048_0_2_1 := by
  unfold V hostOps0; after_results
theorem V_v1 (c : Dev nD) : V m c main_v1 =
    shapeCast S778x1 (m ((c : Thread nD τ).loc main_arg8) : FVec Ideal S778 .f32) shapeCasts_S778_S778x1 := by
  unfold V hostOps0; after_results
  try rfl
theorem V_v2 (c : Dev nD) : V m c main_v2 =
    shapeCast S16x1x61 (m ((c : Thread nD τ).loc main_arg0) : FVec Ideal S16x61 .f32) shapeCasts_S16x61_S16x1x61 := by
  unfold V hostOps0; after_results
  rfl
theorem V_v3 (c : Dev nD) : V m c main_v3 =
    shapeCast S16x1x61 (m ((c : Thread nD τ).loc main_arg1) : FVec Ideal S16x61 .f32) shapeCasts_S16x61_S16x1x61 := by
  unfold V hostOps0; after_results
  rfl
theorem V_v4 (c : Dev nD) : V m c main_v4 =
    shapeCast S16x1x64 (m ((c : Thread nD τ).loc main_arg2) : FVec Ideal S16x64 .f32) shapeCasts_S16x64_S16x1x64 := by
  unfold V hostOps0; after_results
  rfl
theorem V_v5 (c : Dev nD) : V m c main_v5 =
    shapeCast S16x1x64 (m ((c : Thread nD τ).loc main_arg3) : FVec Ideal S16x64 .f32) shapeCasts_S16x64_S16x1x64 := by
  unfold V hostOps0; after_results
  rfl

end Cert.Proof.Losses

end
-- ==== Proof.LossValue.lean ====
module

public import proofs.«01_k».proof.Proof.LossBlocks
public import proofs.«01_k».proof.Proof.LossFold
public import Idealize.ShloMosaic.Lib.Pointwise
public import Idealize.ShloMosaic.Lib.Pipeline.ValueKit.Tiles

@[expose] public section

noncomputable section

namespace Cert.Proof.Losses

open Cert.LossIdeal Cert.LossIdeal.Gen Idealize.ShloMosaic Idealize.ShloMosaic.TcCoe Idealize.SL.Sem
open Cert.Proof.LossMath

variable (m : (ℓ : Loc nD τ sig) → Buf (Elt Ideal) ℓ)

/-! ### The arguments as plain functions -/

abbrev A0 (c : Dev nD) : FVec Ideal S16x61 .f32 := m ((c : Thread nD τ).loc main_arg0)
abbrev A1 (c : Dev nD) : FVec Ideal S16x61 .f32 := m ((c : Thread nD τ).loc main_arg1)
abbrev A2 (c : Dev nD) : FVec Ideal S16x64 .f32 := m ((c : Thread nD τ).loc main_arg2)
abbrev A3 (c : Dev nD) : FVec Ideal S16x64 .f32 := m ((c : Thread nD τ).loc main_arg3)
abbrev A4 (c : Dev nD) : FVec Ideal S16x778x3 .f32 := m ((c : Thread nD τ).loc main_arg4)
abbrev A5 (c : Dev nD) : FVec Ideal S16x778x3 .f32 := m ((c : Thread nD τ).loc main_arg5)
abbrev A6 (c : Dev nD) : FVec Ideal S16x2x778x3 .f32 := m ((c : Thread nD τ).loc main_arg6)
abbrev A7 (c : Dev nD) : FVec Ideal S16x2048x3 .f32 := m ((c : Thread nD τ).loc main_arg7)
abbrev A8 (c : Dev nD) : FVec Ideal S778 .f32 := m ((c : Thread nD τ).loc main_arg8)

/-! ### The blocks, as elements of the arguments -/

theorem block0 (c : Dev nD) (t : Fin cfg0.N) (p : Fin 778) (k : Fin 3) :
    @Eq EReal ((iblk m c 0 t : Vec Ideal S1x778x3 .f32) (ix3 0 p k)) (A4 m c (ix3 (row t) p k)) := by
  rw [read0]; exact congrFun (V_main_arg4 m c) _
theorem block1 (c : Dev nD) (t : Fin cfg0.N) (p : Fin 778) (k : Fin 3) :
    @Eq EReal ((iblk m c 1 t : Vec Ideal S1x778x3 .f32) (ix3 0 p k)) (A5 m c (ix3 (row t) p k)) := by
  rw [read1]; exact congrFun (V_main_arg5 m c) _
theorem block2 (c : Dev nD) (t : Fin cfg0.N) (s : Fin 2) (p : Fin 778) (k : Fin 3) :
    @Eq EReal ((iblk m c 2 t : Vec Ideal S1x2x778x3 .f32) (ix4 0 s p k)) (A6 m c (ix4 (row t) s p k)) := by
  rw [read2]; exact congrFun (V_main_arg6 m c) _
theorem block3 (c : Dev nD) (t : Fin cfg0.N) (k : Fin 3) (q : Fin 2048) :
    @Eq EReal ((iblk m c 3 t : Vec Ideal S1x3x2048 .f32) (ix3 0 k q)) (A7 m c (ix3 (row t) q k)) := by
  rw [read3, V_v0]
  pointwise
theorem block4 (c : Dev nD) (t : Fin cfg0.N) (q : Fin 2048) (k : Fin 3) :
    @Eq EReal ((iblk m c 4 t : Vec Ideal S1x2048x3 .f32) (ix3 0 q k)) (A7 m c (ix3 (row t) q k)) := by
  rw [read4]; exact congrFun (V_main_arg7 m c) _
theorem block5 (c : Dev nD) (t : Fin cfg0.N) (p : Fin 778) :
    @Eq EReal ((iblk m c 5 t : Vec Ideal S778x1 .f32) (ix2 p 0)) (A8 m c (ix1 p)) := by
  rw [read5, V_v1]
  pointwise
theorem block6 (c : Dev nD) (t : Fin cfg0.N) (j : Fin 61) :
    @Eq EReal ((iblk m c 6 t : Vec Ideal S1x1x61 .f32) (ix3 0 0 j)) (A0 m c (ix2 (row t) j)) := by
  rw [read6, V_v2]
  pointwise
theorem block7 (c : Dev nD) (t : Fin cfg0.N) (j : Fin 61) :
    @Eq EReal ((iblk m c 7 t : Vec Ideal S1x1x61 .f32) (ix3 0 0 j)) (A1 m c (ix2 (row t) j)) := by
  rw [read7, V_v3]
  pointwise
theorem block8 (c : Dev nD) (t : Fin cfg0.N) (j : Fin 64) :
    @Eq EReal ((iblk m c 8 t : Vec Ideal S1x1x64 .f32) (ix3 0 0 j)) (A2 m c (ix2 (row t) j)) := by
  rw [read8, V_v4]
  pointwise
theorem block9 (c : Dev nD) (t : Fin cfg0.N) (j : Fin 64) :
    @Eq EReal ((iblk m c 9 t : Vec Ideal S1x1x64 .f32) (ix3 0 0 j)) (A3 m c (ix2 (row t) j)) := by
  rw [read9, V_v5]
  pointwise

/-! ### The four parts of one batch element -/

theorem paramOf_eq (x6 x7 : Vec Ideal S1x1x61 .f32) (x y : Fin 61 → EReal)
    (hx : ∀ j, @Eq EReal (x6 (ix3 0 0 j)) (x j)) (hy : ∀ j, @Eq EReal (x7 (ix3 0 0 j)) (y j)) :
    @Eq EReal (paramOf x6 x7) (paramB x y) := by
  pointwise [paramOf, k0_pay74, k0_pay6, k0_pay7]
  simp only [hx, hy, Fin.sum_univ_one, Finset.univ_unique, Finset.sum_const, Finset.card_singleton, one_smul]
  rfl

theorem reconOf_eq (x0 x1 : Vec Ideal S1x778x3 .f32) (X Y : Fin 778 → Fin 3 → EReal)
    (hx : ∀ p c, @Eq EReal (x0 (ix3 0 p c)) (X p c)) (hy : ∀ p c, @Eq EReal (x1 (ix3 0 p c)) (Y p c)) :
    @Eq EReal (reconOf x0 x1) (reconB X Y) := by
  pointwise [reconOf, k0_pay75, k0_pay3, k0_pay4]
  simp only [hx, hy]
  rfl

theorem kldOf_eq (x8 x9 : Vec Ideal S1x1x64 .f32) (x y : Fin 64 → EReal)
    (hx : ∀ j, @Eq EReal (x8 (ix3 0 0 j)) (x j)) (hy : ∀ j, @Eq EReal (x9 (ix3 0 0 j)) (y j)) :
    @Eq EReal (kldOf x8 x9) (kldB x y) := by
  pointwise [kldOf, k0_pay76, k0_pay8, k0_pay9]
  simp only [hx, hy, Fin.sum_univ_one, Finset.univ_unique, Finset.sum_const, Finset.card_singleton, one_smul]
  rfl

theorem lossOf_eq (a b c d : EReal) : @Eq EReal (lossOf (F := Ideal) a b c d)
    (a + b + Ideal.ofBits .f32 1036831949#32 * c + Ideal.ofBits .f32 1092616192#32 * d) := by
  pointwise [lossOf]

theorem paramAt_eq (c : Dev nD) (t : Fin cfg0.N) : @Eq EReal (paramAt m c t)
    (paramB (fun j => A0 m c (ix2 (row t) j)) (fun j => A1 m c (ix2 (row t) j))) :=
  paramOf_eq _ _ _ _ (block6 m c t) (block7 m c t)

theorem reconAt_eq (c : Dev nD) (t : Fin cfg0.N) : @Eq EReal (reconAt m c t)
    (reconB (fun p k => A4 m c (ix3 (row t) p k)) (fun p k => A5 m c (ix3 (row t) p k))) :=
  reconOf_eq _ _ _ _ (block0 m c t) (block1 m c t)

theorem kldAt_eq (c : Dev nD) (t : Fin cfg0.N) : @Eq EReal (kldAt m c t)
    (kldB (fun j => A2 m c (ix2 (row t) j)) (fun j => A3 m c (ix2 (row t) j))) :=
  kldOf_eq _ _ _ _ (block8 m c t) (block9 m c t)

theorem hoAt_eq (c : Dev nD) (t : Fin cfg0.N)
    (hO : ∀ i, @Ne EReal (A7 m c i) ⊤ ∧ @Ne EReal (A7 m c i) ⊥) (hw : ∀ i, @LE.le EReal _ 0 (A8 m c i)) :
    @Eq EReal (hoAt m c t)
    (hoSpec (fun p k => A4 m c (ix3 (row t) p k)) (fun p k => A5 m c (ix3 (row t) p k))
      (fun p k => A6 m c (ix4 (row t) 0 p k)) (fun p k => A6 m c (ix4 (row t) 1 p k))
      (fun q k => A7 m c (ix3 (row t) q k)) (fun p => A8 m c (ix1 p))) := by
  unfold hoAt hoOf
  refine hoVal_eq _ _ _ _ _ _ _ _ _ _ _ _ _ _ _ (block0 m c t) (block1 m c t) ?_ ?_ ?_ ?_ ?_ ?_
    (fun q k => hO _) (block5 m c t) (fun p => hw _)
  · intro p k
    rw [View.ld_unit_apply_of _ _ _ _ _ (ix4 0 0 p k) (by intro a; fin_cases a <;> simp [ix4])]
    exact block2 m c t 0 p k
  · intro p k
    rw [View.ld_unit_apply_of _ _ _ _ _ (ix4 0 1 p k) (by intro a; fin_cases a <;> simp [ix4])]
    exact block2 m c t 1 p k
  · intro j k
    rw [View.ld_unit_apply_of _ _ _ _ _ (ix3 0 k ⟨j.val, by omega⟩) (by intro a; fin_cases a <;> simp [ix3])]
    exact block3 m c t k _
  · intro j k
    rw [View.ld_unit_apply_of _ _ _ _ _ (ix3 0 k ⟨1024 + j.val, by omega⟩) (by intro a; fin_cases a <;> simp [ix3])]
    exact block3 m c t k _
  · intro j k
    rw [View.ld_unit_apply_of _ _ _ _ _ (ix3 0 ⟨j.val, by omega⟩ k) (by intro a; fin_cases a <;> simp [ix3])]
    exact block4 m c t _ k
  · intro j k
    rw [View.ld_unit_apply_of _ _ _ _ _ (ix3 0 ⟨1024 + j.val, by omega⟩ k) (by intro a; fin_cases a <;> simp [ix3])]
    exact block4 m c t _ k

/-! ### The running sum is the sum over the batch -/

theorem plus_apply (v : Vec Ideal S1x1 .f32) (w : EReal) (i : S1x1.Idx) :
    @Eq EReal (plus v w i) (v i + w) := by
  pointwise [plus]

theorem zero_apply (i : S1x1.Idx) : @Eq EReal ((zero : Vec Ideal S1x1 .f32) i) 0 := by
  pointwise [zero]

theorem chain_sum (f : Fin cfg0.N → EReal) (i : S1x1.Idx) : ∀ (n : ℕ) (h : n < cfg0.N),
    @Eq EReal (chain (F := Ideal) f n h i) (∑ k : Fin (n + 1), f ⟨k.val, by omega⟩)
  | 0, h => by
    show @Eq EReal (plus (zero : Vec Ideal S1x1 .f32) (f ⟨0, h⟩) i) _
    rw [plus_apply, zero_apply, zero_add, Fin.sum_univ_one]
    rfl
  | n + 1, h => by
    show @Eq EReal (plus (chain (F := Ideal) f n _) (f ⟨n + 1, h⟩) i) _
    rw [plus_apply, chain_sum f i n (Nat.lt_of_succ_lt h), Fin.sum_univ_castSucc (n := n + 1)]
    rfl

/-- The grid point of a batch element. -/
def point (b : Fin 16) : Fin cfg0.N := ⟨b.val, lt_of_lt_of_eq b.isLt N_0.symm⟩

theorem row_point (b : Fin 16) : row (point b) = b := rfl

theorem chain_batch (f : Fin cfg0.N → EReal) (i : S1x1.Idx) :
    @Eq EReal (chain (F := Ideal) f 15 last i) (∑ b : Fin 16, f (point b)) :=
  chain_sum f i 15 last

end Cert.Proof.Losses

end
-- ==== Proof.LossOps.lean ====
/- The plain reference of the losses as a list of its 315 host operations, in the form that the library's generated `Run`
   modules give. That form is not generated for a reference that takes an `argmin` (whose function has one parameter more than
   it has operands), so this module, `LossTerms` and `LossRun` state it here. -/
module

public import proofs.«01_k».proof.Proof.Gen.LossReferenceIdeal
public import Idealize.ShloMosaic.Lib.StableHlo.Run
public import Idealize.ShloMosaic.Lib.Pipeline.Frame

@[expose] public section

set_option Elab.async false

noncomputable section

namespace Cert.LossReferenceIdeal.Value

open Cert.LossReferenceIdeal Cert.LossReferenceIdeal.Gen Idealize.ShloMosaic Idealize.ShloMosaic.TcCoe Idealize.SL.Sem Idealize.ShloMosaic.StableHlo

variable {F : FTy → Type} [FloatOps F]

/-- The function of the operation that writes `main_v59`, named. It packs its operands into a list of dependent pairs
    whose shapes a later argument's type mentions, so `simp` cannot rewrite an operand where it stands; applied by
    name, the operands are plain arguments, which the window lemmas below rewrite before the name unfolds. -/
def fn_main_v59 : (⟨S16x778x1, .i32⟩ : BufTy).Contents (Elt F) → (⟨S16x778x1, .i32⟩ : BufTy).Contents (Elt F) → (⟨S16x778x2, .i32⟩ : BufTy).Contents (Elt F) :=
  (fun a b => concatenate S16x778x2 2 [⟨S16x778x1, a⟩, ⟨S16x778x1, b⟩] concatenates_S16x778x1_S16x778x1_S16x778x2_d2)

/-- The function of the operation that writes `main_v75`, named. It packs its operands into a list of dependent pairs
    whose shapes a later argument's type mentions, so `simp` cannot rewrite an operand where it stands; applied by
    name, the operands are plain arguments, which the window lemmas below rewrite before the name unfolds. -/
def fn_main_v75 : (⟨S16x2048x1, .i32⟩ : BufTy).Contents (Elt F) → (⟨S16x2048x1, .i32⟩ : BufTy).Contents (Elt F) → (⟨S16x2048x2, .i32⟩ : BufTy).Contents (Elt F) :=
  (fun a b => concatenate S16x2048x2 2 [⟨S16x2048x1, a⟩, ⟨S16x2048x1, b⟩] concatenates_S16x2048x1_S16x2048x1_S16x2048x2_d2)

/-- The function of the operation that writes `main_v91`, named. It packs its operands into a list of dependent pairs
    whose shapes a later argument's type mentions, so `simp` cannot rewrite an operand where it stands; applied by
    name, the operands are plain arguments, which the window lemmas below rewrite before the name unfolds. -/
def fn_main_v91 : (⟨S16x2048x1, .i32⟩ : BufTy).Contents (Elt F) → (⟨S16x2048x1, .i32⟩ : BufTy).Contents (Elt F) → (⟨S16x2048x2, .i32⟩ : BufTy).Contents (Elt F) :=
  (fun a b => concatenate S16x2048x2 2 [⟨S16x2048x1, a⟩, ⟨S16x2048x1, b⟩] concatenates_S16x2048x1_S16x2048x1_S16x2048x2_d2)

/-- The function of the operation that writes `main_v138`, named. It packs its operands into a list of dependent pairs
    whose shapes a later argument's type mentions, so `simp` cannot rewrite an operand where it stands; applied by
    name, the operands are plain arguments, which the window lemmas below rewrite before the name unfolds. -/
def fn_main_v138 : (⟨S16x778x1, .i32⟩ : BufTy).Contents (Elt F) → (⟨S16x778x1, .i32⟩ : BufTy).Contents (Elt F) → (⟨S16x778x2, .i32⟩ : BufTy).Contents (Elt F) :=
  (fun a b => concatenate S16x778x2 2 [⟨S16x778x1, a⟩, ⟨S16x778x1, b⟩] concatenates_S16x778x1_S16x778x1_S16x778x2_d2)

/-- The function of the operation that writes `main_v154`, named. It packs its operands into a list of dependent pairs
    whose shapes a later argument's type mentions, so `simp` cannot rewrite an operand where it stands; applied by
    name, the operands are plain arguments, which the window lemmas below rewrite before the name unfolds. -/
def fn_main_v154 : (⟨S16x2048x1, .i32⟩ : BufTy).Contents (Elt F) → (⟨S16x2048x1, .i32⟩ : BufTy).Contents (Elt F) → (⟨S16x2048x2, .i32⟩ : BufTy).Contents (Elt F) :=
  (fun a b => concatenate S16x2048x2 2 [⟨S16x2048x1, a⟩, ⟨S16x2048x1, b⟩] concatenates_S16x2048x1_S16x2048x1_S16x2048x2_d2)

/-- The function of the operation that writes `main_v170`, named. It packs its operands into a list of dependent pairs
    whose shapes a later argument's type mentions, so `simp` cannot rewrite an operand where it stands; applied by
    name, the operands are plain arguments, which the window lemmas below rewrite before the name unfolds. -/
def fn_main_v170 : (⟨S16x2048x1, .i32⟩ : BufTy).Contents (Elt F) → (⟨S16x2048x1, .i32⟩ : BufTy).Contents (Elt F) → (⟨S16x2048x2, .i32⟩ : BufTy).Contents (Elt F) :=
  (fun a b => concatenate S16x2048x2 2 [⟨S16x2048x1, a⟩, ⟨S16x2048x1, b⟩] concatenates_S16x2048x1_S16x2048x1_S16x2048x2_d2)

/-- @main's operations 1 … 30 of 323 (window `main_part0`). -/
abbrev ops_part0_0 : List (HloOp τ sig (Elt F)) :=
  [ binary main_arg0 main_arg1 main_v0 (subf : (⟨S16x61, .f32⟩ : BufTy).Contents (Elt F) → (⟨S16x61, .f32⟩ : BufTy).Contents (Elt F) → (⟨S16x61, .f32⟩ : BufTy).Contents (Elt F)),
    binary main_v0 main_v0 main_v1 (mulf : (⟨S16x61, .f32⟩ : BufTy).Contents (Elt F) → (⟨S16x61, .f32⟩ : BufTy).Contents (Elt F) → (⟨S16x61, .f32⟩ : BufTy).Contents (Elt F)),
    nullary main_cst (constant S_ .f32 0x00000000#32),
    binary main_v1 main_cst main_v2 ((fun x v => Host.reduceAdd x v reducesTo_S16x61_S_d0_1 h_S_) : (⟨S16x61, .f32⟩ : BufTy).Contents (Elt F) → (⟨S_, .f32⟩ : BufTy).Contents (Elt F) → (⟨S_, .f32⟩ : BufTy).Contents (Elt F)),
    nullary main_cst_0 (constant S_ .f32 0x41800000#32),
    binary main_v2 main_cst_0 main_v3 (Host.divf : (⟨S_, .f32⟩ : BufTy).Contents (Elt F) → (⟨S_, .f32⟩ : BufTy).Contents (Elt F) → (⟨S_, .f32⟩ : BufTy).Contents (Elt F)),
    binary main_arg4 main_arg5 main_v4 (subf : (⟨S16x778x3, .f32⟩ : BufTy).Contents (Elt F) → (⟨S16x778x3, .f32⟩ : BufTy).Contents (Elt F) → (⟨S16x778x3, .f32⟩ : BufTy).Contents (Elt F)),
    binary main_v4 main_v4 main_v5 (mulf : (⟨S16x778x3, .f32⟩ : BufTy).Contents (Elt F) → (⟨S16x778x3, .f32⟩ : BufTy).Contents (Elt F) → (⟨S16x778x3, .f32⟩ : BufTy).Contents (Elt F)),
    nullary main_cst_1 (constant S_ .f32 0x00000000#32),
    binary main_v5 main_cst_1 main_v6 ((fun x v => Host.reduceAdd x v reducesTo_S16x778x3_S_d0_1_2 h_S_) : (⟨S16x778x3, .f32⟩ : BufTy).Contents (Elt F) → (⟨S_, .f32⟩ : BufTy).Contents (Elt F) → (⟨S_, .f32⟩ : BufTy).Contents (Elt F)),
    nullary main_cst_2 (constant S_ .f32 0x41800000#32),
    binary main_v6 main_cst_2 main_v7 (Host.divf : (⟨S_, .f32⟩ : BufTy).Contents (Elt F) → (⟨S_, .f32⟩ : BufTy).Contents (Elt F) → (⟨S_, .f32⟩ : BufTy).Contents (Elt F)),
    nullary main_cst_3 (constant S_ .f32 0x3F800000#32),
    unary main_cst_3 main_v8 (broadcastInDim S16x64 ![] bcast_S_S16x64 : (⟨S_, .f32⟩ : BufTy).Contents (Elt F) → (⟨S16x64, .f32⟩ : BufTy).Contents (Elt F)),
    binary main_v8 main_arg3 main_v9 (addf : (⟨S16x64, .f32⟩ : BufTy).Contents (Elt F) → (⟨S16x64, .f32⟩ : BufTy).Contents (Elt F) → (⟨S16x64, .f32⟩ : BufTy).Contents (Elt F)),
    binary main_arg2 main_arg2 main_v10 (mulf : (⟨S16x64, .f32⟩ : BufTy).Contents (Elt F) → (⟨S16x64, .f32⟩ : BufTy).Contents (Elt F) → (⟨S16x64, .f32⟩ : BufTy).Contents (Elt F)),
    binary main_v9 main_v10 main_v11 (subf : (⟨S16x64, .f32⟩ : BufTy).Contents (Elt F) → (⟨S16x64, .f32⟩ : BufTy).Contents (Elt F) → (⟨S16x64, .f32⟩ : BufTy).Contents (Elt F)),
    unary main_arg3 main_v12 (Host.exp : (⟨S16x64, .f32⟩ : BufTy).Contents (Elt F) → (⟨S16x64, .f32⟩ : BufTy).Contents (Elt F)),
    binary main_v11 main_v12 main_v13 (subf : (⟨S16x64, .f32⟩ : BufTy).Contents (Elt F) → (⟨S16x64, .f32⟩ : BufTy).Contents (Elt F) → (⟨S16x64, .f32⟩ : BufTy).Contents (Elt F)),
    nullary main_cst_4 (constant S_ .f32 0x00000000#32),
    binary main_v13 main_cst_4 main_v14 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    nullary main_cst_5 (constant S_ .f32 0xBF000000#32),
    binary main_cst_5 main_v14 main_v15 (mulf : (⟨S_, .f32⟩ : BufTy).Contents (Elt F) → (⟨S_, .f32⟩ : BufTy).Contents (Elt F) → (⟨S_, .f32⟩ : BufTy).Contents (Elt F)),
    nullary main_cst_6 (constant S_ .f32 0x41800000#32),
    binary main_v15 main_cst_6 main_v16 (Host.divf : (⟨S_, .f32⟩ : BufTy).Contents (Elt F) → (⟨S_, .f32⟩ : BufTy).Contents (Elt F) → (⟨S_, .f32⟩ : BufTy).Contents (Elt F)),
    binary main_v7 main_v16 main_v17 (addf : (⟨S_, .f32⟩ : BufTy).Contents (Elt F) → (⟨S_, .f32⟩ : BufTy).Contents (Elt F) → (⟨S_, .f32⟩ : BufTy).Contents (Elt F)),
    nullary main_cst_7 (constant S_ .f32 0x3ECCCCCD#32),
    unary main_cst_7 main_v18 (broadcastInDim S778 ![] bcast_S_S778 : (⟨S_, .f32⟩ : BufTy).Contents (Elt F) → (⟨S778, .f32⟩ : BufTy).Contents (Elt F)),
    binary main_arg8 main_v18 main_v19 (Host.powf : (⟨S778, .f32⟩ : BufTy).Contents (Elt F) → (⟨S778, .f32⟩ : BufTy).Contents (Elt F) → (⟨S778, .f32⟩ : BufTy).Contents (Elt F)),
    unary main_arg6 main_v20 ((extractStridedSlice S16x1x778x3 ![0, 0, 0, 0] · slices_S16x2x778x3_S16x1x778x3_0_0_0_0) : (⟨S16x2x778x3, .f32⟩ : BufTy).Contents (Elt F) → (⟨S16x1x778x3, .f32⟩ : BufTy).Contents (Elt F)) ]

/-- @main's operations 31 … 60 of 323 (window `main_part0`). -/
abbrev ops_part0_1 : List (HloOp τ sig (Elt F)) :=
  [ reshape main_v20 main_v21 (rfl : (.f32 : EltTy) = .f32) shapeCasts_S16x1x778x3_S16x778x3,
    TRef.binary (TRef.of (T := ⟨S16x778x3, .f32⟩) main_v21) (TRef.of (T := ⟨S16x778x3, .f32⟩) main_v21) (TRef.of (T := ⟨S16x778x3, .f32⟩) main_call0_v0) mulf,
    TRef.nullary (TRef.of (T := ⟨S_, .f32⟩) main_call0_cst) (constant S_ .f32 0x00000000#32),
    TRef.binary (TRef.of (T := ⟨S16x778x3, .f32⟩) main_call0_v0) (TRef.of (T := ⟨S_, .f32⟩) main_call0_cst) (TRef.of (T := ⟨S16x778, .f32⟩) main_call0_v1) (fun x v => Host.reduceAdd x v reducesTo_S16x778x3_S16x778_d2 h_S_),
    TRef.unary (TRef.of (T := ⟨S16x778, .f32⟩) main_call0_v1) (TRef.of (T := ⟨S16x778x1, .f32⟩) main_call0_v2) (broadcastInDim S16x778x1 ![0, 1] bcast_S16x778_S16x778x1_0_1),
    TRef.unary (TRef.of (T := ⟨S16x778x1, .f32⟩) main_call0_v2) (TRef.of (T := ⟨S16x778x1, .f32⟩) main_v22) Host.sqrt,
    nullary main_cst_8 (constant S_ .f32 0x358637BD#32),
    unary main_cst_8 main_v23 (broadcastInDim S16x778x1 ![] bcast_S_S16x778x1 : (⟨S_, .f32⟩ : BufTy).Contents (Elt F) → (⟨S16x778x1, .f32⟩ : BufTy).Contents (Elt F)),
    binary main_v22 main_v23 main_v24 (maximumf : (⟨S16x778x1, .f32⟩ : BufTy).Contents (Elt F) → (⟨S16x778x1, .f32⟩ : BufTy).Contents (Elt F) → (⟨S16x778x1, .f32⟩ : BufTy).Contents (Elt F)),
    unary main_v24 main_v25 (broadcastInDim S16x778x3 ![0, 1, 2] bcast_S16x778x1_S16x778x3_0_1_2 : (⟨S16x778x1, .f32⟩ : BufTy).Contents (Elt F) → (⟨S16x778x3, .f32⟩ : BufTy).Contents (Elt F)),
    binary main_v21 main_v25 main_v26 (Host.divf : (⟨S16x778x3, .f32⟩ : BufTy).Contents (Elt F) → (⟨S16x778x3, .f32⟩ : BufTy).Contents (Elt F) → (⟨S16x778x3, .f32⟩ : BufTy).Contents (Elt F)),
    nullary main_v27 (iotaInDim S16 32 0),
    unary main_v27 main_v28 (broadcastInDim S16x1 ![0] bcast_S16_S16x1_0 : (⟨S16, .i32⟩ : BufTy).Contents (Elt F) → (⟨S16x1, .i32⟩ : BufTy).Contents (Elt F)),
    binary main_arg4 main_arg4 main_v29 (mulf : (⟨S16x778x3, .f32⟩ : BufTy).Contents (Elt F) → (⟨S16x778x3, .f32⟩ : BufTy).Contents (Elt F) → (⟨S16x778x3, .f32⟩ : BufTy).Contents (Elt F)),
    nullary main_cst_9 (constant S_ .f32 0x00000000#32),
    binary main_v29 main_cst_9 main_v30 ((fun x v => Host.reduceAdd x v reducesTo_S16x778x3_S16x778_d2 h_S_) : (⟨S16x778x3, .f32⟩ : BufTy).Contents (Elt F) → (⟨S_, .f32⟩ : BufTy).Contents (Elt F) → (⟨S16x778, .f32⟩ : BufTy).Contents (Elt F)),
    binary main_arg7 main_arg7 main_v31 (mulf : (⟨S16x2048x3, .f32⟩ : BufTy).Contents (Elt F) → (⟨S16x2048x3, .f32⟩ : BufTy).Contents (Elt F) → (⟨S16x2048x3, .f32⟩ : BufTy).Contents (Elt F)),
    nullary main_cst_10 (constant S_ .f32 0x00000000#32),
    binary main_v31 main_cst_10 main_v32 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    binary main_arg4 main_arg7 main_v33 ((fun l r => Host.dotGeneral dot_S16x778x3_S16x2048x3_S16x778x2048_2_2_1_1_0_0 none l r) : (⟨S16x778x3, .f32⟩ : BufTy).Contents (Elt F) → (⟨S16x2048x3, .f32⟩ : BufTy).Contents (Elt F) → (⟨S16x778x2048, .f32⟩ : BufTy).Contents (Elt F)),
    unary main_v30 main_v34 (broadcastInDim S16x778x1 ![0, 1] bcast_S16x778_S16x778x1_0_1 : (⟨S16x778, .f32⟩ : BufTy).Contents (Elt F) → (⟨S16x778x1, .f32⟩ : BufTy).Contents (Elt F)),
    unary main_v32 main_v35 (broadcastInDim S16x1x2048 ![0, 2] bcast_S16x2048_S16x1x2048_0_2 : (⟨S16x2048, .f32⟩ : BufTy).Contents (Elt F) → (⟨S16x1x2048, .f32⟩ : BufTy).Contents (Elt F)),
    unary main_v34 main_v36 (broadcastInDim S16x778x2048 ![0, 1, 2] bcast_S16x778x1_S16x778x2048_0_1_2 : (⟨S16x778x1, .f32⟩ : BufTy).Contents (Elt F) → (⟨S16x778x2048, .f32⟩ : BufTy).Contents (Elt F)),
    unary main_v35 main_v37 (broadcastInDim S16x778x2048 ![0, 1, 2] bcast_S16x1x2048_S16x778x2048_0_1_2 : (⟨S16x1x2048, .f32⟩ : BufTy).Contents (Elt F) → (⟨S16x778x2048, .f32⟩ : BufTy).Contents (Elt F)),
    binary main_v36 main_v37 main_v38 (addf : (⟨S16x778x2048, .f32⟩ : BufTy).Contents (Elt F) → (⟨S16x778x2048, .f32⟩ : BufTy).Contents (Elt F) → (⟨S16x778x2048, .f32⟩ : BufTy).Contents (Elt F)),
    nullary main_cst_11 (constant S_ .f32 0x40000000#32),
    unary main_cst_11 main_v39 (broadcastInDim S16x778x2048 ![] bcast_S_S16x778x2048 : (⟨S_, .f32⟩ : BufTy).Contents (Elt F) → (⟨S16x778x2048, .f32⟩ : BufTy).Contents (Elt F)),
    binary main_v39 main_v33 main_v40 (mulf : (⟨S16x778x2048, .f32⟩ : BufTy).Contents (Elt F) → (⟨S16x778x2048, .f32⟩ : BufTy).Contents (Elt F) → (⟨S16x778x2048, .f32⟩ : BufTy).Contents (Elt F)),
    binary main_v38 main_v40 main_v41 (subf : (⟨S16x778x2048, .f32⟩ : BufTy).Contents (Elt F) → (⟨S16x778x2048, .f32⟩ : BufTy).Contents (Elt F) → (⟨S16x778x2048, .f32⟩ : BufTy).Contents (Elt F)),
    nullary main_cst_12 (constant S_ .f32 0x00000000#32) ]

/-- @main's operations 61 … 72 of 323 (window `main_part0`). -/
abbrev ops_part0_2 : List (HloOp τ sig (Elt F)) :=
  [ unary main_cst_12 main_v42 (broadcastInDim S16x778x2048 ![] bcast_S_S16x778x2048 : (⟨S_, .f32⟩ : BufTy).Contents (Elt F) → (⟨S16x778x2048, .f32⟩ : BufTy).Contents (Elt F)),
    binary main_v41 main_v42 main_v43 (maximumf : (⟨S16x778x2048, .f32⟩ : BufTy).Contents (Elt F) → (⟨S16x778x2048, .f32⟩ : BufTy).Contents (Elt F) → (⟨S16x778x2048, .f32⟩ : BufTy).Contents (Elt F)),
    TRef.nullary (TRef.of (T := ⟨S16x778x2048, .i32⟩) main_call1_v0) (iotaInDim S16x778x2048 32 2),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S16x778x2048, .f32⟩) main_v43) (TRef.of (T := ⟨S16x778x2048, .i32⟩) main_call1_v0) (TRef.of (T := ⟨S_, .f32⟩) main_call1_cst) (TRef.of (T := ⟨S_, .i32⟩) main_call1_c) (TRef.of (T := ⟨S16x778, .f32⟩) main_call1_v1_0) (fun x y u v j => (Host.argReduce reducer_argmin_f32_i32 x y u v reducesTo_S16x778x2048_S16x778_d2 h_S_ j).1),
    TRef.quaternary (TRef.of (T := ⟨S16x778x2048, .f32⟩) main_v43) (TRef.of (T := ⟨S16x778x2048, .i32⟩) main_call1_v0) (TRef.of (T := ⟨S_, .f32⟩) main_call1_cst) (TRef.of (T := ⟨S_, .i32⟩) main_call1_c) (TRef.of (T := ⟨S16x778, .i32⟩) main_v44) (fun x y u v j => (Host.argReduce reducer_argmin_f32_i32 x y u v reducesTo_S16x778x2048_S16x778_d2 h_S_ j).2),
    TRef.nullary (TRef.of (T := ⟨S16x778x2048, .i32⟩) main_call2_v0) (iotaInDim S16x778x2048 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16x778x2048, .f32⟩) main_v43) (TRef.of (T := ⟨S16x778x2048, .i32⟩) main_call2_v0) (TRef.of (T := ⟨S_, .f32⟩) main_call2_cst) (TRef.of (T := ⟨S_, .i32⟩) main_call2_c) (TRef.of (T := ⟨S16x2048, .f32⟩) main_call2_v1_0) (fun x y u v j => (Host.argReduce reducer_argmin_f32_i32 x y u v reducesTo_S16x778x2048_S16x2048_d1 h_S_ j).1),
    TRef.quaternary (TRef.of (T := ⟨S16x778x2048, .f32⟩) main_v43) (TRef.of (T := ⟨S16x778x2048, .i32⟩) main_call2_v0) (TRef.of (T := ⟨S_, .f32⟩) main_call2_cst) (TRef.of (T := ⟨S_, .i32⟩) main_call2_c) (TRef.of (T := ⟨S16x2048, .i32⟩) main_v45) (fun x y u v j => (Host.argReduce reducer_argmin_f32_i32 x y u v reducesTo_S16x778x2048_S16x2048_d1 h_S_ j).2) ]

/-- Window `main_part0`'s operations. Not an abbreviation: `main_eq` below splits `ops` into the windows and no further. -/
def ops_part0 : List (HloOp τ sig (Elt F)) :=
  ops_part0_0 ++ (ops_part0_1 ++ (ops_part0_2))

/-- @main's operations 73 … 132 of 323 (window `main_part1`). -/
abbrev ops_part1 : List (HloOp τ sig (Elt F)) :=
  [ nullary main_c (constantI S_ 32 0#32),
    unary main_c main_v46 (broadcastInDim S16x1 ![] bcast_S_S16x1 : (⟨S_, .i32⟩ : BufTy).Contents (Elt F) → (⟨S16x1, .i32⟩ : BufTy).Contents (Elt F)),
    binary main_v28 main_v46 main_v47 (cmpi .slt : (⟨S16x1, .i32⟩ : BufTy).Contents (Elt F) → (⟨S16x1, .i32⟩ : BufTy).Contents (Elt F) → (⟨S16x1, .i1⟩ : BufTy).Contents (Elt F)),
    nullary main_c_13 (constantI S_ 32 16#32),
    unary main_c_13 main_v48 (broadcastInDim S16x1 ![] bcast_S_S16x1 : (⟨S_, .i32⟩ : BufTy).Contents (Elt F) → (⟨S16x1, .i32⟩ : BufTy).Contents (Elt F)),
    binary main_v28 main_v48 main_v49 (addi : (⟨S16x1, .i32⟩ : BufTy).Contents (Elt F) → (⟨S16x1, .i32⟩ : BufTy).Contents (Elt F) → (⟨S16x1, .i32⟩ : BufTy).Contents (Elt F)),
    ternary main_v47 main_v49 main_v28 main_v50 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_14 (constantI S_ 32 0#32),
    unary main_c_14 main_v51 (broadcastInDim S16x778 ![] bcast_S_S16x778 : (⟨S_, .i32⟩ : BufTy).Contents (Elt F) → (⟨S16x778, .i32⟩ : BufTy).Contents (Elt F)),
    binary main_v44 main_v51 main_v52 (cmpi .slt : (⟨S16x778, .i32⟩ : BufTy).Contents (Elt F) → (⟨S16x778, .i32⟩ : BufTy).Contents (Elt F) → (⟨S16x778, .i1⟩ : BufTy).Contents (Elt F)),
    nullary main_c_15 (constantI S_ 32 2048#32),
    unary main_c_15 main_v53 (broadcastInDim S16x778 ![] bcast_S_S16x778 : (⟨S_, .i32⟩ : BufTy).Contents (Elt F) → (⟨S16x778, .i32⟩ : BufTy).Contents (Elt F)),
    binary main_v44 main_v53 main_v54 (addi : (⟨S16x778, .i32⟩ : BufTy).Contents (Elt F) → (⟨S16x778, .i32⟩ : BufTy).Contents (Elt F) → (⟨S16x778, .i32⟩ : BufTy).Contents (Elt F)),
    ternary main_v52 main_v54 main_v44 main_v55 (select : (⟨S16x778, .i1⟩ : BufTy).Contents (Elt F) → (⟨S16x778, .i32⟩ : BufTy).Contents (Elt F) → (⟨S16x778, .i32⟩ : BufTy).Contents (Elt F) → (⟨S16x778, .i32⟩ : BufTy).Contents (Elt F)),
    unary main_v50 main_v56 (broadcastInDim S16x778 ![0, 1] bcast_S16x1_S16x778_0_1 : (⟨S16x1, .i32⟩ : BufTy).Contents (Elt F) → (⟨S16x778, .i32⟩ : BufTy).Contents (Elt F)),
    unary main_v56 main_v57 (broadcastInDim S16x778x1 ![0, 1] bcast_S16x778_S16x778x1_0_1 : (⟨S16x778, .i32⟩ : BufTy).Contents (Elt F) → (⟨S16x778x1, .i32⟩ : BufTy).Contents (Elt F)),
    unary main_v55 main_v58 (broadcastInDim S16x778x1 ![0, 1] bcast_S16x778_S16x778x1_0_1 : (⟨S16x778, .i32⟩ : BufTy).Contents (Elt F) → (⟨S16x778x1, .i32⟩ : BufTy).Contents (Elt F)),
    binary main_v57 main_v58 main_v59 (fn_main_v59 (F := F)),
    binary main_arg7 main_v59 main_v60 ((fun x i => Host.gather gather_S16x2048x3_S16x778x2_S16x778x3_2_01_n_n_01_2_113 x i) : (⟨S16x2048x3, .f32⟩ : BufTy).Contents (Elt F) → (⟨S16x778x2, .i32⟩ : BufTy).Contents (Elt F) → (⟨S16x778x3, .f32⟩ : BufTy).Contents (Elt F)),
    binary main_arg4 main_v60 main_v61 (subf : (⟨S16x778x3, .f32⟩ : BufTy).Contents (Elt F) → (⟨S16x778x3, .f32⟩ : BufTy).Contents (Elt F) → (⟨S16x778x3, .f32⟩ : BufTy).Contents (Elt F)),
    nullary main_c_16 (constantI S_ 32 0#32),
    unary main_c_16 main_v62 (broadcastInDim S16x1 ![] bcast_S_S16x1 : (⟨S_, .i32⟩ : BufTy).Contents (Elt F) → (⟨S16x1, .i32⟩ : BufTy).Contents (Elt F)),
    binary main_v28 main_v62 main_v63 (cmpi .slt : (⟨S16x1, .i32⟩ : BufTy).Contents (Elt F) → (⟨S16x1, .i32⟩ : BufTy).Contents (Elt F) → (⟨S16x1, .i1⟩ : BufTy).Contents (Elt F)),
    nullary main_c_17 (constantI S_ 32 16#32),
    unary main_c_17 main_v64 (broadcastInDim S16x1 ![] bcast_S_S16x1 : (⟨S_, .i32⟩ : BufTy).Contents (Elt F) → (⟨S16x1, .i32⟩ : BufTy).Contents (Elt F)),
    binary main_v28 main_v64 main_v65 (addi : (⟨S16x1, .i32⟩ : BufTy).Contents (Elt F) → (⟨S16x1, .i32⟩ : BufTy).Contents (Elt F) → (⟨S16x1, .i32⟩ : BufTy).Contents (Elt F)),
    ternary main_v63 main_v65 main_v28 main_v66 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_18 (constantI S_ 32 0#32),
    unary main_c_18 main_v67 (broadcastInDim S16x2048 ![] bcast_S_S16x2048 : (⟨S_, .i32⟩ : BufTy).Contents (Elt F) → (⟨S16x2048, .i32⟩ : BufTy).Contents (Elt F)),
    binary main_v45 main_v67 main_v68 (cmpi .slt : (⟨S16x2048, .i32⟩ : BufTy).Contents (Elt F) → (⟨S16x2048, .i32⟩ : BufTy).Contents (Elt F) → (⟨S16x2048, .i1⟩ : BufTy).Contents (Elt F)),
    nullary main_c_19 (constantI S_ 32 778#32),
    unary main_c_19 main_v69 (broadcastInDim S16x2048 ![] bcast_S_S16x2048 : (⟨S_, .i32⟩ : BufTy).Contents (Elt F) → (⟨S16x2048, .i32⟩ : BufTy).Contents (Elt F)),
    binary main_v45 main_v69 main_v70 (addi : (⟨S16x2048, .i32⟩ : BufTy).Contents (Elt F) → (⟨S16x2048, .i32⟩ : BufTy).Contents (Elt F) → (⟨S16x2048, .i32⟩ : BufTy).Contents (Elt F)),
    ternary main_v68 main_v70 main_v45 main_v71 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    unary main_v66 main_v72 (broadcastInDim S16x2048 ![0, 1] bcast_S16x1_S16x2048_0_1 : (⟨S16x1, .i32⟩ : BufTy).Contents (Elt F) → (⟨S16x2048, .i32⟩ : BufTy).Contents (Elt F)),
    unary main_v72 main_v73 (broadcastInDim S16x2048x1 ![0, 1] bcast_S16x2048_S16x2048x1_0_1 : (⟨S16x2048, .i32⟩ : BufTy).Contents (Elt F) → (⟨S16x2048x1, .i32⟩ : BufTy).Contents (Elt F)),
    unary main_v71 main_v74 (broadcastInDim S16x2048x1 ![0, 1] bcast_S16x2048_S16x2048x1_0_1 : (⟨S16x2048, .i32⟩ : BufTy).Contents (Elt F) → (⟨S16x2048x1, .i32⟩ : BufTy).Contents (Elt F)),
    binary main_v73 main_v74 main_v75 (fn_main_v75 (F := F)),
    binary main_arg4 main_v75 main_v76 ((fun x i => Host.gather gather_S16x778x3_S16x2048x2_S16x2048x3_2_01_n_n_01_2_113 x i) : (⟨S16x778x3, .f32⟩ : BufTy).Contents (Elt F) → (⟨S16x2048x2, .i32⟩ : BufTy).Contents (Elt F) → (⟨S16x2048x3, .f32⟩ : BufTy).Contents (Elt F)),
    binary main_arg7 main_v76 main_v77 (subf : (⟨S16x2048x3, .f32⟩ : BufTy).Contents (Elt F) → (⟨S16x2048x3, .f32⟩ : BufTy).Contents (Elt F) → (⟨S16x2048x3, .f32⟩ : BufTy).Contents (Elt F)),
    nullary main_c_20 (constantI S_ 32 0#32),
    unary main_c_20 main_v78 (broadcastInDim S16x1 ![] bcast_S_S16x1 : (⟨S_, .i32⟩ : BufTy).Contents (Elt F) → (⟨S16x1, .i32⟩ : BufTy).Contents (Elt F)),
    binary main_v28 main_v78 main_v79 (cmpi .slt : (⟨S16x1, .i32⟩ : BufTy).Contents (Elt F) → (⟨S16x1, .i32⟩ : BufTy).Contents (Elt F) → (⟨S16x1, .i1⟩ : BufTy).Contents (Elt F)),
    nullary main_c_21 (constantI S_ 32 16#32),
    unary main_c_21 main_v80 (broadcastInDim S16x1 ![] bcast_S_S16x1 : (⟨S_, .i32⟩ : BufTy).Contents (Elt F) → (⟨S16x1, .i32⟩ : BufTy).Contents (Elt F)),
    binary main_v28 main_v80 main_v81 (addi : (⟨S16x1, .i32⟩ : BufTy).Contents (Elt F) → (⟨S16x1, .i32⟩ : BufTy).Contents (Elt F) → (⟨S16x1, .i32⟩ : BufTy).Contents (Elt F)),
    ternary main_v79 main_v81 main_v28 main_v82 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_22 (constantI S_ 32 0#32),
    unary main_c_22 main_v83 (broadcastInDim S16x2048 ![] bcast_S_S16x2048 : (⟨S_, .i32⟩ : BufTy).Contents (Elt F) → (⟨S16x2048, .i32⟩ : BufTy).Contents (Elt F)),
    binary main_v45 main_v83 main_v84 (cmpi .slt : (⟨S16x2048, .i32⟩ : BufTy).Contents (Elt F) → (⟨S16x2048, .i32⟩ : BufTy).Contents (Elt F) → (⟨S16x2048, .i1⟩ : BufTy).Contents (Elt F)),
    nullary main_c_23 (constantI S_ 32 778#32),
    unary main_c_23 main_v85 (broadcastInDim S16x2048 ![] bcast_S_S16x2048 : (⟨S_, .i32⟩ : BufTy).Contents (Elt F) → (⟨S16x2048, .i32⟩ : BufTy).Contents (Elt F)),
    binary main_v45 main_v85 main_v86 (addi : (⟨S16x2048, .i32⟩ : BufTy).Contents (Elt F) → (⟨S16x2048, .i32⟩ : BufTy).Contents (Elt F) → (⟨S16x2048, .i32⟩ : BufTy).Contents (Elt F)),
    ternary main_v84 main_v86 main_v45 main_v87 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    unary main_v82 main_v88 (broadcastInDim S16x2048 ![0, 1] bcast_S16x1_S16x2048_0_1 : (⟨S16x1, .i32⟩ : BufTy).Contents (Elt F) → (⟨S16x2048, .i32⟩ : BufTy).Contents (Elt F)),
    unary main_v88 main_v89 (broadcastInDim S16x2048x1 ![0, 1] bcast_S16x2048_S16x2048x1_0_1 : (⟨S16x2048, .i32⟩ : BufTy).Contents (Elt F) → (⟨S16x2048x1, .i32⟩ : BufTy).Contents (Elt F)),
    unary main_v87 main_v90 (broadcastInDim S16x2048x1 ![0, 1] bcast_S16x2048_S16x2048x1_0_1 : (⟨S16x2048, .i32⟩ : BufTy).Contents (Elt F) → (⟨S16x2048x1, .i32⟩ : BufTy).Contents (Elt F)),
    binary main_v89 main_v90 main_v91 (fn_main_v91 (F := F)),
    binary main_v26 main_v91 main_v92 ((fun x i => Host.gather gather_S16x778x3_S16x2048x2_S16x2048x3_2_01_n_n_01_2_113 x i) : (⟨S16x778x3, .f32⟩ : BufTy).Contents (Elt F) → (⟨S16x2048x2, .i32⟩ : BufTy).Contents (Elt F) → (⟨S16x2048x3, .f32⟩ : BufTy).Contents (Elt F)),
    binary main_v92 main_v77 main_v93 (mulf : (⟨S16x2048x3, .f32⟩ : BufTy).Contents (Elt F) → (⟨S16x2048x3, .f32⟩ : BufTy).Contents (Elt F) → (⟨S16x2048x3, .f32⟩ : BufTy).Contents (Elt F)) ]

/-- @main's operations 133 … 162 of 323 (window `main_part2`). -/
abbrev ops_part2_0 : List (HloOp τ sig (Elt F)) :=
  [ nullary main_cst_24 (constant S_ .f32 0x00000000#32),
    binary main_v93 main_cst_24 main_v94 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    unary main_v94 main_v95 (Host.sign : (⟨S16x2048, .f32⟩ : BufTy).Contents (Elt F) → (⟨S16x2048, .f32⟩ : BufTy).Contents (Elt F)),
    TRef.binary (TRef.of (T := ⟨S16x2048x3, .f32⟩) main_v77) (TRef.of (T := ⟨S16x2048x3, .f32⟩) main_v77) (TRef.of (T := ⟨S16x2048x3, .f32⟩) main_call3_v0) mulf,
    TRef.nullary (TRef.of (T := ⟨S_, .f32⟩) main_call3_cst) (constant S_ .f32 0x00000000#32),
    TRef.binary (TRef.of (T := ⟨S16x2048x3, .f32⟩) main_call3_v0) (TRef.of (T := ⟨S_, .f32⟩) main_call3_cst) (TRef.of (T := ⟨S16x2048, .f32⟩) main_call3_v1) (fun x v => Host.reduceAdd x v reducesTo_S16x2048x3_S16x2048_d2 h_S_),
    TRef.unary (TRef.of (T := ⟨S16x2048, .f32⟩) main_call3_v1) (TRef.of (T := ⟨S16x2048, .f32⟩) main_v96) Host.sqrt,
    binary main_v96 main_v95 main_v97 (mulf : (⟨S16x2048, .f32⟩ : BufTy).Contents (Elt F) → (⟨S16x2048, .f32⟩ : BufTy).Contents (Elt F) → (⟨S16x2048, .f32⟩ : BufTy).Contents (Elt F)),
    TRef.binary (TRef.of (T := ⟨S16x778x3, .f32⟩) main_v61) (TRef.of (T := ⟨S16x778x3, .f32⟩) main_v61) (TRef.of (T := ⟨S16x778x3, .f32⟩) main_call4_v0) mulf,
    TRef.nullary (TRef.of (T := ⟨S_, .f32⟩) main_call4_cst) (constant S_ .f32 0x00000000#32),
    TRef.binary (TRef.of (T := ⟨S16x778x3, .f32⟩) main_call4_v0) (TRef.of (T := ⟨S_, .f32⟩) main_call4_cst) (TRef.of (T := ⟨S16x778, .f32⟩) main_call4_v1) (fun x v => Host.reduceAdd x v reducesTo_S16x778x3_S16x778_d2 h_S_),
    TRef.unary (TRef.of (T := ⟨S16x778, .f32⟩) main_call4_v1) (TRef.of (T := ⟨S16x778, .f32⟩) main_v98) Host.sqrt,
    unary main_arg6 main_v99 ((extractStridedSlice S16x1x778x3 ![0, 1, 0, 0] · slices_S16x2x778x3_S16x1x778x3_0_1_0_0) : (⟨S16x2x778x3, .f32⟩ : BufTy).Contents (Elt F) → (⟨S16x1x778x3, .f32⟩ : BufTy).Contents (Elt F)),
    reshape main_v99 main_v100 (rfl : (.f32 : EltTy) = .f32) shapeCasts_S16x1x778x3_S16x778x3,
    TRef.binary (TRef.of (T := ⟨S16x778x3, .f32⟩) main_v100) (TRef.of (T := ⟨S16x778x3, .f32⟩) main_v100) (TRef.of (T := ⟨S16x778x3, .f32⟩) main_call5_v0) mulf,
    TRef.nullary (TRef.of (T := ⟨S_, .f32⟩) main_call5_cst) (constant S_ .f32 0x00000000#32),
    TRef.binary (TRef.of (T := ⟨S16x778x3, .f32⟩) main_call5_v0) (TRef.of (T := ⟨S_, .f32⟩) main_call5_cst) (TRef.of (T := ⟨S16x778, .f32⟩) main_call5_v1) (fun x v => Host.reduceAdd x v reducesTo_S16x778x3_S16x778_d2 h_S_),
    TRef.unary (TRef.of (T := ⟨S16x778, .f32⟩) main_call5_v1) (TRef.of (T := ⟨S16x778x1, .f32⟩) main_call5_v2) (broadcastInDim S16x778x1 ![0, 1] bcast_S16x778_S16x778x1_0_1),
    TRef.unary (TRef.of (T := ⟨S16x778x1, .f32⟩) main_call5_v2) (TRef.of (T := ⟨S16x778x1, .f32⟩) main_v101) Host.sqrt,
    nullary main_cst_25 (constant S_ .f32 0x358637BD#32),
    unary main_cst_25 main_v102 (broadcastInDim S16x778x1 ![] bcast_S_S16x778x1 : (⟨S_, .f32⟩ : BufTy).Contents (Elt F) → (⟨S16x778x1, .f32⟩ : BufTy).Contents (Elt F)),
    binary main_v101 main_v102 main_v103 (maximumf : (⟨S16x778x1, .f32⟩ : BufTy).Contents (Elt F) → (⟨S16x778x1, .f32⟩ : BufTy).Contents (Elt F) → (⟨S16x778x1, .f32⟩ : BufTy).Contents (Elt F)),
    unary main_v103 main_v104 (broadcastInDim S16x778x3 ![0, 1, 2] bcast_S16x778x1_S16x778x3_0_1_2 : (⟨S16x778x1, .f32⟩ : BufTy).Contents (Elt F) → (⟨S16x778x3, .f32⟩ : BufTy).Contents (Elt F)),
    binary main_v100 main_v104 main_v105 (Host.divf : (⟨S16x778x3, .f32⟩ : BufTy).Contents (Elt F) → (⟨S16x778x3, .f32⟩ : BufTy).Contents (Elt F) → (⟨S16x778x3, .f32⟩ : BufTy).Contents (Elt F)),
    nullary main_v106 (iotaInDim S16 32 0),
    unary main_v106 main_v107 (broadcastInDim S16x1 ![0] bcast_S16_S16x1_0 : (⟨S16, .i32⟩ : BufTy).Contents (Elt F) → (⟨S16x1, .i32⟩ : BufTy).Contents (Elt F)),
    binary main_arg5 main_arg5 main_v108 (mulf : (⟨S16x778x3, .f32⟩ : BufTy).Contents (Elt F) → (⟨S16x778x3, .f32⟩ : BufTy).Contents (Elt F) → (⟨S16x778x3, .f32⟩ : BufTy).Contents (Elt F)),
    nullary main_cst_26 (constant S_ .f32 0x00000000#32),
    binary main_v108 main_cst_26 main_v109 ((fun x v => Host.reduceAdd x v reducesTo_S16x778x3_S16x778_d2 h_S_) : (⟨S16x778x3, .f32⟩ : BufTy).Contents (Elt F) → (⟨S_, .f32⟩ : BufTy).Contents (Elt F) → (⟨S16x778, .f32⟩ : BufTy).Contents (Elt F)),
    binary main_arg7 main_arg7 main_v110 (mulf : (⟨S16x2048x3, .f32⟩ : BufTy).Contents (Elt F) → (⟨S16x2048x3, .f32⟩ : BufTy).Contents (Elt F) → (⟨S16x2048x3, .f32⟩ : BufTy).Contents (Elt F)) ]

/-- @main's operations 163 … 192 of 323 (window `main_part2`). -/
abbrev ops_part2_1 : List (HloOp τ sig (Elt F)) :=
  [ nullary main_cst_27 (constant S_ .f32 0x00000000#32),
    binary main_v110 main_cst_27 main_v111 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    binary main_arg5 main_arg7 main_v112 ((fun l r => Host.dotGeneral dot_S16x778x3_S16x2048x3_S16x778x2048_2_2_1_1_0_0 none l r) : (⟨S16x778x3, .f32⟩ : BufTy).Contents (Elt F) → (⟨S16x2048x3, .f32⟩ : BufTy).Contents (Elt F) → (⟨S16x778x2048, .f32⟩ : BufTy).Contents (Elt F)),
    unary main_v109 main_v113 (broadcastInDim S16x778x1 ![0, 1] bcast_S16x778_S16x778x1_0_1 : (⟨S16x778, .f32⟩ : BufTy).Contents (Elt F) → (⟨S16x778x1, .f32⟩ : BufTy).Contents (Elt F)),
    unary main_v111 main_v114 (broadcastInDim S16x1x2048 ![0, 2] bcast_S16x2048_S16x1x2048_0_2 : (⟨S16x2048, .f32⟩ : BufTy).Contents (Elt F) → (⟨S16x1x2048, .f32⟩ : BufTy).Contents (Elt F)),
    unary main_v113 main_v115 (broadcastInDim S16x778x2048 ![0, 1, 2] bcast_S16x778x1_S16x778x2048_0_1_2 : (⟨S16x778x1, .f32⟩ : BufTy).Contents (Elt F) → (⟨S16x778x2048, .f32⟩ : BufTy).Contents (Elt F)),
    unary main_v114 main_v116 (broadcastInDim S16x778x2048 ![0, 1, 2] bcast_S16x1x2048_S16x778x2048_0_1_2 : (⟨S16x1x2048, .f32⟩ : BufTy).Contents (Elt F) → (⟨S16x778x2048, .f32⟩ : BufTy).Contents (Elt F)),
    binary main_v115 main_v116 main_v117 (addf : (⟨S16x778x2048, .f32⟩ : BufTy).Contents (Elt F) → (⟨S16x778x2048, .f32⟩ : BufTy).Contents (Elt F) → (⟨S16x778x2048, .f32⟩ : BufTy).Contents (Elt F)),
    nullary main_cst_28 (constant S_ .f32 0x40000000#32),
    unary main_cst_28 main_v118 (broadcastInDim S16x778x2048 ![] bcast_S_S16x778x2048 : (⟨S_, .f32⟩ : BufTy).Contents (Elt F) → (⟨S16x778x2048, .f32⟩ : BufTy).Contents (Elt F)),
    binary main_v118 main_v112 main_v119 (mulf : (⟨S16x778x2048, .f32⟩ : BufTy).Contents (Elt F) → (⟨S16x778x2048, .f32⟩ : BufTy).Contents (Elt F) → (⟨S16x778x2048, .f32⟩ : BufTy).Contents (Elt F)),
    binary main_v117 main_v119 main_v120 (subf : (⟨S16x778x2048, .f32⟩ : BufTy).Contents (Elt F) → (⟨S16x778x2048, .f32⟩ : BufTy).Contents (Elt F) → (⟨S16x778x2048, .f32⟩ : BufTy).Contents (Elt F)),
    nullary main_cst_29 (constant S_ .f32 0x00000000#32),
    unary main_cst_29 main_v121 (broadcastInDim S16x778x2048 ![] bcast_S_S16x778x2048 : (⟨S_, .f32⟩ : BufTy).Contents (Elt F) → (⟨S16x778x2048, .f32⟩ : BufTy).Contents (Elt F)),
    binary main_v120 main_v121 main_v122 (maximumf : (⟨S16x778x2048, .f32⟩ : BufTy).Contents (Elt F) → (⟨S16x778x2048, .f32⟩ : BufTy).Contents (Elt F) → (⟨S16x778x2048, .f32⟩ : BufTy).Contents (Elt F)),
    TRef.nullary (TRef.of (T := ⟨S16x778x2048, .i32⟩) main_call6_v0) (iotaInDim S16x778x2048 32 2),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S16x778x2048, .f32⟩) main_v122) (TRef.of (T := ⟨S16x778x2048, .i32⟩) main_call6_v0) (TRef.of (T := ⟨S_, .f32⟩) main_call6_cst) (TRef.of (T := ⟨S_, .i32⟩) main_call6_c) (TRef.of (T := ⟨S16x778, .f32⟩) main_call6_v1_0) (fun x y u v j => (Host.argReduce reducer_argmin_f32_i32 x y u v reducesTo_S16x778x2048_S16x778_d2 h_S_ j).1),
    TRef.quaternary (TRef.of (T := ⟨S16x778x2048, .f32⟩) main_v122) (TRef.of (T := ⟨S16x778x2048, .i32⟩) main_call6_v0) (TRef.of (T := ⟨S_, .f32⟩) main_call6_cst) (TRef.of (T := ⟨S_, .i32⟩) main_call6_c) (TRef.of (T := ⟨S16x778, .i32⟩) main_v123) (fun x y u v j => (Host.argReduce reducer_argmin_f32_i32 x y u v reducesTo_S16x778x2048_S16x778_d2 h_S_ j).2),
    TRef.nullary (TRef.of (T := ⟨S16x778x2048, .i32⟩) main_call7_v0) (iotaInDim S16x778x2048 32 1),
    TRef.nullary (TRef.of (T := ⟨S_, .f32⟩) main_call7_cst) (constant S_ .f32 0x7F800000#32),
    TRef.nullary (TRef.of (T := ⟨S_, .i32⟩) main_call7_c) (constantI S_ 32 0#32),
    TRef.quaternary (TRef.of (T := ⟨S16x778x2048, .f32⟩) main_v122) (TRef.of (T := ⟨S16x778x2048, .i32⟩) main_call7_v0) (TRef.of (T := ⟨S_, .f32⟩) main_call7_cst) (TRef.of (T := ⟨S_, .i32⟩) main_call7_c) (TRef.of (T := ⟨S16x2048, .f32⟩) main_call7_v1_0) (fun x y u v j => (Host.argReduce reducer_argmin_f32_i32 x y u v reducesTo_S16x778x2048_S16x2048_d1 h_S_ j).1),
    TRef.quaternary (TRef.of (T := ⟨S16x778x2048, .f32⟩) main_v122) (TRef.of (T := ⟨S16x778x2048, .i32⟩) main_call7_v0) (TRef.of (T := ⟨S_, .f32⟩) main_call7_cst) (TRef.of (T := ⟨S_, .i32⟩) main_call7_c) (TRef.of (T := ⟨S16x2048, .i32⟩) main_v124) (fun x y u v j => (Host.argReduce reducer_argmin_f32_i32 x y u v reducesTo_S16x778x2048_S16x2048_d1 h_S_ j).2),
    nullary main_c_30 (constantI S_ 32 0#32),
    unary main_c_30 main_v125 (broadcastInDim S16x1 ![] bcast_S_S16x1 : (⟨S_, .i32⟩ : BufTy).Contents (Elt F) → (⟨S16x1, .i32⟩ : BufTy).Contents (Elt F)),
    binary main_v107 main_v125 main_v126 (cmpi .slt : (⟨S16x1, .i32⟩ : BufTy).Contents (Elt F) → (⟨S16x1, .i32⟩ : BufTy).Contents (Elt F) → (⟨S16x1, .i1⟩ : BufTy).Contents (Elt F)),
    nullary main_c_31 (constantI S_ 32 16#32),
    unary main_c_31 main_v127 (broadcastInDim S16x1 ![] bcast_S_S16x1 : (⟨S_, .i32⟩ : BufTy).Contents (Elt F) → (⟨S16x1, .i32⟩ : BufTy).Contents (Elt F)) ]

/-- @main's operations 193 … 210 of 323 (window `main_part2`). -/
abbrev ops_part2_2 : List (HloOp τ sig (Elt F)) :=
  [ binary main_v107 main_v127 main_v128 (addi : (⟨S16x1, .i32⟩ : BufTy).Contents (Elt F) → (⟨S16x1, .i32⟩ : BufTy).Contents (Elt F) → (⟨S16x1, .i32⟩ : BufTy).Contents (Elt F)),
    ternary main_v126 main_v128 main_v107 main_v129 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_32 (constantI S_ 32 0#32),
    unary main_c_32 main_v130 (broadcastInDim S16x778 ![] bcast_S_S16x778 : (⟨S_, .i32⟩ : BufTy).Contents (Elt F) → (⟨S16x778, .i32⟩ : BufTy).Contents (Elt F)),
    binary main_v123 main_v130 main_v131 (cmpi .slt : (⟨S16x778, .i32⟩ : BufTy).Contents (Elt F) → (⟨S16x778, .i32⟩ : BufTy).Contents (Elt F) → (⟨S16x778, .i1⟩ : BufTy).Contents (Elt F)),
    nullary main_c_33 (constantI S_ 32 2048#32),
    unary main_c_33 main_v132 (broadcastInDim S16x778 ![] bcast_S_S16x778 : (⟨S_, .i32⟩ : BufTy).Contents (Elt F) → (⟨S16x778, .i32⟩ : BufTy).Contents (Elt F)),
    binary main_v123 main_v132 main_v133 (addi : (⟨S16x778, .i32⟩ : BufTy).Contents (Elt F) → (⟨S16x778, .i32⟩ : BufTy).Contents (Elt F) → (⟨S16x778, .i32⟩ : BufTy).Contents (Elt F)),
    ternary main_v131 main_v133 main_v123 main_v134 (select : (⟨S16x778, .i1⟩ : BufTy).Contents (Elt F) → (⟨S16x778, .i32⟩ : BufTy).Contents (Elt F) → (⟨S16x778, .i32⟩ : BufTy).Contents (Elt F) → (⟨S16x778, .i32⟩ : BufTy).Contents (Elt F)),
    unary main_v129 main_v135 (broadcastInDim S16x778 ![0, 1] bcast_S16x1_S16x778_0_1 : (⟨S16x1, .i32⟩ : BufTy).Contents (Elt F) → (⟨S16x778, .i32⟩ : BufTy).Contents (Elt F)),
    unary main_v135 main_v136 (broadcastInDim S16x778x1 ![0, 1] bcast_S16x778_S16x778x1_0_1 : (⟨S16x778, .i32⟩ : BufTy).Contents (Elt F) → (⟨S16x778x1, .i32⟩ : BufTy).Contents (Elt F)),
    unary main_v134 main_v137 (broadcastInDim S16x778x1 ![0, 1] bcast_S16x778_S16x778x1_0_1 : (⟨S16x778, .i32⟩ : BufTy).Contents (Elt F) → (⟨S16x778x1, .i32⟩ : BufTy).Contents (Elt F)),
    binary main_v136 main_v137 main_v138 (fn_main_v138 (F := F)),
    binary main_arg7 main_v138 main_v139 ((fun x i => Host.gather gather_S16x2048x3_S16x778x2_S16x778x3_2_01_n_n_01_2_113 x i) : (⟨S16x2048x3, .f32⟩ : BufTy).Contents (Elt F) → (⟨S16x778x2, .i32⟩ : BufTy).Contents (Elt F) → (⟨S16x778x3, .f32⟩ : BufTy).Contents (Elt F)),
    binary main_arg5 main_v139 main_v140 (subf : (⟨S16x778x3, .f32⟩ : BufTy).Contents (Elt F) → (⟨S16x778x3, .f32⟩ : BufTy).Contents (Elt F) → (⟨S16x778x3, .f32⟩ : BufTy).Contents (Elt F)),
    nullary main_c_34 (constantI S_ 32 0#32),
    unary main_c_34 main_v141 (broadcastInDim S16x1 ![] bcast_S_S16x1 : (⟨S_, .i32⟩ : BufTy).Contents (Elt F) → (⟨S16x1, .i32⟩ : BufTy).Contents (Elt F)),
    binary main_v107 main_v141 main_v142 (cmpi .slt : (⟨S16x1, .i32⟩ : BufTy).Contents (Elt F) → (⟨S16x1, .i32⟩ : BufTy).Contents (Elt F) → (⟨S16x1, .i1⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 211 … 240 of 323 (window `main_part3`). -/
abbrev ops_part3_0 : List (HloOp τ sig (Elt F)) :=
  [ nullary main_c_35 (constantI S_ 32 16#32),
    unary main_c_35 main_v143 (broadcastInDim S16x1 ![] bcast_S_S16x1 : (⟨S_, .i32⟩ : BufTy).Contents (Elt F) → (⟨S16x1, .i32⟩ : BufTy).Contents (Elt F)),
    binary main_v107 main_v143 main_v144 (addi : (⟨S16x1, .i32⟩ : BufTy).Contents (Elt F) → (⟨S16x1, .i32⟩ : BufTy).Contents (Elt F) → (⟨S16x1, .i32⟩ : BufTy).Contents (Elt F)),
    ternary main_v142 main_v144 main_v107 main_v145 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_36 (constantI S_ 32 0#32),
    unary main_c_36 main_v146 (broadcastInDim S16x2048 ![] bcast_S_S16x2048 : (⟨S_, .i32⟩ : BufTy).Contents (Elt F) → (⟨S16x2048, .i32⟩ : BufTy).Contents (Elt F)),
    binary main_v124 main_v146 main_v147 (cmpi .slt : (⟨S16x2048, .i32⟩ : BufTy).Contents (Elt F) → (⟨S16x2048, .i32⟩ : BufTy).Contents (Elt F) → (⟨S16x2048, .i1⟩ : BufTy).Contents (Elt F)),
    nullary main_c_37 (constantI S_ 32 778#32),
    unary main_c_37 main_v148 (broadcastInDim S16x2048 ![] bcast_S_S16x2048 : (⟨S_, .i32⟩ : BufTy).Contents (Elt F) → (⟨S16x2048, .i32⟩ : BufTy).Contents (Elt F)),
    binary main_v124 main_v148 main_v149 (addi : (⟨S16x2048, .i32⟩ : BufTy).Contents (Elt F) → (⟨S16x2048, .i32⟩ : BufTy).Contents (Elt F) → (⟨S16x2048, .i32⟩ : BufTy).Contents (Elt F)),
    ternary main_v147 main_v149 main_v124 main_v150 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    unary main_v145 main_v151 (broadcastInDim S16x2048 ![0, 1] bcast_S16x1_S16x2048_0_1 : (⟨S16x1, .i32⟩ : BufTy).Contents (Elt F) → (⟨S16x2048, .i32⟩ : BufTy).Contents (Elt F)),
    unary main_v151 main_v152 (broadcastInDim S16x2048x1 ![0, 1] bcast_S16x2048_S16x2048x1_0_1 : (⟨S16x2048, .i32⟩ : BufTy).Contents (Elt F) → (⟨S16x2048x1, .i32⟩ : BufTy).Contents (Elt F)),
    unary main_v150 main_v153 (broadcastInDim S16x2048x1 ![0, 1] bcast_S16x2048_S16x2048x1_0_1 : (⟨S16x2048, .i32⟩ : BufTy).Contents (Elt F) → (⟨S16x2048x1, .i32⟩ : BufTy).Contents (Elt F)),
    binary main_v152 main_v153 main_v154 (fn_main_v154 (F := F)),
    binary main_arg5 main_v154 main_v155 ((fun x i => Host.gather gather_S16x778x3_S16x2048x2_S16x2048x3_2_01_n_n_01_2_113 x i) : (⟨S16x778x3, .f32⟩ : BufTy).Contents (Elt F) → (⟨S16x2048x2, .i32⟩ : BufTy).Contents (Elt F) → (⟨S16x2048x3, .f32⟩ : BufTy).Contents (Elt F)),
    binary main_arg7 main_v155 main_v156 (subf : (⟨S16x2048x3, .f32⟩ : BufTy).Contents (Elt F) → (⟨S16x2048x3, .f32⟩ : BufTy).Contents (Elt F) → (⟨S16x2048x3, .f32⟩ : BufTy).Contents (Elt F)),
    nullary main_c_38 (constantI S_ 32 0#32),
    unary main_c_38 main_v157 (broadcastInDim S16x1 ![] bcast_S_S16x1 : (⟨S_, .i32⟩ : BufTy).Contents (Elt F) → (⟨S16x1, .i32⟩ : BufTy).Contents (Elt F)),
    binary main_v107 main_v157 main_v158 (cmpi .slt : (⟨S16x1, .i32⟩ : BufTy).Contents (Elt F) → (⟨S16x1, .i32⟩ : BufTy).Contents (Elt F) → (⟨S16x1, .i1⟩ : BufTy).Contents (Elt F)),
    nullary main_c_39 (constantI S_ 32 16#32),
    unary main_c_39 main_v159 (broadcastInDim S16x1 ![] bcast_S_S16x1 : (⟨S_, .i32⟩ : BufTy).Contents (Elt F) → (⟨S16x1, .i32⟩ : BufTy).Contents (Elt F)),
    binary main_v107 main_v159 main_v160 (addi : (⟨S16x1, .i32⟩ : BufTy).Contents (Elt F) → (⟨S16x1, .i32⟩ : BufTy).Contents (Elt F) → (⟨S16x1, .i32⟩ : BufTy).Contents (Elt F)),
    ternary main_v158 main_v160 main_v107 main_v161 (select : (⟨S16x1, .i1⟩ : BufTy).Contents (Elt F) → (⟨S16x1, .i32⟩ : BufTy).Contents (Elt F) → (⟨S16x1, .i32⟩ : BufTy).Contents (Elt F) → (⟨S16x1, .i32⟩ : BufTy).Contents (Elt F)),
    nullary main_c_40 (constantI S_ 32 0#32),
    unary main_c_40 main_v162 (broadcastInDim S16x2048 ![] bcast_S_S16x2048 : (⟨S_, .i32⟩ : BufTy).Contents (Elt F) → (⟨S16x2048, .i32⟩ : BufTy).Contents (Elt F)),
    binary main_v124 main_v162 main_v163 (cmpi .slt : (⟨S16x2048, .i32⟩ : BufTy).Contents (Elt F) → (⟨S16x2048, .i32⟩ : BufTy).Contents (Elt F) → (⟨S16x2048, .i1⟩ : BufTy).Contents (Elt F)),
    nullary main_c_41 (constantI S_ 32 778#32),
    unary main_c_41 main_v164 (broadcastInDim S16x2048 ![] bcast_S_S16x2048 : (⟨S_, .i32⟩ : BufTy).Contents (Elt F) → (⟨S16x2048, .i32⟩ : BufTy).Contents (Elt F)),
    binary main_v124 main_v164 main_v165 (addi : (⟨S16x2048, .i32⟩ : BufTy).Contents (Elt F) → (⟨S16x2048, .i32⟩ : BufTy).Contents (Elt F) → (⟨S16x2048, .i32⟩ : BufTy).Contents (Elt F)) ]

/-- @main's operations 241 … 270 of 323 (window `main_part3`). -/
abbrev ops_part3_1 : List (HloOp τ sig (Elt F)) :=
  [ ternary main_v163 main_v165 main_v124 main_v166 (select : (⟨S16x2048, .i1⟩ : BufTy).Contents (Elt F) → (⟨S16x2048, .i32⟩ : BufTy).Contents (Elt F) → (⟨S16x2048, .i32⟩ : BufTy).Contents (Elt F) → (⟨S16x2048, .i32⟩ : BufTy).Contents (Elt F)),
    unary main_v161 main_v167 (broadcastInDim S16x2048 ![0, 1] bcast_S16x1_S16x2048_0_1 : (⟨S16x1, .i32⟩ : BufTy).Contents (Elt F) → (⟨S16x2048, .i32⟩ : BufTy).Contents (Elt F)),
    unary main_v167 main_v168 (broadcastInDim S16x2048x1 ![0, 1] bcast_S16x2048_S16x2048x1_0_1 : (⟨S16x2048, .i32⟩ : BufTy).Contents (Elt F) → (⟨S16x2048x1, .i32⟩ : BufTy).Contents (Elt F)),
    unary main_v166 main_v169 (broadcastInDim S16x2048x1 ![0, 1] bcast_S16x2048_S16x2048x1_0_1 : (⟨S16x2048, .i32⟩ : BufTy).Contents (Elt F) → (⟨S16x2048x1, .i32⟩ : BufTy).Contents (Elt F)),
    binary main_v168 main_v169 main_v170 (fn_main_v170 (F := F)),
    binary main_v105 main_v170 main_v171 ((fun x i => Host.gather gather_S16x778x3_S16x2048x2_S16x2048x3_2_01_n_n_01_2_113 x i) : (⟨S16x778x3, .f32⟩ : BufTy).Contents (Elt F) → (⟨S16x2048x2, .i32⟩ : BufTy).Contents (Elt F) → (⟨S16x2048x3, .f32⟩ : BufTy).Contents (Elt F)),
    binary main_v171 main_v156 main_v172 (mulf : (⟨S16x2048x3, .f32⟩ : BufTy).Contents (Elt F) → (⟨S16x2048x3, .f32⟩ : BufTy).Contents (Elt F) → (⟨S16x2048x3, .f32⟩ : BufTy).Contents (Elt F)),
    nullary main_cst_42 (constant S_ .f32 0x00000000#32),
    binary main_v172 main_cst_42 main_v173 ((fun x v => Host.reduceAdd x v reducesTo_S16x2048x3_S16x2048_d2 h_S_) : (⟨S16x2048x3, .f32⟩ : BufTy).Contents (Elt F) → (⟨S_, .f32⟩ : BufTy).Contents (Elt F) → (⟨S16x2048, .f32⟩ : BufTy).Contents (Elt F)),
    unary main_v173 main_v174 (Host.sign : (⟨S16x2048, .f32⟩ : BufTy).Contents (Elt F) → (⟨S16x2048, .f32⟩ : BufTy).Contents (Elt F)),
    TRef.binary (TRef.of (T := ⟨S16x2048x3, .f32⟩) main_v156) (TRef.of (T := ⟨S16x2048x3, .f32⟩) main_v156) (TRef.of (T := ⟨S16x2048x3, .f32⟩) main_call8_v0) mulf,
    TRef.nullary (TRef.of (T := ⟨S_, .f32⟩) main_call8_cst) (constant S_ .f32 0x00000000#32),
    TRef.binary (TRef.of (T := ⟨S16x2048x3, .f32⟩) main_call8_v0) (TRef.of (T := ⟨S_, .f32⟩) main_call8_cst) (TRef.of (T := ⟨S16x2048, .f32⟩) main_call8_v1) (fun x v => Host.reduceAdd x v reducesTo_S16x2048x3_S16x2048_d2 h_S_),
    TRef.unary (TRef.of (T := ⟨S16x2048, .f32⟩) main_call8_v1) (TRef.of (T := ⟨S16x2048, .f32⟩) main_v175) Host.sqrt,
    binary main_v175 main_v174 main_v176 (mulf : (⟨S16x2048, .f32⟩ : BufTy).Contents (Elt F) → (⟨S16x2048, .f32⟩ : BufTy).Contents (Elt F) → (⟨S16x2048, .f32⟩ : BufTy).Contents (Elt F)),
    TRef.binary (TRef.of (T := ⟨S16x778x3, .f32⟩) main_v140) (TRef.of (T := ⟨S16x778x3, .f32⟩) main_v140) (TRef.of (T := ⟨S16x778x3, .f32⟩) main_call9_v0) mulf,
    TRef.nullary (TRef.of (T := ⟨S_, .f32⟩) main_call9_cst) (constant S_ .f32 0x00000000#32),
    TRef.binary (TRef.of (T := ⟨S16x778x3, .f32⟩) main_call9_v0) (TRef.of (T := ⟨S_, .f32⟩) main_call9_cst) (TRef.of (T := ⟨S16x778, .f32⟩) main_call9_v1) (fun x v => Host.reduceAdd x v reducesTo_S16x778x3_S16x778_d2 h_S_),
    TRef.unary (TRef.of (T := ⟨S16x778, .f32⟩) main_call9_v1) (TRef.of (T := ⟨S16x778, .f32⟩) main_v177) Host.sqrt,
    nullary main_cst_43 (constant S_ .f32 0x3C23D70A#32),
    unary main_cst_43 main_v178 (broadcastInDim S16x2048 ![] bcast_S_S16x2048 : (⟨S_, .f32⟩ : BufTy).Contents (Elt F) → (⟨S16x2048, .f32⟩ : BufTy).Contents (Elt F)),
    binary main_v176 main_v178 main_v179 (cmpf .olt : (⟨S16x2048, .f32⟩ : BufTy).Contents (Elt F) → (⟨S16x2048, .f32⟩ : BufTy).Contents (Elt F) → (⟨S16x2048, .i1⟩ : BufTy).Contents (Elt F)),
    nullary main_cst_44 (constant S_ .f32 0xBBA3D70A#32),
    unary main_cst_44 main_v180 (broadcastInDim S16x2048 ![] bcast_S_S16x2048 : (⟨S_, .f32⟩ : BufTy).Contents (Elt F) → (⟨S16x2048, .f32⟩ : BufTy).Contents (Elt F)),
    binary main_v176 main_v180 main_v181 (cmpf .ogt : (⟨S16x2048, .f32⟩ : BufTy).Contents (Elt F) → (⟨S16x2048, .f32⟩ : BufTy).Contents (Elt F) → (⟨S16x2048, .i1⟩ : BufTy).Contents (Elt F)),
    binary main_v179 main_v181 main_v182 (andi : (⟨S16x2048, .i1⟩ : BufTy).Contents (Elt F) → (⟨S16x2048, .i1⟩ : BufTy).Contents (Elt F) → (⟨S16x2048, .i1⟩ : BufTy).Contents (Elt F)),
    nullary main_cst_45 (constant S_ .f32 0x00000000#32),
    unary main_cst_45 main_v183 (broadcastInDim S16x2048 ![] bcast_S_S16x2048 : (⟨S_, .f32⟩ : BufTy).Contents (Elt F) → (⟨S16x2048, .f32⟩ : BufTy).Contents (Elt F)),
    binary main_v97 main_v183 main_v184 (cmpf .olt : (⟨S16x2048, .f32⟩ : BufTy).Contents (Elt F) → (⟨S16x2048, .f32⟩ : BufTy).Contents (Elt F) → (⟨S16x2048, .i1⟩ : BufTy).Contents (Elt F)),
    nullary main_cst_46 (constant S_ .f32 0x3F800000#32) ]

/-- @main's operations 271 … 280 of 323 (window `main_part3`). -/
abbrev ops_part3_2 : List (HloOp τ sig (Elt F)) :=
  [ unary main_cst_46 main_v185 (broadcastInDim S16x2048 ![] bcast_S_S16x2048 : (⟨S_, .f32⟩ : BufTy).Contents (Elt F) → (⟨S16x2048, .f32⟩ : BufTy).Contents (Elt F)),
    nullary main_cst_47 (constant S_ .f32 0x3DCCCCCD#32),
    TRef.unary (TRef.of (T := ⟨S_, .f32⟩) main_cst_47) (TRef.of (T := ⟨S_, .f32⟩) main_call10_v0) id,
    TRef.unary (TRef.of (T := ⟨S_, .f32⟩) main_call10_v0) (TRef.of (T := ⟨S16x2048, .f32⟩) main_call10_v1) (broadcastInDim S16x2048 ![] bcast_S_S16x2048),
    TRef.ternary (TRef.of (T := ⟨S16x2048, .i1⟩) main_v182) (TRef.of (T := ⟨S16x2048, .f32⟩) main_v185) (TRef.of (T := ⟨S16x2048, .f32⟩) main_call10_v1) (TRef.of (T := ⟨S16x2048, .f32⟩) main_v186) select,
    nullary main_cst_48 (constant S_ .f32 0x3FC00000#32),
    TRef.unary (TRef.of (T := ⟨S_, .f32⟩) main_cst_48) (TRef.of (T := ⟨S_, .f32⟩) main_call11_v0) id,
    TRef.unary (TRef.of (T := ⟨S_, .f32⟩) main_call11_v0) (TRef.of (T := ⟨S16x2048, .f32⟩) main_call11_v1) (broadcastInDim S16x2048 ![] bcast_S_S16x2048),
    TRef.ternary (TRef.of (T := ⟨S16x2048, .i1⟩) main_v184) (TRef.of (T := ⟨S16x2048, .f32⟩) main_call11_v1) (TRef.of (T := ⟨S16x2048, .f32⟩) main_v186) (TRef.of (T := ⟨S16x2048, .f32⟩) main_v187) select,
    unary main_v98 main_v188 (Host.absf : (⟨S16x778, .f32⟩ : BufTy).Contents (Elt F) → (⟨S16x778, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 281 … 323 of 323 (window `main_part4`). -/
abbrev ops_part4 : List (HloOp τ sig (Elt F)) :=
  [ unary main_v177 main_v189 (Host.absf : (⟨S16x778, .f32⟩ : BufTy).Contents (Elt F) → (⟨S16x778, .f32⟩ : BufTy).Contents (Elt F)),
    binary main_v188 main_v189 main_v190 (subf : (⟨S16x778, .f32⟩ : BufTy).Contents (Elt F) → (⟨S16x778, .f32⟩ : BufTy).Contents (Elt F) → (⟨S16x778, .f32⟩ : BufTy).Contents (Elt F)),
    unary main_v190 main_v191 (Host.absf : (⟨S16x778, .f32⟩ : BufTy).Contents (Elt F) → (⟨S16x778, .f32⟩ : BufTy).Contents (Elt F)),
    unary main_v19 main_v192 (broadcastInDim S1x778 ![1] bcast_S778_S1x778_1 : (⟨S778, .f32⟩ : BufTy).Contents (Elt F) → (⟨S1x778, .f32⟩ : BufTy).Contents (Elt F)),
    unary main_v192 main_v193 (broadcastInDim S16x778 ![0, 1] bcast_S1x778_S16x778_0_1 : (⟨S1x778, .f32⟩ : BufTy).Contents (Elt F) → (⟨S16x778, .f32⟩ : BufTy).Contents (Elt F)),
    binary main_v191 main_v193 main_v194 (mulf : (⟨S16x778, .f32⟩ : BufTy).Contents (Elt F) → (⟨S16x778, .f32⟩ : BufTy).Contents (Elt F) → (⟨S16x778, .f32⟩ : BufTy).Contents (Elt F)),
    nullary main_cst_49 (constant S_ .f32 0x00000000#32),
    binary main_v194 main_cst_49 main_v195 ((fun x v => Host.reduceAdd x v reducesTo_S16x778_S_d0_1 h_S_) : (⟨S16x778, .f32⟩ : BufTy).Contents (Elt F) → (⟨S_, .f32⟩ : BufTy).Contents (Elt F) → (⟨S_, .f32⟩ : BufTy).Contents (Elt F)),
    nullary main_cst_50 (constant S_ .f32 0x46428000#32),
    binary main_v195 main_cst_50 main_v196 (Host.divf : (⟨S_, .f32⟩ : BufTy).Contents (Elt F) → (⟨S_, .f32⟩ : BufTy).Contents (Elt F) → (⟨S_, .f32⟩ : BufTy).Contents (Elt F)),
    nullary main_cst_51 (constant S_ .f32 0x420C0000#32),
    binary main_cst_51 main_v196 main_v197 (mulf : (⟨S_, .f32⟩ : BufTy).Contents (Elt F) → (⟨S_, .f32⟩ : BufTy).Contents (Elt F) → (⟨S_, .f32⟩ : BufTy).Contents (Elt F)),
    nullary main_cst_52 (constant S_ .f32 0x43470000#32),
    binary main_v197 main_cst_52 main_v198 (mulf : (⟨S_, .f32⟩ : BufTy).Contents (Elt F) → (⟨S_, .f32⟩ : BufTy).Contents (Elt F) → (⟨S_, .f32⟩ : BufTy).Contents (Elt F)),
    nullary main_cst_53 (constant S_ .f32 0x43480000#32),
    binary main_v198 main_cst_53 main_v199 (Host.divf : (⟨S_, .f32⟩ : BufTy).Contents (Elt F) → (⟨S_, .f32⟩ : BufTy).Contents (Elt F) → (⟨S_, .f32⟩ : BufTy).Contents (Elt F)),
    binary main_v97 main_v176 main_v200 (subf : (⟨S16x2048, .f32⟩ : BufTy).Contents (Elt F) → (⟨S16x2048, .f32⟩ : BufTy).Contents (Elt F) → (⟨S16x2048, .f32⟩ : BufTy).Contents (Elt F)),
    unary main_v200 main_v201 (Host.absf : (⟨S16x2048, .f32⟩ : BufTy).Contents (Elt F) → (⟨S16x2048, .f32⟩ : BufTy).Contents (Elt F)),
    binary main_v201 main_v187 main_v202 (mulf : (⟨S16x2048, .f32⟩ : BufTy).Contents (Elt F) → (⟨S16x2048, .f32⟩ : BufTy).Contents (Elt F) → (⟨S16x2048, .f32⟩ : BufTy).Contents (Elt F)),
    nullary main_cst_54 (constant S_ .f32 0x00000000#32),
    binary main_v202 main_cst_54 main_v203 ((fun x v => Host.reduceAdd x v reducesTo_S16x2048_S_d0_1 h_S_) : (⟨S16x2048, .f32⟩ : BufTy).Contents (Elt F) → (⟨S_, .f32⟩ : BufTy).Contents (Elt F) → (⟨S_, .f32⟩ : BufTy).Contents (Elt F)),
    nullary main_cst_55 (constant S_ .f32 0x47000000#32),
    binary main_v203 main_cst_55 main_v204 (Host.divf : (⟨S_, .f32⟩ : BufTy).Contents (Elt F) → (⟨S_, .f32⟩ : BufTy).Contents (Elt F) → (⟨S_, .f32⟩ : BufTy).Contents (Elt F)),
    nullary main_cst_56 (constant S_ .f32 0x41F00000#32),
    binary main_cst_56 main_v204 main_v205 (mulf : (⟨S_, .f32⟩ : BufTy).Contents (Elt F) → (⟨S_, .f32⟩ : BufTy).Contents (Elt F) → (⟨S_, .f32⟩ : BufTy).Contents (Elt F)),
    nullary main_cst_57 (constant S_ .f32 0x43470000#32),
    binary main_v205 main_cst_57 main_v206 (mulf : (⟨S_, .f32⟩ : BufTy).Contents (Elt F) → (⟨S_, .f32⟩ : BufTy).Contents (Elt F) → (⟨S_, .f32⟩ : BufTy).Contents (Elt F)),
    nullary main_cst_58 (constant S_ .f32 0x43480000#32),
    binary main_v206 main_cst_58 main_v207 (Host.divf : (⟨S_, .f32⟩ : BufTy).Contents (Elt F) → (⟨S_, .f32⟩ : BufTy).Contents (Elt F) → (⟨S_, .f32⟩ : BufTy).Contents (Elt F)),
    binary main_v199 main_v207 main_v208 (addf : (⟨S_, .f32⟩ : BufTy).Contents (Elt F) → (⟨S_, .f32⟩ : BufTy).Contents (Elt F) → (⟨S_, .f32⟩ : BufTy).Contents (Elt F)),
    nullary main_cst_59 (constant S_ .f32 0x3F800000#32),
    binary main_cst_59 main_v17 main_v209 (mulf : (⟨S_, .f32⟩ : BufTy).Contents (Elt F) → (⟨S_, .f32⟩ : BufTy).Contents (Elt F) → (⟨S_, .f32⟩ : BufTy).Contents (Elt F)),
    nullary main_cst_60 (constant S_ .f32 0x3DCCCCCD#32),
    binary main_cst_60 main_v3 main_v210 (mulf : (⟨S_, .f32⟩ : BufTy).Contents (Elt F) → (⟨S_, .f32⟩ : BufTy).Contents (Elt F) → (⟨S_, .f32⟩ : BufTy).Contents (Elt F)),
    binary main_v209 main_v210 main_v211 (addf : (⟨S_, .f32⟩ : BufTy).Contents (Elt F) → (⟨S_, .f32⟩ : BufTy).Contents (Elt F) → (⟨S_, .f32⟩ : BufTy).Contents (Elt F)),
    nullary main_cst_61 (constant S_ .f32 0x41200000#32),
    binary main_cst_61 main_v208 main_v212 (mulf : (⟨S_, .f32⟩ : BufTy).Contents (Elt F) → (⟨S_, .f32⟩ : BufTy).Contents (Elt F) → (⟨S_, .f32⟩ : BufTy).Contents (Elt F)),
    binary main_v211 main_v212 main_v213 (addf : (⟨S_, .f32⟩ : BufTy).Contents (Elt F) → (⟨S_, .f32⟩ : BufTy).Contents (Elt F) → (⟨S_, .f32⟩ : BufTy).Contents (Elt F)),
    reshape main_v213 main_v214 (rfl : (.f32 : EltTy) = .f32) shapeCasts_S_S1x1,
    reshape main_v3 main_v215 (rfl : (.f32 : EltTy) = .f32) shapeCasts_S_S1x1,
    reshape main_v208 main_v216 (rfl : (.f32 : EltTy) = .f32) shapeCasts_S_S1x1,
    reshape main_v7 main_v217 (rfl : (.f32 : EltTy) = .f32) shapeCasts_S_S1x1,
    reshape main_v16 main_v218 (rfl : (.f32 : EltTy) = .f32) shapeCasts_S_S1x1 ]

/-- @main's 323 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., binary_bufs_sub .., nullary_bufs_sub .., binary_bufs_sub .., binary_bufs_sub .., nullary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., binary_bufs_sub .., binary_bufs_sub .., nullary_bufs_sub .., binary_bufs_sub .., unary_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., binary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl⟩
set_option maxRecDepth 8192 in
theorem ops_part3_0_sub : (ops_part3_0 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨ternary_bufs_sub .., unary_bufs_sub .., unary_bufs_sub .., unary_bufs_sub .., binary_bufs_sub .., binary_bufs_sub .., binary_bufs_sub .., nullary_bufs_sub .., binary_bufs_sub .., unary_bufs_sub .., binary_bufs_sub .., nullary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., unary_bufs_sub .., ternary_bufs_sub .., unary_bufs_sub ..⟩
set_option maxRecDepth 8192 in
theorem ops_part3_2_fresh : (ops_part3_2 : List (HloOp τ sig (Elt F))).Forall fun op => op.fresh = ∅ :=
  ⟨rfl, rfl, rfl, rfl, rfl, rfl, rfl, rfl, rfl, rfl⟩
set_option maxRecDepth 8192 in
theorem ops_part4_sub : (ops_part4 : List (HloOp τ sig (Elt F))).Forall fun op => op.bufs ⊆ tcRefs τ sig :=
  ⟨unary_bufs_sub .., binary_bufs_sub .., unary_bufs_sub .., unary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., reshape_bufs_sub .., reshape_bufs_sub .., reshape_bufs_sub .., reshape_bufs_sub .., reshape_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part2, ops_part3, List.mem_append, or_assoc] at h
    rcases h with h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part2, ops_part3, List.mem_append, or_assoc] at h
    rcases h with h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.LossReferenceIdeal.Value

end
-- ==== Proof.LossTerms.lean ====
/- What the operations of `LossOps` compute, as terms of the arguments' contents. -/
module

public import proofs.«01_k».proof.Proof.LossOps

@[expose] public section

set_option Elab.async false

noncomputable section

namespace Cert.LossReferenceIdeal.Value

open Cert.LossReferenceIdeal Cert.LossReferenceIdeal.Gen Idealize.ShloMosaic Idealize.ShloMosaic.TcCoe Idealize.SL.Sem Idealize.ShloMosaic.StableHlo

variable {F : FTy → Type} [FloatOps F]
set_option maxRecDepth 8192 in
/-- `main_v0`'s composed term of the arguments (named: it is used 2 times). -/
def res_main_v0 (V0 : Valuation τ sig (Elt F)) : (Proc.devRef .tc main_v0 : DevRef τ sig).ty.Contents (Elt F) :=
  subf (V0 (Proc.devRef .tc main_arg0)) (V0 (Proc.devRef .tc main_arg1))

set_option maxRecDepth 8192 in
/-- `main_v3`'s composed term of the arguments (named: it is used 2 times). -/
def res_main_v3 (V0 : Valuation τ sig (Elt F)) : (Proc.devRef .tc main_v3 : DevRef τ sig).ty.Contents (Elt F) :=
  Host.divf (Host.reduceAdd (mulf (res_main_v0 V0) (res_main_v0 V0)) (constant S_ .f32 0x00000000#32) reducesTo_S16x61_S_d0_1 h_S_) (constant S_ .f32 0x41800000#32)

set_option maxRecDepth 8192 in
/-- `main_v4`'s composed term of the arguments (named: it is used 2 times). -/
def res_main_v4 (V0 : Valuation τ sig (Elt F)) : (Proc.devRef .tc main_v4 : DevRef τ sig).ty.Contents (Elt F) :=
  subf (V0 (Proc.devRef .tc main_arg4)) (V0 (Proc.devRef .tc main_arg5))

set_option maxRecDepth 8192 in
/-- `main_v7`'s composed term of the arguments (named: it is used 2 times). -/
def res_main_v7 (V0 : Valuation τ sig (Elt F)) : (Proc.devRef .tc main_v7 : DevRef τ sig).ty.Contents (Elt F) :=
  Host.divf (Host.reduceAdd (mulf (res_main_v4 V0) (res_main_v4 V0)) (constant S_ .f32 0x00000000#32) reducesTo_S16x778x3_S_d0_1_2 h_S_) (constant S_ .f32 0x41800000#32)

set_option maxRecDepth 8192 in
/-- `main_v16`'s composed term of the arguments (named: it is used 2 times). -/
def res_main_v16 (V0 : Valuation τ sig (Elt F)) : (Proc.devRef .tc main_v16 : DevRef τ sig).ty.Contents (Elt F) :=
  Host.divf (mulf (constant S_ .f32 0xBF000000#32) (Host.reduceAdd (subf (subf (addf (broadcastInDim S16x64 ![] bcast_S_S16x64 (constant S_ .f32 0x3F800000#32)) (V0 (Proc.devRef .tc main_arg3))) (mulf (V0 (Proc.devRef .tc main_arg2)) (V0 (Proc.devRef .tc main_arg2)))) (Host.exp (V0 (Proc.devRef .tc main_arg3)))) (constant S_ .f32 0x00000000#32) reducesTo_S16x64_S_d0_1 h_S_)) (constant S_ .f32 0x41800000#32)

set_option maxRecDepth 8192 in
/-- `main_v21`'s composed term of the arguments (named: it is used 3 times). -/
def res_main_v21 (V0 : Valuation τ sig (Elt F)) : (Proc.devRef .tc main_v21 : DevRef τ sig).ty.Contents (Elt F) :=
  shapeCast _ (extractStridedSlice S16x1x778x3 ![0, 0, 0, 0] (V0 (Proc.devRef .tc main_arg6)) slices_S16x2x778x3_S16x1x778x3_0_0_0_0) shapeCasts_S16x1x778x3_S16x778x3

set_option maxRecDepth 8192 in
/-- `main_v28`'s composed term of the arguments (named: it is used 9 times). -/
def res_main_v28 (V0 : Valuation τ sig (Elt F)) : (Proc.devRef .tc main_v28 : DevRef τ sig).ty.Contents (Elt F) :=
  broadcastInDim S16x1 ![0] bcast_S16_S16x1_0 (iotaInDim S16 32 0)

set_option maxRecDepth 8192 in
/-- `main_v43`'s composed term of the arguments (named: it is used 4 times). -/
def res_main_v43 (V0 : Valuation τ sig (Elt F)) : (Proc.devRef .tc main_v43 : DevRef τ sig).ty.Contents (Elt F) :=
  maximumf (subf (addf (broadcastInDim S16x778x2048 ![0, 1, 2] bcast_S16x778x1_S16x778x2048_0_1_2 (broadcastInDim S16x778x1 ![0, 1] bcast_S16x778_S16x778x1_0_1 (Host.reduceAdd (mulf (V0 (Proc.devRef .tc main_arg4)) (V0 (Proc.devRef .tc main_arg4))) (constant S_ .f32 0x00000000#32) reducesTo_S16x778x3_S16x778_d2 h_S_))) (broadcastInDim S16x778x2048 ![0, 1, 2] bcast_S16x1x2048_S16x778x2048_0_1_2 (broadcastInDim S16x1x2048 ![0, 2] bcast_S16x2048_S16x1x2048_0_2 (Host.reduceAdd (mulf (V0 (Proc.devRef .tc main_arg7)) (V0 (Proc.devRef .tc main_arg7))) (constant S_ .f32 0x00000000#32) reducesTo_S16x2048x3_S16x2048_d2 h_S_)))) (mulf (broadcastInDim S16x778x2048 ![] bcast_S_S16x778x2048 (constant S_ .f32 0x40000000#32)) (Host.dotGeneral dot_S16x778x3_S16x2048x3_S16x778x2048_2_2_1_1_0_0 none (V0 (Proc.devRef .tc main_arg4)) (V0 (Proc.devRef .tc main_arg7))))) (broadcastInDim S16x778x2048 ![] bcast_S_S16x778x2048 (constant S_ .f32 0x00000000#32))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S16x778x2048 32 2

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0x7F800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v44`'s composed term of the arguments (named: it is used 3 times). -/
def res_main_v44 (V0 : Valuation τ sig (Elt F)) : (Proc.devRef .tc main_v44 : DevRef τ sig).ty.Contents (Elt F) :=
  (fun j => (Host.argReduce reducer_argmin_f32_i32 (res_main_v43 V0) (res_main_call1_v0 V0) (res_main_call1_cst V0) (res_main_call1_c V0) reducesTo_S16x778x2048_S16x778_d2 h_S_ j).2)

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S16x778x2048 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v45`'s composed term of the arguments (named: it is used 6 times). -/
def res_main_v45 (V0 : Valuation τ sig (Elt F)) : (Proc.devRef .tc main_v45 : DevRef τ sig).ty.Contents (Elt F) :=
  (fun j => (Host.argReduce reducer_argmin_f32_i32 (res_main_v43 V0) (res_main_call2_v0 V0) (res_main_call2_cst V0) (res_main_call2_c V0) reducesTo_S16x778x2048_S16x2048_d1 h_S_ j).2)

set_option maxRecDepth 8192 in
/-- `main_v61`'s composed term of the arguments (named: it is used 2 times). -/
def res_main_v61 (V0 : Valuation τ sig (Elt F)) : (Proc.devRef .tc main_v61 : DevRef τ sig).ty.Contents (Elt F) :=
  subf (V0 (Proc.devRef .tc main_arg4)) (Host.gather gather_S16x2048x3_S16x778x2_S16x778x3_2_01_n_n_01_2_113 (V0 (Proc.devRef .tc main_arg7)) (concatenate S16x778x2 2 [⟨S16x778x1, (broadcastInDim S16x778x1 ![0, 1] bcast_S16x778_S16x778x1_0_1 (broadcastInDim S16x778 ![0, 1] bcast_S16x1_S16x778_0_1 (select (cmpi .slt (res_main_v28 V0) (broadcastInDim S16x1 ![] bcast_S_S16x1 (constantI S_ 32 0#32))) (addi (res_main_v28 V0) (broadcastInDim S16x1 ![] bcast_S_S16x1 (constantI S_ 32 16#32))) (res_main_v28 V0))))⟩, ⟨S16x778x1, (broadcastInDim S16x778x1 ![0, 1] bcast_S16x778_S16x778x1_0_1 (select (cmpi .slt (res_main_v44 V0) (broadcastInDim S16x778 ![] bcast_S_S16x778 (constantI S_ 32 0#32))) (addi (res_main_v44 V0) (broadcastInDim S16x778 ![] bcast_S_S16x778 (constantI S_ 32 2048#32))) (res_main_v44 V0)))⟩] concatenates_S16x778x1_S16x778x1_S16x778x2_d2))

set_option maxRecDepth 8192 in
/-- `main_v77`'s composed term of the arguments (named: it is used 3 times). -/
def res_main_v77 (V0 : Valuation τ sig (Elt F)) : (Proc.devRef .tc main_v77 : DevRef τ sig).ty.Contents (Elt F) :=
  subf (V0 (Proc.devRef .tc main_arg7)) (Host.gather gather_S16x778x3_S16x2048x2_S16x2048x3_2_01_n_n_01_2_113 (V0 (Proc.devRef .tc main_arg4)) (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v28 V0) (broadcastInDim S16x1 ![] bcast_S_S16x1 (constantI S_ 32 0#32))) (addi (res_main_v28 V0) (broadcastInDim S16x1 ![] bcast_S_S16x1 (constantI S_ 32 16#32))) (res_main_v28 V0))))⟩, ⟨S16x2048x1, (broadcastInDim S16x2048x1 ![0, 1] bcast_S16x2048_S16x2048x1_0_1 (select (cmpi .slt (res_main_v45 V0) (broadcastInDim S16x2048 ![] bcast_S_S16x2048 (constantI S_ 32 0#32))) (addi (res_main_v45 V0) (broadcastInDim S16x2048 ![] bcast_S_S16x2048 (constantI S_ 32 778#32))) (res_main_v45 V0)))⟩] concatenates_S16x2048x1_S16x2048x1_S16x2048x2_d2))

set_option maxRecDepth 8192 in
/-- `main_v97`'s composed term of the arguments (named: it is used 2 times). -/
def res_main_v97 (V0 : Valuation τ sig (Elt F)) : (Proc.devRef .tc main_v97 : DevRef τ sig).ty.Contents (Elt F) :=
  mulf (Host.sqrt (Host.reduceAdd (mulf (res_main_v77 V0) (res_main_v77 V0)) (constant S_ .f32 0x00000000#32) reducesTo_S16x2048x3_S16x2048_d2 h_S_)) (Host.sign (Host.reduceAdd (mulf (Host.gather gather_S16x778x3_S16x2048x2_S16x2048x3_2_01_n_n_01_2_113 (Host.divf (res_main_v21 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v21 V0) (res_main_v21 V0)) (constant S_ .f32 0x00000000#32) reducesTo_S16x778x3_S16x778_d2 h_S_))) (broadcastInDim S16x778x1 ![] bcast_S_S16x778x1 (constant S_ .f32 0x358637BD#32))))) (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v28 V0) (broadcastInDim S16x1 ![] bcast_S_S16x1 (constantI S_ 32 0#32))) (addi (res_main_v28 V0) (broadcastInDim S16x1 ![] bcast_S_S16x1 (constantI S_ 32 16#32))) (res_main_v28 V0))))⟩, ⟨S16x2048x1, (broadcastInDim S16x2048x1 ![0, 1] bcast_S16x2048_S16x2048x1_0_1 (select (cmpi .slt (res_main_v45 V0) (broadcastInDim S16x2048 ![] bcast_S_S16x2048 (constantI S_ 32 0#32))) (addi (res_main_v45 V0) (broadcastInDim S16x2048 ![] bcast_S_S16x2048 (constantI S_ 32 778#32))) (res_main_v45 V0)))⟩] concatenates_S16x2048x1_S16x2048x1_S16x2048x2_d2)) (res_main_v77 V0)) (constant S_ .f32 0x00000000#32) reducesTo_S16x2048x3_S16x2048_d2 h_S_))

set_option maxRecDepth 8192 in
/-- `main_v100`'s composed term of the arguments (named: it is used 3 times). -/
def res_main_v100 (V0 : Valuation τ sig (Elt F)) : (Proc.devRef .tc main_v100 : DevRef τ sig).ty.Contents (Elt F) :=
  shapeCast _ (extractStridedSlice S16x1x778x3 ![0, 1, 0, 0] (V0 (Proc.devRef .tc main_arg6)) slices_S16x2x778x3_S16x1x778x3_0_1_0_0) shapeCasts_S16x1x778x3_S16x778x3

set_option maxRecDepth 8192 in
/-- `main_v107`'s composed term of the arguments (named: it is used 9 times). -/
def res_main_v107 (V0 : Valuation τ sig (Elt F)) : (Proc.devRef .tc main_v107 : DevRef τ sig).ty.Contents (Elt F) :=
  broadcastInDim S16x1 ![0] bcast_S16_S16x1_0 (iotaInDim S16 32 0)

set_option maxRecDepth 8192 in
/-- `main_v122`'s composed term of the arguments (named: it is used 4 times). -/
def res_main_v122 (V0 : Valuation τ sig (Elt F)) : (Proc.devRef .tc main_v122 : DevRef τ sig).ty.Contents (Elt F) :=
  maximumf (subf (addf (broadcastInDim S16x778x2048 ![0, 1, 2] bcast_S16x778x1_S16x778x2048_0_1_2 (broadcastInDim S16x778x1 ![0, 1] bcast_S16x778_S16x778x1_0_1 (Host.reduceAdd (mulf (V0 (Proc.devRef .tc main_arg5)) (V0 (Proc.devRef .tc main_arg5))) (constant S_ .f32 0x00000000#32) reducesTo_S16x778x3_S16x778_d2 h_S_))) (broadcastInDim S16x778x2048 ![0, 1, 2] bcast_S16x1x2048_S16x778x2048_0_1_2 (broadcastInDim S16x1x2048 ![0, 2] bcast_S16x2048_S16x1x2048_0_2 (Host.reduceAdd (mulf (V0 (Proc.devRef .tc main_arg7)) (V0 (Proc.devRef .tc main_arg7))) (constant S_ .f32 0x00000000#32) reducesTo_S16x2048x3_S16x2048_d2 h_S_)))) (mulf (broadcastInDim S16x778x2048 ![] bcast_S_S16x778x2048 (constant S_ .f32 0x40000000#32)) (Host.dotGeneral dot_S16x778x3_S16x2048x3_S16x778x2048_2_2_1_1_0_0 none (V0 (Proc.devRef .tc main_arg5)) (V0 (Proc.devRef .tc main_arg7))))) (broadcastInDim S16x778x2048 ![] bcast_S_S16x778x2048 (constant S_ .f32 0x00000000#32))

set_option maxRecDepth 8192 in
/-- `main_call6_v0`'s composed term of the arguments (named: it is used 2 times). -/
def res_main_call6_v0 (V0 : Valuation τ sig (Elt F)) : (Proc.devRef .tc main_call6_v0 : DevRef τ sig).ty.Contents (Elt F) :=
  iotaInDim S16x778x2048 32 2

set_option maxRecDepth 8192 in
/-- `main_call6_cst`'s composed term of the arguments (named: it is used 2 times). -/
def res_main_call6_cst (V0 : Valuation τ sig (Elt F)) : (Proc.devRef .tc main_call6_cst : DevRef τ sig).ty.Contents (Elt F) :=
  constant S_ .f32 0x7F800000#32

set_option maxRecDepth 8192 in
/-- `main_call6_c`'s composed term of the arguments (named: it is used 2 times). -/
def res_main_call6_c (V0 : Valuation τ sig (Elt F)) : (Proc.devRef .tc main_call6_c : DevRef τ sig).ty.Contents (Elt F) :=
  constantI S_ 32 0#32

set_option maxRecDepth 8192 in
/-- `main_v123`'s composed term of the arguments (named: it is used 3 times). -/
def res_main_v123 (V0 : Valuation τ sig (Elt F)) : (Proc.devRef .tc main_v123 : DevRef τ sig).ty.Contents (Elt F) :=
  (fun j => (Host.argReduce reducer_argmin_f32_i32 (res_main_v122 V0) (res_main_call6_v0 V0) (res_main_call6_cst V0) (res_main_call6_c V0) reducesTo_S16x778x2048_S16x778_d2 h_S_ j).2)

set_option maxRecDepth 8192 in
/-- `main_call7_v0`'s composed term of the arguments (named: it is used 2 times). -/
def res_main_call7_v0 (V0 : Valuation τ sig (Elt F)) : (Proc.devRef .tc main_call7_v0 : DevRef τ sig).ty.Contents (Elt F) :=
  iotaInDim S16x778x2048 32 1

set_option maxRecDepth 8192 in
/-- `main_call7_cst`'s composed term of the arguments (named: it is used 2 times). -/
def res_main_call7_cst (V0 : Valuation τ sig (Elt F)) : (Proc.devRef .tc main_call7_cst : DevRef τ sig).ty.Contents (Elt F) :=
  constant S_ .f32 0x7F800000#32

set_option maxRecDepth 8192 in
/-- `main_call7_c`'s composed term of the arguments (named: it is used 2 times). -/
def res_main_call7_c (V0 : Valuation τ sig (Elt F)) : (Proc.devRef .tc main_call7_c : DevRef τ sig).ty.Contents (Elt F) :=
  constantI S_ 32 0#32

set_option maxRecDepth 8192 in
/-- `main_v124`'s composed term of the arguments (named: it is used 6 times). -/
def res_main_v124 (V0 : Valuation τ sig (Elt F)) : (Proc.devRef .tc main_v124 : DevRef τ sig).ty.Contents (Elt F) :=
  (fun j => (Host.argReduce reducer_argmin_f32_i32 (res_main_v122 V0) (res_main_call7_v0 V0) (res_main_call7_cst V0) (res_main_call7_c V0) reducesTo_S16x778x2048_S16x2048_d1 h_S_ j).2)

set_option maxRecDepth 8192 in
/-- `main_v140`'s composed term of the arguments (named: it is used 2 times). -/
def res_main_v140 (V0 : Valuation τ sig (Elt F)) : (Proc.devRef .tc main_v140 : DevRef τ sig).ty.Contents (Elt F) :=
  subf (V0 (Proc.devRef .tc main_arg5)) (Host.gather gather_S16x2048x3_S16x778x2_S16x778x3_2_01_n_n_01_2_113 (V0 (Proc.devRef .tc main_arg7)) (concatenate S16x778x2 2 [⟨S16x778x1, (broadcastInDim S16x778x1 ![0, 1] bcast_S16x778_S16x778x1_0_1 (broadcastInDim S16x778 ![0, 1] bcast_S16x1_S16x778_0_1 (select (cmpi .slt (res_main_v107 V0) (broadcastInDim S16x1 ![] bcast_S_S16x1 (constantI S_ 32 0#32))) (addi (res_main_v107 V0) (broadcastInDim S16x1 ![] bcast_S_S16x1 (constantI S_ 32 16#32))) (res_main_v107 V0))))⟩, ⟨S16x778x1, (broadcastInDim S16x778x1 ![0, 1] bcast_S16x778_S16x778x1_0_1 (select (cmpi .slt (res_main_v123 V0) (broadcastInDim S16x778 ![] bcast_S_S16x778 (constantI S_ 32 0#32))) (addi (res_main_v123 V0) (broadcastInDim S16x778 ![] bcast_S_S16x778 (constantI S_ 32 2048#32))) (res_main_v123 V0)))⟩] concatenates_S16x778x1_S16x778x1_S16x778x2_d2))

set_option maxRecDepth 8192 in
/-- `main_v156`'s composed term of the arguments (named: it is used 3 times). -/
def res_main_v156 (V0 : Valuation τ sig (Elt F)) : (Proc.devRef .tc main_v156 : DevRef τ sig).ty.Contents (Elt F) :=
  subf (V0 (Proc.devRef .tc main_arg7)) (Host.gather gather_S16x778x3_S16x2048x2_S16x2048x3_2_01_n_n_01_2_113 (V0 (Proc.devRef .tc main_arg5)) (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v107 V0) (broadcastInDim S16x1 ![] bcast_S_S16x1 (constantI S_ 32 0#32))) (addi (res_main_v107 V0) (broadcastInDim S16x1 ![] bcast_S_S16x1 (constantI S_ 32 16#32))) (res_main_v107 V0))))⟩, ⟨S16x2048x1, (broadcastInDim S16x2048x1 ![0, 1] bcast_S16x2048_S16x2048x1_0_1 (select (cmpi .slt (res_main_v124 V0) (broadcastInDim S16x2048 ![] bcast_S_S16x2048 (constantI S_ 32 0#32))) (addi (res_main_v124 V0) (broadcastInDim S16x2048 ![] bcast_S_S16x2048 (constantI S_ 32 778#32))) (res_main_v124 V0)))⟩] concatenates_S16x2048x1_S16x2048x1_S16x2048x2_d2))

set_option maxRecDepth 8192 in
/-- `main_v176`'s composed term of the arguments (named: it is used 3 times). -/
def res_main_v176 (V0 : Valuation τ sig (Elt F)) : (Proc.devRef .tc main_v176 : DevRef τ sig).ty.Contents (Elt F) :=
  mulf (Host.sqrt (Host.reduceAdd (mulf (res_main_v156 V0) (res_main_v156 V0)) (constant S_ .f32 0x00000000#32) reducesTo_S16x2048x3_S16x2048_d2 h_S_)) (Host.sign (Host.reduceAdd (mulf (Host.gather gather_S16x778x3_S16x2048x2_S16x2048x3_2_01_n_n_01_2_113 (Host.divf (res_main_v100 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v100 V0) (res_main_v100 V0)) (constant S_ .f32 0x00000000#32) reducesTo_S16x778x3_S16x778_d2 h_S_))) (broadcastInDim S16x778x1 ![] bcast_S_S16x778x1 (constant S_ .f32 0x358637BD#32))))) (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v107 V0) (broadcastInDim S16x1 ![] bcast_S_S16x1 (constantI S_ 32 0#32))) (addi (res_main_v107 V0) (broadcastInDim S16x1 ![] bcast_S_S16x1 (constantI S_ 32 16#32))) (res_main_v107 V0))))⟩, ⟨S16x2048x1, (broadcastInDim S16x2048x1 ![0, 1] bcast_S16x2048_S16x2048x1_0_1 (select (cmpi .slt (res_main_v124 V0) (broadcastInDim S16x2048 ![] bcast_S_S16x2048 (constantI S_ 32 0#32))) (addi (res_main_v124 V0) (broadcastInDim S16x2048 ![] bcast_S_S16x2048 (constantI S_ 32 778#32))) (res_main_v124 V0)))⟩] concatenates_S16x2048x1_S16x2048x1_S16x2048x2_d2)) (res_main_v156 V0)) (constant S_ .f32 0x00000000#32) reducesTo_S16x2048x3_S16x2048_d2 h_S_))

set_option maxRecDepth 8192 in
/-- `main_v208`'s composed term of the arguments (named: it is used 2 times). -/
def res_main_v208 (V0 : Valuation τ sig (Elt F)) : (Proc.devRef .tc main_v208 : DevRef τ sig).ty.Contents (Elt F) :=
  addf (Host.divf (mulf (mulf (constant S_ .f32 0x420C0000#32) (Host.divf (Host.reduceAdd (mulf (Host.absf (subf (Host.absf (Host.sqrt (Host.reduceAdd (mulf (res_main_v61 V0) (res_main_v61 V0)) (constant S_ .f32 0x00000000#32) reducesTo_S16x778x3_S16x778_d2 h_S_))) (Host.absf (Host.sqrt (Host.reduceAdd (mulf (res_main_v140 V0) (res_main_v140 V0)) (constant S_ .f32 0x00000000#32) reducesTo_S16x778x3_S16x778_d2 h_S_))))) (broadcastInDim S16x778 ![0, 1] bcast_S1x778_S16x778_0_1 (broadcastInDim S1x778 ![1] bcast_S778_S1x778_1 (Host.powf (V0 (Proc.devRef .tc main_arg8)) (broadcastInDim S778 ![] bcast_S_S778 (constant S_ .f32 0x3ECCCCCD#32)))))) (constant S_ .f32 0x00000000#32) reducesTo_S16x778_S_d0_1 h_S_) (constant S_ .f32 0x46428000#32))) (constant S_ .f32 0x43470000#32)) (constant S_ .f32 0x43480000#32)) (Host.divf (mulf (mulf (constant S_ .f32 0x41F00000#32) (Host.divf (Host.reduceAdd (mulf (Host.absf (subf (res_main_v97 V0) (res_main_v176 V0))) (select (cmpf .olt (res_main_v97 V0) (broadcastInDim S16x2048 ![] bcast_S_S16x2048 (constant S_ .f32 0x00000000#32))) (broadcastInDim S16x2048 ![] bcast_S_S16x2048 (id (constant S_ .f32 0x3FC00000#32))) (select (andi (cmpf .olt (res_main_v176 V0) (broadcastInDim S16x2048 ![] bcast_S_S16x2048 (constant S_ .f32 0x3C23D70A#32))) (cmpf .ogt (res_main_v176 V0) (broadcastInDim S16x2048 ![] bcast_S_S16x2048 (constant S_ .f32 0xBBA3D70A#32)))) (broadcastInDim S16x2048 ![] bcast_S_S16x2048 (constant S_ .f32 0x3F800000#32)) (broadcastInDim S16x2048 ![] bcast_S_S16x2048 (id (constant S_ .f32 0x3DCCCCCD#32)))))) (constant S_ .f32 0x00000000#32) reducesTo_S16x2048_S_d0_1 h_S_) (constant S_ .f32 0x47000000#32))) (constant S_ .f32 0x43470000#32)) (constant S_ .f32 0x43480000#32))

end Cert.LossReferenceIdeal.Value

end
-- ==== Proof.LossNear.lean ====
module

public import proofs.«01_k».proof.Proof.LossTerms
public import proofs.«01_k».proof.Proof.LossMath
public import Idealize.ShloMosaic.Lib.Routing.OpsPair

@[expose] public section

noncomputable section

namespace Cert.Proof.LossRef

open Cert.LossReferenceIdeal Cert.LossReferenceIdeal.Gen Cert.LossReferenceIdeal.Value Idealize.ShloMosaic Idealize.ShloMosaic.TcCoe
  Idealize.SL.Sem Idealize.ShloMosaic.StableHlo
open Cert.Proof.LossMath

abbrev gdO := gather_S16x2048x3_S16x778x2_S16x778x3_2_01_n_n_01_2_113
abbrev gdV := gather_S16x778x3_S16x2048x2_S16x2048x3_2_01_n_n_01_2_113

/-! ### The reference's terms, for either mesh -/

/-- The rows' numbers. -/
def rows : IVec S16x1 32 := broadcastInDim S16x1 ![0] bcast_S16_S16x1_0 (iotaInDim S16 32 0)

/-- The squared distances of the vertices `A` from the object points `B`. -/
def distT (A : FVec Ideal S16x778x3 .f32) (B : FVec Ideal S16x2048x3 .f32) : FVec Ideal S16x778x2048 .f32 :=
  maximumf (subf (addf (broadcastInDim S16x778x2048 ![0, 1, 2] bcast_S16x778x1_S16x778x2048_0_1_2 (broadcastInDim S16x778x1 ![0, 1] bcast_S16x778_S16x778x1_0_1 (Host.reduceAdd (mulf A A) (constant S_ .f32 0x00000000#32) reducesTo_S16x778x3_S16x778_d2 h_S_))) (broadcastInDim S16x778x2048 ![0, 1, 2] bcast_S16x1x2048_S16x778x2048_0_1_2 (broadcastInDim S16x1x2048 ![0, 2] bcast_S16x2048_S16x1x2048_0_2 (Host.reduceAdd (mulf B B) (constant S_ .f32 0x00000000#32) reducesTo_S16x2048x3_S16x2048_d2 h_S_)))) (mulf (broadcastInDim S16x778x2048 ![] bcast_S_S16x778x2048 (constant S_ .f32 0x40000000#32)) (Host.dotGeneral dot_S16x778x3_S16x2048x3_S16x778x2048_2_2_1_1_0_0 none A B))) (broadcastInDim S16x778x2048 ![] bcast_S_S16x778x2048 (constant S_ .f32 0x00000000#32))

/-- Each vertex's nearest object point. -/
def rowArg (D : FVec Ideal S16x778x2048 .f32) : IVec S16x778 32 :=
  (fun j => (Host.argReduce reducer_argmin_f32_i32 D (iotaInDim S16x778x2048 32 2) (constant S_ .f32 0x7F800000#32) (constantI S_ 32 0#32) reducesTo_S16x778x2048_S16x778_d2 h_S_ j).2)

/-- Each object point's nearest vertex. -/
def colArg (D : FVec Ideal S16x778x2048 .f32) : IVec S16x2048 32 :=
  (fun j => (Host.argReduce reducer_argmin_f32_i32 D (iotaInDim S16x778x2048 32 1) (constant S_ .f32 0x7F800000#32) (constantI S_ 32 0#32) reducesTo_S16x778x2048_S16x2048_d1 h_S_ j).2)

/-- The pairs (row, object point) read through. -/
def tableO (T : IVec S16x778 32) : IVec S16x778x2 32 :=
  concatenate S16x778x2 2 [⟨S16x778x1, (broadcastInDim S16x778x1 ![0, 1] bcast_S16x778_S16x778x1_0_1 (broadcastInDim S16x778 ![0, 1] bcast_S16x1_S16x778_0_1 (select (cmpi .slt rows (broadcastInDim S16x1 ![] bcast_S_S16x1 (constantI S_ 32 0#32))) (addi rows (broadcastInDim S16x1 ![] bcast_S_S16x1 (constantI S_ 32 16#32))) rows)))⟩, ⟨S16x778x1, (broadcastInDim S16x778x1 ![0, 1] bcast_S16x778_S16x778x1_0_1 (select (cmpi .slt T (broadcastInDim S16x778 ![] bcast_S_S16x778 (constantI S_ 32 0#32))) (addi T (broadcastInDim S16x778 ![] bcast_S_S16x778 (constantI S_ 32 2048#32))) T))⟩] concatenates_S16x778x1_S16x778x1_S16x778x2_d2

/-- The pairs (row, vertex) read through. -/
def tableV (T : IVec S16x2048 32) : IVec S16x2048x2 32 :=
  concatenate S16x2048x2 2 [⟨S16x2048x1, (broadcastInDim S16x2048x1 ![0, 1] bcast_S16x2048_S16x2048x1_0_1 (broadcastInDim S16x2048 ![0, 1] bcast_S16x1_S16x2048_0_1 (select (cmpi .slt rows (broadcastInDim S16x1 ![] bcast_S_S16x1 (constantI S_ 32 0#32))) (addi rows (broadcastInDim S16x1 ![] bcast_S_S16x1 (constantI S_ 32 16#32))) rows)))⟩, ⟨S16x2048x1, (broadcastInDim S16x2048x1 ![0, 1] bcast_S16x2048_S16x2048x1_0_1 (select (cmpi .slt T (broadcastInDim S16x2048 ![] bcast_S_S16x2048 (constantI S_ 32 0#32))) (addi T (broadcastInDim S16x2048 ![] bcast_S_S16x2048 (constantI S_ 32 778#32))) T))⟩] concatenates_S16x2048x1_S16x2048x1_S16x2048x2_d2

/-- The difference of each vertex and its nearest object point. -/
def offO (A : FVec Ideal S16x778x3 .f32) (B : FVec Ideal S16x2048x3 .f32) (T : IVec S16x778 32) : FVec Ideal S16x778x3 .f32 :=
  subf A (Host.gather gather_S16x2048x3_S16x778x2_S16x778x3_2_01_n_n_01_2_113 B (tableO T))

/-- The difference of each object point and its nearest vertex. -/
def offV (A : FVec Ideal S16x778x3 .f32) (B : FVec Ideal S16x2048x3 .f32) (T : IVec S16x2048 32) : FVec Ideal S16x2048x3 .f32 :=
  subf B (Host.gather gather_S16x778x3_S16x2048x2_S16x2048x3_2_01_n_n_01_2_113 A (tableV T))

/-- The normals brought to length one. -/
def unitsT (W : FVec Ideal S16x778x3 .f32) : FVec Ideal S16x778x3 .f32 :=
  Host.divf W (broadcastInDim S16x778x3 ![0, 1, 2] bcast_S16x778x1_S16x778x3_0_1_2 (maximumf (Host.sqrt (broadcastInDim S16x778x1 ![0, 1] bcast_S16x778_S16x778x1_0_1 (Host.reduceAdd (mulf W W) (constant S_ .f32 0x00000000#32) reducesTo_S16x778x3_S16x778_d2 h_S_))) (broadcastInDim S16x778x1 ![] bcast_S_S16x778x1 (constant S_ .f32 0x358637BD#32))))

/-- The signed distances of the object points. -/
def signedT (W : FVec Ideal S16x778x3 .f32) (E : FVec Ideal S16x2048x3 .f32) (T : IVec S16x2048 32) : FVec Ideal S16x2048 .f32 :=
  mulf (Host.sqrt (Host.reduceAdd (mulf E E) (constant S_ .f32 0x00000000#32) reducesTo_S16x2048x3_S16x2048_d2 h_S_)) (Host.sign (Host.reduceAdd (mulf (Host.gather gather_S16x778x3_S16x2048x2_S16x2048x3_2_01_n_n_01_2_113 (unitsT W) (tableV T)) E) (constant S_ .f32 0x00000000#32) reducesTo_S16x2048x3_S16x2048_d2 h_S_))

theorem rowArg_def (D : FVec Ideal S16x778x2048 .f32) : rowArg D =
    (fun j => (Host.argReduce reducer_argmin_f32_i32 D (iotaInDim S16x778x2048 32 2) (constant S_ .f32 0x7F800000#32) (constantI S_ 32 0#32) reducesTo_S16x778x2048_S16x778_d2 h_S_ j).2) := rfl
theorem colArg_def (D : FVec Ideal S16x778x2048 .f32) : colArg D =
    (fun j => (Host.argReduce reducer_argmin_f32_i32 D (iotaInDim S16x778x2048 32 1) (constant S_ .f32 0x7F800000#32) (constantI S_ 32 0#32) reducesTo_S16x778x2048_S16x2048_d1 h_S_ j).2) := rfl

theorem rows_apply (b : Fin 16) : rows (ix2 b (0 : Fin 1)) = BitVec.ofNat 32 b.val := rfl

/-! ### The gathers -/

theorem tableO_row (c : IVec S16x778 32) (b : Fin 16) (f : Fin 778) : tableO c (ix3 b f (0 : Fin 2)) = BitVec.ofNat 32 b.val := by
  refine (concatenate_pair_apply_left (t := S16x778x2) (s₁ := S16x778x1) (s₂ := S16x778x1) 2 _ _ _ _ rfl (ix3 b f (0 : Fin 1)) ?_).trans ?_
  · intro a; match a with
    | 0 => rfl
    | 1 => rfl
    | 2 => rfl
  refine (broadcastInDim_apply _ _ _ _ (ix2 b f) ?_).trans ?_
  · intro a; match a with
    | 0 => simp [ix2, ix3]
    | 1 => simp [ix2, ix3]
  refine (broadcastInDim_apply _ _ _ _ (ix2 b (0 : Fin 1)) ?_).trans ?_
  · intro a; match a with
    | 0 => simp [ix2]
    | 1 => simp [ix2]
  refine Eq.trans (Routing.wrap_of_lt (rows (ix2 b (0 : Fin 1))) (IntOp.addi (rows (ix2 b (0 : Fin 1))) 16#32) ?_) (rows_apply b)
  rw [rows_apply, BitVec.toNat_ofNat]; have := b.isLt; omega

theorem tableO_point (c : IVec S16x778 32) (b : Fin 16) (f : Fin 778) (h : (c (ix2 b f)).toNat < 2048) : tableO c (ix3 b f (1 : Fin 2)) = c (ix2 b f) := by
  refine (concatenate_pair_apply_right (t := S16x778x2) (s₁ := S16x778x1) (s₂ := S16x778x1) 2 _ _ _ _ rfl rfl (ix3 b f (0 : Fin 1)) ?_ rfl).trans ?_
  · intro a ha; match a with
    | 0 => rfl
    | 1 => rfl
    | 2 => exact absurd rfl ha
  refine (broadcastInDim_apply _ _ _ _ (ix2 b f) ?_).trans ?_
  · intro a; match a with
    | 0 => simp [ix2, ix3]
    | 1 => simp [ix2, ix3]
  exact Routing.wrap_of_lt (c (ix2 b f)) (IntOp.addi (c (ix2 b f)) 2048#32) (by omega)

theorem tableO_row_toInt (c : IVec S16x778 32) (b : Fin 16) (f : Fin 778) : (tableO c (ix3 b f (0 : Fin 2))).toInt = b.val := by
  rw [tableO_row, BitVec.toInt_eq_toNat_cond, BitVec.toNat_ofNat]
  have := b.isLt
  rw [Nat.mod_eq_of_lt (by omega), if_pos (by omega)]

theorem tableO_point_toInt (c : IVec S16x778 32) (b : Fin 16) (f : Fin 778) (h : (c (ix2 b f)).toNat < 2048) :
    (tableO c (ix3 b f (1 : Fin 2))).toInt = (c (ix2 b f)).toNat := by
  rw [tableO_point c b f h, BitVec.toInt_eq_toNat_cond, if_pos (by omega)]

theorem startO0 (b : Fin 16) (f : Fin 778) (k : Fin 3) (T : IVec S16x778x2 32) :
    gdO.start (ix3 b f k) T 0 = min (T (ix3 b f (0 : Fin 2))).toInt.toNat 15 := by
  unfold GatherDims.start
  rw [dif_pos (show (0 : Fin 3) ∈ gdO.startIndexMap by decide)]
  refine congrArg (fun q => min (T q).toInt.toNat 15) (funext fun a => ?_)
  match a with
  | 0 => exact Fin.ext rfl
  | 1 => exact Fin.ext rfl
  | 2 => exact Fin.ext rfl
theorem startO1 (b : Fin 16) (f : Fin 778) (k : Fin 3) (T : IVec S16x778x2 32) :
    gdO.start (ix3 b f k) T 1 = min (T (ix3 b f (1 : Fin 2))).toInt.toNat 2047 := by
  unfold GatherDims.start
  rw [dif_pos (show (1 : Fin 3) ∈ gdO.startIndexMap by decide)]
  refine congrArg (fun q => min (T q).toInt.toNat 2047) (funext fun a => ?_)
  match a with
  | 0 => exact Fin.ext rfl
  | 1 => exact Fin.ext rfl
  | 2 => exact Fin.ext rfl
theorem startO2 (b : Fin 16) (f : Fin 778) (k : Fin 3) (T : IVec S16x778x2 32) : gdO.start (ix3 b f k) T 2 = 0 := by
  unfold GatherDims.start
  rw [dif_neg (show (2 : Fin 3) ∉ gdO.startIndexMap by decide)]
theorem batchO (b : Fin 16) (f : Fin 778) (k : Fin 3) (a : Fin 3) : gdO.batchCoord (ix3 b f k) a = 0 :=
  gdO.batchCoord_eq_zero _ _ (by simp [gdO, gather_S16x2048x3_S16x778x2_S16x778x3_2_01_n_n_01_2_113])
theorem offO0 (b : Fin 16) (f : Fin 778) (k : Fin 3) : gdO.offCoord (ix3 b f k) 0 = 0 := gdO.offCoord_eq_zero _ _ (by decide)
theorem offO1 (b : Fin 16) (f : Fin 778) (k : Fin 3) : gdO.offCoord (ix3 b f k) 1 = 0 := gdO.offCoord_eq_zero _ _ (by decide)
theorem offO2 (b : Fin 16) (f : Fin 778) (k : Fin 3) : gdO.offCoord (ix3 b f k) 2 = k.val := by
  unfold GatherDims.offCoord
  rw [dif_pos (show (2 : Fin 3) ∈ gdO.sKept by decide)]
  rfl

theorem gatherO_apply {α : Type} (X : S16x2048x3.Idx → α) (c : IVec S16x778 32) (b : Fin 16) (f : Fin 778) (k : Fin 3)
    (p : Fin 2048) (h : c (ix2 b f) = BitVec.ofNat 32 p.val) :
    Host.gather gdO X (tableO c) (ix3 b f k) = X (ix3 b p k) := by
  have hp := p.isLt
  have hn : (c (ix2 b f)).toNat = p.val := by rw [h, BitVec.toNat_ofNat]; omega
  refine congrArg X (funext fun a => Fin.ext ?_)
  show gdO.start (ix3 b f k) (tableO c) a + gdO.batchCoord (ix3 b f k) a + gdO.offCoord (ix3 b f k) a = _
  rw [batchO]
  match a with
  | 0 =>
    rw [startO0, offO0, tableO_row_toInt]
    have := b.isLt
    show min (b.val : Int).toNat 15 + 0 + 0 = b.val
    simp; omega
  | 1 =>
    rw [startO1, offO1, tableO_point_toInt c b f (by omega), hn]
    show min (p.val : Int).toNat 2047 + 0 + 0 = p.val
    simp; omega
  | 2 =>
    rw [startO2, offO2]
    show 0 + 0 + k.val = k.val
    omega

theorem tableV_row (c : IVec S16x2048 32) (b : Fin 16) (f : Fin 2048) : tableV c (ix3 b f (0 : Fin 2)) = BitVec.ofNat 32 b.val := by
  refine (concatenate_pair_apply_left (t := S16x2048x2) (s₁ := S16x2048x1) (s₂ := S16x2048x1) 2 _ _ _ _ rfl (ix3 b f (0 : Fin 1)) ?_).trans ?_
  · intro a; match a with
    | 0 => rfl
    | 1 => rfl
    | 2 => rfl
  refine (broadcastInDim_apply _ _ _ _ (ix2 b f) ?_).trans ?_
  · intro a; match a with
    | 0 => simp [ix2, ix3]
    | 1 => simp [ix2, ix3]
  refine (broadcastInDim_apply _ _ _ _ (ix2 b (0 : Fin 1)) ?_).trans ?_
  · intro a; match a with
    | 0 => simp [ix2]
    | 1 => simp [ix2]
  refine Eq.trans (Routing.wrap_of_lt (rows (ix2 b (0 : Fin 1))) (IntOp.addi (rows (ix2 b (0 : Fin 1))) 16#32) ?_) (rows_apply b)
  rw [rows_apply, BitVec.toNat_ofNat]; have := b.isLt; omega

theorem tableV_point (c : IVec S16x2048 32) (b : Fin 16) (f : Fin 2048) (h : (c (ix2 b f)).toNat < 778) : tableV c (ix3 b f (1 : Fin 2)) = c (ix2 b f) := by
  refine (concatenate_pair_apply_right (t := S16x2048x2) (s₁ := S16x2048x1) (s₂ := S16x2048x1) 2 _ _ _ _ rfl rfl (ix3 b f (0 : Fin 1)) ?_ rfl).trans ?_
  · intro a ha; match a with
    | 0 => rfl
    | 1 => rfl
    | 2 => exact absurd rfl ha
  refine (broadcastInDim_apply _ _ _ _ (ix2 b f) ?_).trans ?_
  · intro a; match a with
    | 0 => simp [ix2, ix3]
    | 1 => simp [ix2, ix3]
  exact Routing.wrap_of_lt (c (ix2 b f)) (IntOp.addi (c (ix2 b f)) 778#32) (by omega)

theorem tableV_row_toInt (c : IVec S16x2048 32) (b : Fin 16) (f : Fin 2048) : (tableV c (ix3 b f (0 : Fin 2))).toInt = b.val := by
  rw [tableV_row, BitVec.toInt_eq_toNat_cond, BitVec.toNat_ofNat]
  have := b.isLt
  rw [Nat.mod_eq_of_lt (by omega), if_pos (by omega)]

theorem tableV_point_toInt (c : IVec S16x2048 32) (b : Fin 16) (f : Fin 2048) (h : (c (ix2 b f)).toNat < 778) :
    (tableV c (ix3 b f (1 : Fin 2))).toInt = (c (ix2 b f)).toNat := by
  rw [tableV_point c b f h, BitVec.toInt_eq_toNat_cond, if_pos (by omega)]

theorem startV0 (b : Fin 16) (f : Fin 2048) (k : Fin 3) (T : IVec S16x2048x2 32) :
    gdV.start (ix3 b f k) T 0 = min (T (ix3 b f (0 : Fin 2))).toInt.toNat 15 := by
  unfold GatherDims.start
  rw [dif_pos (show (0 : Fin 3) ∈ gdV.startIndexMap by decide)]
  refine congrArg (fun q => min (T q).toInt.toNat 15) (funext fun a => ?_)
  match a with
  | 0 => exact Fin.ext rfl
  | 1 => exact Fin.ext rfl
  | 2 => exact Fin.ext rfl
theorem startV1 (b : Fin 16) (f : Fin 2048) (k : Fin 3) (T : IVec S16x2048x2 32) :
    gdV.start (ix3 b f k) T 1 = min (T (ix3 b f (1 : Fin 2))).toInt.toNat 777 := by
  unfold GatherDims.start
  rw [dif_pos (show (1 : Fin 3) ∈ gdV.startIndexMap by decide)]
  refine congrArg (fun q => min (T q).toInt.toNat 777) (funext fun a => ?_)
  match a with
  | 0 => exact Fin.ext rfl
  | 1 => exact Fin.ext rfl
  | 2 => exact Fin.ext rfl
theorem startV2 (b : Fin 16) (f : Fin 2048) (k : Fin 3) (T : IVec S16x2048x2 32) : gdV.start (ix3 b f k) T 2 = 0 := by
  unfold GatherDims.start
  rw [dif_neg (show (2 : Fin 3) ∉ gdV.startIndexMap by decide)]
theorem batchV (b : Fin 16) (f : Fin 2048) (k : Fin 3) (a : Fin 3) : gdV.batchCoord (ix3 b f k) a = 0 :=
  gdV.batchCoord_eq_zero _ _ (by simp [gdV, gather_S16x778x3_S16x2048x2_S16x2048x3_2_01_n_n_01_2_113])
theorem offV0 (b : Fin 16) (f : Fin 2048) (k : Fin 3) : gdV.offCoord (ix3 b f k) 0 = 0 := gdV.offCoord_eq_zero _ _ (by decide)
theorem offV1 (b : Fin 16) (f : Fin 2048) (k : Fin 3) : gdV.offCoord (ix3 b f k) 1 = 0 := gdV.offCoord_eq_zero _ _ (by decide)
theorem offV2 (b : Fin 16) (f : Fin 2048) (k : Fin 3) : gdV.offCoord (ix3 b f k) 2 = k.val := by
  unfold GatherDims.offCoord
  rw [dif_pos (show (2 : Fin 3) ∈ gdV.sKept by decide)]
  rfl

theorem gatherV_apply {α : Type} (X : S16x778x3.Idx → α) (c : IVec S16x2048 32) (b : Fin 16) (f : Fin 2048) (k : Fin 3)
    (p : Fin 778) (h : c (ix2 b f) = BitVec.ofNat 32 p.val) :
    Host.gather gdV X (tableV c) (ix3 b f k) = X (ix3 b p k) := by
  have hp := p.isLt
  have hn : (c (ix2 b f)).toNat = p.val := by rw [h, BitVec.toNat_ofNat]; omega
  refine congrArg X (funext fun a => Fin.ext ?_)
  show gdV.start (ix3 b f k) (tableV c) a + gdV.batchCoord (ix3 b f k) a + gdV.offCoord (ix3 b f k) a = _
  rw [batchV]
  match a with
  | 0 =>
    rw [startV0, offV0, tableV_row_toInt]
    have := b.isLt
    show min (b.val : Int).toNat 15 + 0 + 0 = b.val
    simp; omega
  | 1 =>
    rw [startV1, offV1, tableV_point_toInt c b f (by omega), hn]
    show min (p.val : Int).toNat 777 + 0 + 0 = p.val
    simp; omega
  | 2 =>
    rw [startV2, offV2]
    show 0 + 0 + k.val = k.val
    omega

/-! ### The nearest points -/

theorem mem_fiber {s t : Shape} {axes : List (Fin s.rank)} {α β : Type} (x : s.Idx → α) (y : s.Idx → β)
    (h : s.ReducesTo axes t) (j : t.Idx) (e : α × β) :
    e ∈ Host.argReduceFiber x y h j ↔ ∃ i : s.Idx, h.drop i = j ∧ e = (x i, y i) := by
  unfold Host.argReduceFiber
  constructor
  · intro he
    obtain ⟨n, hn, rfl⟩ := List.mem_map.mp he
    exact ⟨_, by simpa using (List.mem_filter.mp hn).2, rfl⟩
  · rintro ⟨i, hi, rfl⟩
    refine List.mem_map.mpr ⟨s.rowMajor i, List.mem_filter.mpr ⟨List.mem_finRange _, ?_⟩, ?_⟩
    · simpa using hi
    · simp

theorem reducer_spec (a b : EReal × BitVec 32) :
    (reducer_argmin_f32_i32 (F := Ideal) a b = a ∧ Before a b) ∨ (reducer_argmin_f32_i32 (F := Ideal) a b = b ∧ Before b a) := by
  obtain ⟨x, i⟩ := a
  obtain ⟨y, j⟩ := b
  unfold reducer_argmin_f32_i32
  simp only [Ideal.cmpf_def, Ideal.cmp, Scalar.select, Before]
  rcases lt_trichotomy x y with h | h | h
  · left
    have one : ∀ u : BitVec 1, 1#1 ||| u = 1#1 := by decide
    simp [h, IntOp.ori, h.ne, one]
  · subst h
    by_cases k : i.slt j = true
    · left
      have k' := BitVec.slt_iff_toInt_lt.mp k
      simp [IntOp.ori, IntOp.andi, IntOp.cmpi, k, k'.le]
    · right
      have k' : ¬ i.toInt < j.toInt := fun h => k (BitVec.slt_iff_toInt_lt.mpr h)
      simp [IntOp.ori, IntOp.andi, IntOp.cmpi, k, not_lt.mp k']
  · right; simp [h, IntOp.ori, IntOp.andi, h.ne', h.not_gt]

/-- The index an argmin leaves, over any list of places that reaches each element of the reduced axis once. -/
theorem argmin_eq {s t u : Shape} {axes : List (Fin s.rank)} (D : FVec Ideal s .f32) (y : IVec s 32)
    (ix : u.Idx → Ideal .f32) (iy : u.Idx → BitVec 32) (h : s.ReducesTo axes t) (hu : 0 < u.numel) (j : t.Idx)
    {n : ℕ} [NeZero n] (hn : n ≤ 1073741824) (place : Fin n → s.Idx)
    (hix : @Eq EReal (ix (Shape.Idx.first hu)) ⊤) (hiy : iy (Shape.Idx.first hu) = 0#32)
    (hy : ∀ q, y (place q) = BitVec.ofNat 32 q.val) (hd : ∀ q, h.drop (place q) = j)
    (hi : ∀ i, h.drop i = j → ∃ q, i = place q) :
    (Host.argReduce reducer_argmin_f32_i32 D y ix iy h hu j).2
      = BitVec.ofNat 32 (first fun q : Fin n => (D (place q) : EReal)).val := by
  rw [Ideal.argReduce_eq_reduce2, Host.reduce2_eq_foldl_fiber, hiy, show ix (Shape.Idx.first hu) = (⊤ : EReal) from hix]
  refine foldl_first hn (fun q : Fin n => (D (place q) : EReal)) _ reducer_spec _ fun e => ?_
  rw [mem_fiber]
  constructor
  · rintro ⟨i, hij, rfl⟩
    obtain ⟨q, rfl⟩ := hi i hij
    exact ⟨q, by rw [hy]⟩
  · rintro ⟨q, rfl⟩
    exact ⟨place q, hd q, by rw [hy]⟩

theorem rowArg_eq (D : FVec Ideal S16x778x2048 .f32) (b : Fin 16) (p : Fin 778) :
    rowArg D (ix2 b p) = BitVec.ofNat 32 (first fun q : Fin 2048 => (D (ix3 b p q) : EReal)).val := by
  have hd : ∀ q : Fin 2048, reducesTo_S16x778x2048_S16x778_d2.drop (ix3 b p q) = ix2 b p := fun q => by
    funext a
    apply Fin.ext
    rw [Shape.ReducesTo.drop_apply_val]
    match a with
    | 0 => rfl
    | 1 => rfl
  have hi : ∀ i, reducesTo_S16x778x2048_S16x778_d2.drop i = ix2 b p → ∃ q : Fin 2048, i = ix3 b p q := fun i hi => by
    have h0 : (i 0).val = b.val := by
      have := Shape.ReducesTo.drop_apply_val reducesTo_S16x778x2048_S16x778_d2 i 0
      rw [hi] at this; exact this.symm
    have h1 : (i 1).val = p.val := by
      have := Shape.ReducesTo.drop_apply_val reducesTo_S16x778x2048_S16x778_d2 i 1
      rw [hi] at this; exact this.symm
    refine ⟨i 2, funext fun a => ?_⟩
    match a with
    | 0 => exact Fin.ext h0
    | 1 => exact Fin.ext h1
    | 2 => rfl
  have H := argmin_eq D (iotaInDim S16x778x2048 32 2) (constant S_ .f32 0x7F800000#32) (constantI S_ 32 0#32)
    reducesTo_S16x778x2048_S16x778_d2 h_S_ (ix2 b p) (by norm_num) (fun q : Fin 2048 => ix3 b p q) bits_top rfl (fun _ => rfl) hd hi
  rw [rowArg_def]
  exact H

theorem colArg_eq (D : FVec Ideal S16x778x2048 .f32) (b : Fin 16) (q : Fin 2048) :
    colArg D (ix2 b q) = BitVec.ofNat 32 (first fun p : Fin 778 => (D (ix3 b p q) : EReal)).val := by
  have hd : ∀ p : Fin 778, reducesTo_S16x778x2048_S16x2048_d1.drop (ix3 b p q) = ix2 b q := fun p => by
    funext a
    apply Fin.ext
    rw [Shape.ReducesTo.drop_apply_val]
    match a with
    | 0 => rfl
    | 1 => rfl
  have hi : ∀ i, reducesTo_S16x778x2048_S16x2048_d1.drop i = ix2 b q → ∃ p : Fin 778, i = ix3 b p q := fun i hi => by
    have h0 : (i 0).val = b.val := by
      have := Shape.ReducesTo.drop_apply_val reducesTo_S16x778x2048_S16x2048_d1 i 0
      rw [hi] at this; exact this.symm
    have h1 : (i 2).val = q.val := by
      have := Shape.ReducesTo.drop_apply_val reducesTo_S16x778x2048_S16x2048_d1 i 1
      rw [hi] at this; exact this.symm
    refine ⟨i 1, funext fun a => ?_⟩
    match a with
    | 0 => exact Fin.ext h0
    | 2 => exact Fin.ext h1
    | 1 => rfl
  have H := argmin_eq D (iotaInDim S16x778x2048 32 1) (constant S_ .f32 0x7F800000#32) (constantI S_ 32 0#32)
    reducesTo_S16x778x2048_S16x2048_d1 h_S_ (ix2 b q) (by norm_num) (fun p : Fin 778 => ix3 b p q) bits_top rfl (fun _ => rfl) hd hi
  rw [colArg_def]
  exact H

/-! ### One mesh -/

section
variable (A W : FVec Ideal S16x778x3 .f32) (B : FVec Ideal S16x2048x3 .f32) (b : Fin 16)

/-- Row `b` of a mesh. -/
def meshOf (A : FVec Ideal S16x778x3 .f32) (b : Fin 16) : Fin 778 → Fin 3 → EReal := fun p c => A (ix3 b p c)
/-- Row `b` of the object points. -/
def ptsOf (B : FVec Ideal S16x2048x3 .f32) (b : Fin 16) : Fin 2048 → Fin 3 → EReal := fun q c => B (ix3 b q c)

theorem distT_eq (p : Fin 778) (q : Fin 2048) : @Eq EReal (distT A B (ix3 b p q)) (sqd (meshOf A b) (ptsOf B b) p q) := by
  pointwise [distT]
  rfl

theorem rowArg_eq' (p : Fin 778) :
    rowArg (distT A B) (ix2 b p) = BitVec.ofNat 32 (nearO (meshOf A b) (ptsOf B b) p).val := by
  rw [rowArg_eq]
  unfold nearO
  congr 2
  congr 1
  exact funext fun q => distT_eq A B b p q

theorem colArg_eq' (q : Fin 2048) :
    colArg (distT A B) (ix2 b q) = BitVec.ofNat 32 (nearV (meshOf A b) (ptsOf B b) q).val := by
  rw [colArg_eq]
  unfold nearV
  congr 2
  congr 1
  exact funext fun p => distT_eq A B b p q

theorem offO_eq (p : Fin 778) (c : Fin 3) : @Eq EReal (offO A B (rowArg (distT A B)) (ix3 b p c))
    (meshOf A b p c - ptsOf B b (nearO (meshOf A b) (ptsOf B b) p) c) :=
  congrArg (fun z : EReal => meshOf A b p c - z) (gatherO_apply B _ b p c _ (rowArg_eq' A B b p))

theorem offV_eq (q : Fin 2048) (c : Fin 3) : @Eq EReal (offV A B (colArg (distT A B)) (ix3 b q c))
    (ptsOf B b q c - meshOf A b (nearV (meshOf A b) (ptsOf B b) q) c) :=
  congrArg (fun z : EReal => ptsOf B b q c - z) (gatherV_apply A _ b q c _ (colArg_eq' A B b q))

theorem unitsT_eq (p : Fin 778) (c : Fin 3) : @Eq EReal (unitsT W (ix3 b p c)) (unit (meshOf W b) p c) := by
  pointwise [unitsT]
  rfl

theorem signedT_eq (q : Fin 2048) :
    @Eq EReal (signedT W (offV A B (colArg (distT A B))) (colArg (distT A B)) (ix2 b q))
      (sd (meshOf A b) (meshOf W b) (ptsOf B b) q) := by
  have G : ∀ c : Fin 3, @Eq EReal (Host.gather gdV (unitsT W) (tableV (colArg (distT A B))) (ix3 b q c))
      (unit (meshOf W b) (nearV (meshOf A b) (ptsOf B b) q) c) := fun c =>
    (gatherV_apply (unitsT W) _ b q c _ (colArg_eq' A B b q)).trans (unitsT_eq W b _ c)
  have E := offV_eq A B b q
  unfold signedT
  generalize Host.gather gdV (unitsT W) (tableV (colArg (distT A B))) = g at G ⊢
  generalize offV A B (colArg (distT A B)) = e at E ⊢
  pointwise []
  simp only [G, E]
  rfl

end

end Cert.Proof.LossRef

end
-- ==== Proof.LossRefValue.lean ====
module

public import proofs.«01_k».proof.Proof.LossNear

@[expose] public section

noncomputable section

namespace Cert.Proof.LossRef

open Cert.LossReferenceIdeal Cert.LossReferenceIdeal.Gen Cert.LossReferenceIdeal.Value Idealize.ShloMosaic Idealize.ShloMosaic.TcCoe
  Idealize.SL.Sem Idealize.ShloMosaic.StableHlo
open Cert.Proof.LossMath

variable (V0 : Valuation τ sig (Elt Ideal))

/-! ### The four parts of the loss, as sums over the batch -/

theorem param_eq (i : S_.Idx) : @Eq EReal (res_main_v3 V0 i)
    (∑ b : Fin 16, paramB (fun j => V0 (Proc.devRef .tc main_arg0) (ix2 b j)) (fun j => V0 (Proc.devRef .tc main_arg1) (ix2 b j))) := by
  pointwise [res_main_v3, res_main_v0]
  unfold paramB
  rw [bits_sixteen]
  exact div_sum _ _ (by norm_num)

theorem recon_eq (i : S_.Idx) : @Eq EReal (res_main_v7 V0 i)
    (∑ b : Fin 16, reconB (meshOf (V0 (Proc.devRef .tc main_arg4)) b) (meshOf (V0 (Proc.devRef .tc main_arg5)) b)) := by
  pointwise [res_main_v7]
  unfold reconB
  rw [bits_sixteen]
  exact div_sum _ _ (by norm_num)

theorem kld_eq (i : S_.Idx) : @Eq EReal (res_main_v16 V0 i)
    (∑ b : Fin 16, kldB (fun j => V0 (Proc.devRef .tc main_arg2) (ix2 b j)) (fun j => V0 (Proc.devRef .tc main_arg3) (ix2 b j))) := by
  pointwise [res_main_v16]
  unfold kldB
  rw [bits_sixteen, bits_neg_half, negHalf_sum _ _ fun b => sum_ne_top _ _ fun j => kld_ne_top _ _]
  exact div_sum _ _ (by norm_num)

/-- The normals of either mesh. -/
theorem normals0 (b : Fin 16) : meshOf (res_main_v21 V0) b = fun p c => V0 (Proc.devRef .tc main_arg6) (ix4 b 0 p c) := by
  funext p c
  show @Eq EReal ((res_main_v21 V0 : FVec Ideal S16x778x3 .f32) (ix3 b p c)) _
  pointwise [res_main_v21]
theorem normals1 (b : Fin 16) : meshOf (res_main_v100 V0) b = fun p c => V0 (Proc.devRef .tc main_arg6) (ix4 b 1 p c) := by
  funext p c
  show @Eq EReal ((res_main_v100 V0 : FVec Ideal S16x778x3 .f32) (ix3 b p c)) _
  pointwise [res_main_v100]

theorem dist0 : res_main_v43 V0 = distT (V0 (Proc.devRef .tc main_arg4)) (V0 (Proc.devRef .tc main_arg7)) := rfl
theorem dist1 : res_main_v122 V0 = distT (V0 (Proc.devRef .tc main_arg5)) (V0 (Proc.devRef .tc main_arg7)) := rfl
theorem row0 : res_main_v44 V0 = rowArg (res_main_v43 V0) := rfl
theorem row1 : res_main_v123 V0 = rowArg (res_main_v122 V0) := rfl
theorem col0 : res_main_v45 V0 = colArg (res_main_v43 V0) := rfl
theorem col1 : res_main_v124 V0 = colArg (res_main_v122 V0) := rfl
theorem off0 : res_main_v61 V0 = offO (V0 (Proc.devRef .tc main_arg4)) (V0 (Proc.devRef .tc main_arg7)) (res_main_v44 V0) := rfl
theorem off1 : res_main_v140 V0 = offO (V0 (Proc.devRef .tc main_arg5)) (V0 (Proc.devRef .tc main_arg7)) (res_main_v123 V0) := rfl
theorem offv0 : res_main_v77 V0 = offV (V0 (Proc.devRef .tc main_arg4)) (V0 (Proc.devRef .tc main_arg7)) (res_main_v45 V0) := rfl
theorem offv1 : res_main_v156 V0 = offV (V0 (Proc.devRef .tc main_arg5)) (V0 (Proc.devRef .tc main_arg7)) (res_main_v124 V0) := rfl
theorem sgn0 : res_main_v97 V0 = signedT (res_main_v21 V0) (res_main_v77 V0) (res_main_v45 V0) := rfl
theorem sgn1 : res_main_v176 V0 = signedT (res_main_v100 V0) (res_main_v156 V0) (res_main_v124 V0) := rfl

theorem ho_eq (i : S_.Idx) : @Eq EReal (res_main_v208 V0 i)
    (∑ b : Fin 16, hoSpec (meshOf (V0 (Proc.devRef .tc main_arg4)) b) (meshOf (V0 (Proc.devRef .tc main_arg5)) b)
      (fun p c => V0 (Proc.devRef .tc main_arg6) (ix4 b 0 p c)) (fun p c => V0 (Proc.devRef .tc main_arg6) (ix4 b 1 p c))
      (ptsOf (V0 (Proc.devRef .tc main_arg7)) b) (fun p => V0 (Proc.devRef .tc main_arg8) (ix1 p))) := by
  have A0 : ∀ (b : Fin 16) (p : Fin 778) (c : Fin 3), @Eq EReal (res_main_v61 V0 (ix3 b p c)) _ := fun b p c =>
    offO_eq (V0 (Proc.devRef .tc main_arg4)) (V0 (Proc.devRef .tc main_arg7)) b p c
  have A1 : ∀ (b : Fin 16) (p : Fin 778) (c : Fin 3), @Eq EReal (res_main_v140 V0 (ix3 b p c)) _ := fun b p c =>
    offO_eq (V0 (Proc.devRef .tc main_arg5)) (V0 (Proc.devRef .tc main_arg7)) b p c
  have S0 : ∀ (b : Fin 16) (q : Fin 2048), @Eq EReal (res_main_v97 V0 (ix2 b q)) _ := fun b q =>
    signedT_eq (V0 (Proc.devRef .tc main_arg4)) (res_main_v21 V0) (V0 (Proc.devRef .tc main_arg7)) b q
  have S1 : ∀ (b : Fin 16) (q : Fin 2048), @Eq EReal (res_main_v176 V0 (ix2 b q)) _ := fun b q =>
    signedT_eq (V0 (Proc.devRef .tc main_arg5)) (res_main_v100 V0) (V0 (Proc.devRef .tc main_arg7)) b q
  pointwise [res_main_v208]
  simp only [A0, A1, S0, S1, normals0, normals1]
  rw [bits_35, bits_30, bits_12448, bits_32768, bits_199, bits_200,
    weighted _ (k := 1393 / 497920) (by norm_num) (by norm_num), weighted _ (k := 597 / 655360) (by norm_num) (by norm_num)]
  unfold hoSpec
  obtain ⟨h0, ht⟩ := coe_nonneg_ne_top (r := 1393 / 497920) (by norm_num)
  obtain ⟨g0, gt⟩ := coe_nonneg_ne_top (r := 597 / 655360) (by norm_num)
  rw [Finset.sum_add_distrib, ← mul_sum _ _ h0 ht, ← mul_sum _ _ g0 gt]
  rfl

end Cert.Proof.LossRef

end
-- ==== Proof.LossRun.lean ====
/- The run of the plain reference of the losses: every execution ends, each result at its term of `LossTerms`, the arguments
   unchanged. -/
module

public import proofs.«01_k».proof.Proof.LossTerms
public import proofs.«01_k».proof.Proof.Gen.ReferenceIdeal.Run

@[expose] public section

set_option Elab.async false

noncomputable section

namespace Cert.LossReferenceIdeal.Value

open Cert.LossReferenceIdeal Cert.LossReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_cst, main_v2, main_cst_0, main_v3, main_v4, main_v5, main_cst_1, main_v6, main_cst_2, main_v7, main_cst_3, main_v8, main_v9, main_v10, main_v11, main_v12, main_v13, main_cst_4, main_v14, main_cst_5, main_v15, main_cst_6, main_v16, main_v17, main_cst_7, main_v18, main_v19, main_v20]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
set_option maxRecDepth 8192 in
set_option maxHeartbeats 2000000 in
theorem val0_1_main_v3 (V0 : Valuation τ sig (Elt F)) : val0_1 V0 (no_index (Proc.devRef .tc main_v3)) = res_main_v3 V0 := by
  unfold val0_1
  simp only [ops_part0_0]
  after_results_simp
  simp only [val0_main_arg1, val0_main_arg0] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0]
  after_results_simp
  simp only [val0_main_arg5, val0_main_arg4] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0]
  after_results_simp
  simp only [val0_main_arg3, val0_main_arg2] <;> rfl
set_option maxRecDepth 8192 in
set_option maxHeartbeats 2000000 in
theorem val0_1_main_v17 (V0 : Valuation τ sig (Elt F)) : val0_1 V0 (no_index (Proc.devRef .tc main_v17)) = addf (res_main_v7 V0) (res_main_v16 V0) := by
  unfold val0_1
  simp only [ops_part0_0]
  after_results_simp
  simp only [val0_main_arg3, val0_main_arg2, val0_main_arg5, val0_main_arg4] <;> rfl
set_option maxRecDepth 8192 in
set_option maxHeartbeats 2000000 in
theorem val0_1_main_v19 (V0 : Valuation τ sig (Elt F)) : val0_1 V0 (no_index (Proc.devRef .tc main_v19)) = Host.powf (V0 (Proc.devRef .tc main_arg8)) (broadcastInDim S778 ![] bcast_S_S778 (constant S_ .f32 0x3ECCCCCD#32)) := by
  unfold val0_1
  simp only [ops_part0_0]
  after_results_simp
  simp only [val0_main_arg8] <;> rfl
set_option maxRecDepth 8192 in
set_option maxHeartbeats 2000000 in
theorem val0_1_main_v20 (V0 : Valuation τ sig (Elt F)) : val0_1 V0 (no_index (Proc.devRef .tc main_v20)) = extractStridedSlice S16x1x778x3 ![0, 0, 0, 0] (V0 (Proc.devRef .tc main_arg6)) slices_S16x2x778x3_S16x1x778x3_0_0_0_0 := by
  unfold val0_1
  simp only [ops_part0_0]
  after_results_simp
  simp only [val0_main_arg6] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v21, main_call0_v0, main_call0_cst, main_call0_v1, main_call0_v2, main_v22, main_cst_8, main_v23, main_v24, main_v25, main_v26, main_v27, main_v28, main_v29, main_cst_9, main_v30, main_v31, main_cst_10, main_v32, main_v33, main_v34, main_v35, main_v36, main_v37, main_v38, main_cst_11, main_v39, main_v40, main_v41, main_cst_12]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_v3 (V0 : Valuation τ sig (Elt F)) : val0_2 V0 (no_index (Proc.devRef .tc main_v3)) = res_main_v3 V0 :=
  (val0_2_keep V0 main_v3 (by decide)).trans (val0_1_main_v3 V0)
theorem val0_2_main_v7 (V0 : Valuation τ sig (Elt F)) : val0_2 V0 (no_index (Proc.devRef .tc main_v7)) = res_main_v7 V0 :=
  (val0_2_keep V0 main_v7 (by decide)).trans (val0_1_main_v7 V0)
theorem val0_2_main_v16 (V0 : Valuation τ sig (Elt F)) : val0_2 V0 (no_index (Proc.devRef .tc main_v16)) = res_main_v16 V0 :=
  (val0_2_keep V0 main_v16 (by decide)).trans (val0_1_main_v16 V0)
theorem val0_2_main_v17 (V0 : Valuation τ sig (Elt F)) : val0_2 V0 (no_index (Proc.devRef .tc main_v17)) = addf (res_main_v7 V0) (res_main_v16 V0) :=
  (val0_2_keep V0 main_v17 (by decide)).trans (val0_1_main_v17 V0)
theorem val0_2_main_v19 (V0 : Valuation τ sig (Elt F)) : val0_2 V0 (no_index (Proc.devRef .tc main_v19)) = Host.powf (V0 (Proc.devRef .tc main_arg8)) (broadcastInDim S778 ![] bcast_S_S778 (constant S_ .f32 0x3ECCCCCD#32)) :=
  (val0_2_keep V0 main_v19 (by decide)).trans (val0_1_main_v19 V0)
set_option maxRecDepth 8192 in
set_option maxHeartbeats 2000000 in
theorem val0_2_main_v26 (V0 : Valuation τ sig (Elt F)) : val0_2 V0 (no_index (Proc.devRef .tc main_v26)) = Host.divf (res_main_v21 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v21 V0) (res_main_v21 V0)) (constant S_ .f32 0x00000000#32) reducesTo_S16x778x3_S16x778_d2 h_S_))) (broadcastInDim S16x778x1 ![] bcast_S_S16x778x1 (constant S_ .f32 0x358637BD#32)))) := by
  unfold val0_2
  simp only [ops_part0_1, TRef.binary, TRef.nullary, TRef.unary, TRef.toBuf, TRef.ofBuf, cast_eq]
  after_results_simp
  simp only [val0_1_main_v20] <;> rfl
set_option maxRecDepth 8192 in
set_option maxHeartbeats 2000000 in
theorem val0_2_main_v28 (V0 : Valuation τ sig (Elt F)) : val0_2 V0 (no_index (Proc.devRef .tc main_v28)) = res_main_v28 V0 := by
  unfold val0_2
  simp only [ops_part0_1, TRef.binary, TRef.nullary, TRef.unary, TRef.toBuf, TRef.ofBuf, cast_eq]
  after_results_simp
  all_goals rfl
set_option maxRecDepth 8192 in
set_option maxHeartbeats 2000000 in
theorem val0_2_main_v41 (V0 : Valuation τ sig (Elt F)) : val0_2 V0 (no_index (Proc.devRef .tc main_v41)) = subf (addf (broadcastInDim S16x778x2048 ![0, 1, 2] bcast_S16x778x1_S16x778x2048_0_1_2 (broadcastInDim S16x778x1 ![0, 1] bcast_S16x778_S16x778x1_0_1 (Host.reduceAdd (mulf (V0 (Proc.devRef .tc main_arg4)) (V0 (Proc.devRef .tc main_arg4))) (constant S_ .f32 0x00000000#32) reducesTo_S16x778x3_S16x778_d2 h_S_))) (broadcastInDim S16x778x2048 ![0, 1, 2] bcast_S16x1x2048_S16x778x2048_0_1_2 (broadcastInDim S16x1x2048 ![0, 2] bcast_S16x2048_S16x1x2048_0_2 (Host.reduceAdd (mulf (V0 (Proc.devRef .tc main_arg7)) (V0 (Proc.devRef .tc main_arg7))) (constant S_ .f32 0x00000000#32) reducesTo_S16x2048x3_S16x2048_d2 h_S_)))) (mulf (broadcastInDim S16x778x2048 ![] bcast_S_S16x778x2048 (constant S_ .f32 0x40000000#32)) (Host.dotGeneral dot_S16x778x3_S16x2048x3_S16x778x2048_2_2_1_1_0_0 none (V0 (Proc.devRef .tc main_arg4)) (V0 (Proc.devRef .tc main_arg7)))) := by
  unfold val0_2
  simp only [ops_part0_1, TRef.binary, TRef.nullary, TRef.unary, TRef.toBuf, TRef.ofBuf, cast_eq]
  after_results_simp
  simp only [val0_1_main_arg7, val0_1_main_arg4] <;> rfl
set_option maxRecDepth 8192 in
set_option maxHeartbeats 2000000 in
theorem val0_2_main_cst_12 (V0 : Valuation τ sig (Elt F)) : val0_2 V0 (no_index (Proc.devRef .tc main_cst_12)) = constant S_ .f32 0x00000000#32 := by
  unfold val0_2
  simp only [ops_part0_1, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v42, main_v43, main_call1_v0, main_call1_cst, main_call1_c, main_call1_v1_0, main_v44, main_call2_v0, main_call2_cst, main_call2_c, main_call2_v1_0, main_v45]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; refine ⟨?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_v3 (V0 : Valuation τ sig (Elt F)) : val1 V0 (no_index (Proc.devRef .tc main_v3)) = res_main_v3 V0 :=
  (val1_keep V0 main_v3 (by decide)).trans (val0_2_main_v3 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v16 (V0 : Valuation τ sig (Elt F)) : val1 V0 (no_index (Proc.devRef .tc main_v16)) = res_main_v16 V0 :=
  (val1_keep V0 main_v16 (by decide)).trans (val0_2_main_v16 V0)
theorem val1_main_v17 (V0 : Valuation τ sig (Elt F)) : val1 V0 (no_index (Proc.devRef .tc main_v17)) = addf (res_main_v7 V0) (res_main_v16 V0) :=
  (val1_keep V0 main_v17 (by decide)).trans (val0_2_main_v17 V0)
theorem val1_main_v19 (V0 : Valuation τ sig (Elt F)) : val1 V0 (no_index (Proc.devRef .tc main_v19)) = Host.powf (V0 (Proc.devRef .tc main_arg8)) (broadcastInDim S778 ![] bcast_S_S778 (constant S_ .f32 0x3ECCCCCD#32)) :=
  (val1_keep V0 main_v19 (by decide)).trans (val0_2_main_v19 V0)
theorem val1_main_v26 (V0 : Valuation τ sig (Elt F)) : val1 V0 (no_index (Proc.devRef .tc main_v26)) = Host.divf (res_main_v21 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v21 V0) (res_main_v21 V0)) (constant S_ .f32 0x00000000#32) reducesTo_S16x778x3_S16x778_d2 h_S_))) (broadcastInDim S16x778x1 ![] bcast_S_S16x778x1 (constant S_ .f32 0x358637BD#32)))) :=
  (val1_keep V0 main_v26 (by decide)).trans (val0_2_main_v26 V0)
theorem val1_main_v28 (V0 : Valuation τ sig (Elt F)) : val1 V0 (no_index (Proc.devRef .tc main_v28)) = res_main_v28 V0 :=
  (val1_keep V0 main_v28 (by decide)).trans (val0_2_main_v28 V0)
set_option maxRecDepth 8192 in
set_option maxHeartbeats 1200000 in
theorem val1_main_v44 (V0 : Valuation τ sig (Elt F)) : val1 V0 (no_index (Proc.devRef .tc main_v44)) = res_main_v44 V0 := by
  unfold val1
  simp only [ops_part0_2, TRef.nullary, TRef.quaternary, TRef.toBuf, TRef.ofBuf, cast_eq]
  after_results_simp
  simp only [val0_2_main_cst_12, val0_2_main_v41] <;> rfl
set_option maxRecDepth 8192 in
set_option maxHeartbeats 1200000 in
theorem val1_main_v45 (V0 : Valuation τ sig (Elt F)) : val1 V0 (no_index (Proc.devRef .tc main_v45)) = res_main_v45 V0 := by
  unfold val1
  simp only [ops_part0_2, TRef.nullary, TRef.quaternary, TRef.toBuf, TRef.ofBuf, cast_eq]
  after_results_simp
  simp only [val0_2_main_cst_12, val0_2_main_v41] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_c, main_v46, main_v47, main_c_13, main_v48, main_v49, main_v50, main_c_14, main_v51, main_v52, main_c_15, main_v53, main_v54, main_v55, main_v56, main_v57, main_v58, main_v59, main_v60, main_v61, main_c_16, main_v62, main_v63, main_c_17, main_v64, main_v65, main_v66, main_c_18, main_v67, main_v68, main_c_19, main_v69, main_v70, main_v71, main_v72, main_v73, main_v74, main_v75, main_v76, main_v77, main_c_20, main_v78, main_v79, main_c_21, main_v80, main_v81, main_v82, main_c_22, main_v83, main_v84, main_c_23, main_v85, main_v86, main_v87, main_v88, main_v89, main_v90, main_v91, main_v92, main_v93]
set_option maxRecDepth 8192 in
theorem ops_part1_writes : (ops_part1 : List (HloOp τ sig (Elt F))).Forall fun op => op.writes ⊆ (ops_part1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_v3 (V0 : Valuation τ sig (Elt F)) : val2 V0 (no_index (Proc.devRef .tc main_v3)) = res_main_v3 V0 :=
  (val2_keep V0 main_v3 (by decide)).trans (val1_main_v3 V0)
theorem val2_main_v7 (V0 : Valuation τ sig (Elt F)) : val2 V0 (no_index (Proc.devRef .tc main_v7)) = res_main_v7 V0 :=
  (val2_keep V0 main_v7 (by decide)).trans (val1_main_v7 V0)
theorem val2_main_v16 (V0 : Valuation τ sig (Elt F)) : val2 V0 (no_index (Proc.devRef .tc main_v16)) = res_main_v16 V0 :=
  (val2_keep V0 main_v16 (by decide)).trans (val1_main_v16 V0)
theorem val2_main_v17 (V0 : Valuation τ sig (Elt F)) : val2 V0 (no_index (Proc.devRef .tc main_v17)) = addf (res_main_v7 V0) (res_main_v16 V0) :=
  (val2_keep V0 main_v17 (by decide)).trans (val1_main_v17 V0)
theorem val2_main_v19 (V0 : Valuation τ sig (Elt F)) : val2 V0 (no_index (Proc.devRef .tc main_v19)) = Host.powf (V0 (Proc.devRef .tc main_arg8)) (broadcastInDim S778 ![] bcast_S_S778 (constant S_ .f32 0x3ECCCCCD#32)) :=
  (val2_keep V0 main_v19 (by decide)).trans (val1_main_v19 V0)
set_option maxRecDepth 8192 in
set_option maxHeartbeats 2000000 in
theorem val2_main_v61 (V0 : Valuation τ sig (Elt F)) : val2 V0 (no_index (Proc.devRef .tc main_v61)) = res_main_v61 V0 := by
  unfold val2
  simp only [ops_part1]
  after_results_simp
  simp only [val1_main_v44, val1_main_v28, val1_main_arg7, val1_main_arg4] <;> rfl
set_option maxRecDepth 8192 in
set_option maxHeartbeats 2000000 in
theorem val2_main_v77 (V0 : Valuation τ sig (Elt F)) : val2 V0 (no_index (Proc.devRef .tc main_v77)) = res_main_v77 V0 := by
  unfold val2
  simp only [ops_part1]
  after_results_simp
  simp only [val1_main_v45, val1_main_v28, val1_main_arg4, val1_main_arg7] <;> rfl
set_option maxRecDepth 8192 in
set_option maxHeartbeats 2000000 in
theorem val2_main_v93 (V0 : Valuation τ sig (Elt F)) : val2 V0 (no_index (Proc.devRef .tc main_v93)) = mulf (Host.gather gather_S16x778x3_S16x2048x2_S16x2048x3_2_01_n_n_01_2_113 (Host.divf (res_main_v21 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v21 V0) (res_main_v21 V0)) (constant S_ .f32 0x00000000#32) reducesTo_S16x778x3_S16x778_d2 h_S_))) (broadcastInDim S16x778x1 ![] bcast_S_S16x778x1 (constant S_ .f32 0x358637BD#32))))) (concatenate S16x2048x2 2 [⟨S16x2048x1, (broadcastInDim S16x2048x1 ![0, 1] bcast_S16x2048_S16x2048x1_0_1 (broadcastInDim S16x2048 ![0, 1] bcast_S16x1_S16x2048_0_1 (select (cmpi .slt (res_main_v28 V0) (broadcastInDim S16x1 ![] bcast_S_S16x1 (constantI S_ 32 0#32))) (addi (res_main_v28 V0) (broadcastInDim S16x1 ![] bcast_S_S16x1 (constantI S_ 32 16#32))) (res_main_v28 V0))))⟩, ⟨S16x2048x1, (broadcastInDim S16x2048x1 ![0, 1] bcast_S16x2048_S16x2048x1_0_1 (select (cmpi .slt (res_main_v45 V0) (broadcastInDim S16x2048 ![] bcast_S_S16x2048 (constantI S_ 32 0#32))) (addi (res_main_v45 V0) (broadcastInDim S16x2048 ![] bcast_S_S16x2048 (constantI S_ 32 778#32))) (res_main_v45 V0)))⟩] concatenates_S16x2048x1_S16x2048x1_S16x2048x2_d2)) (res_main_v77 V0) := by
  unfold val2
  simp only [ops_part1]
  after_results_simp
  simp only [val1_main_v45, val1_main_v28, val1_main_arg4, val1_main_arg7, val1_main_v26] <;> rfl

/-- The device's buffer contents after @main's first 162 operations. -/
def val2_1 (V0 : Valuation τ sig (Elt F)) : Valuation τ sig (Elt F) := after ops_part2_0 (val2 V0)
/-- The buffers that window `ops_part2_0`'s operations write. -/
abbrev ops_part2_0_W : List (Ref sig .tc) := [main_cst_24, main_v94, main_v95, main_call3_v0, main_call3_cst, main_call3_v1, main_v96, main_v97, main_call4_v0, main_call4_cst, main_call4_v1, main_v98, main_v99, main_v100, main_call5_v0, main_call5_cst, main_call5_v1, main_call5_v2, main_v101, main_cst_25, main_v102, main_v103, main_v104, main_v105, main_v106, main_v107, main_v108, main_cst_26, main_v109, main_v110]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
theorem val2_1_main_v3 (V0 : Valuation τ sig (Elt F)) : val2_1 V0 (no_index (Proc.devRef .tc main_v3)) = res_main_v3 V0 :=
  (val2_1_keep V0 main_v3 (by decide)).trans (val2_main_v3 V0)
theorem val2_1_main_v7 (V0 : Valuation τ sig (Elt F)) : val2_1 V0 (no_index (Proc.devRef .tc main_v7)) = res_main_v7 V0 :=
  (val2_1_keep V0 main_v7 (by decide)).trans (val2_main_v7 V0)
theorem val2_1_main_v16 (V0 : Valuation τ sig (Elt F)) : val2_1 V0 (no_index (Proc.devRef .tc main_v16)) = res_main_v16 V0 :=
  (val2_1_keep V0 main_v16 (by decide)).trans (val2_main_v16 V0)
theorem val2_1_main_v17 (V0 : Valuation τ sig (Elt F)) : val2_1 V0 (no_index (Proc.devRef .tc main_v17)) = addf (res_main_v7 V0) (res_main_v16 V0) :=
  (val2_1_keep V0 main_v17 (by decide)).trans (val2_main_v17 V0)
theorem val2_1_main_v19 (V0 : Valuation τ sig (Elt F)) : val2_1 V0 (no_index (Proc.devRef .tc main_v19)) = Host.powf (V0 (Proc.devRef .tc main_arg8)) (broadcastInDim S778 ![] bcast_S_S778 (constant S_ .f32 0x3ECCCCCD#32)) :=
  (val2_1_keep V0 main_v19 (by decide)).trans (val2_main_v19 V0)
set_option maxRecDepth 8192 in
set_option maxHeartbeats 2000000 in
theorem val2_1_main_v97 (V0 : Valuation τ sig (Elt F)) : val2_1 V0 (no_index (Proc.devRef .tc main_v97)) = res_main_v97 V0 := by
  unfold val2_1
  simp only [ops_part2_0, TRef.binary, TRef.nullary, TRef.unary, TRef.toBuf, TRef.ofBuf, cast_eq]
  after_results_simp
  simp only [val2_main_v93, val2_main_v77] <;> rfl
set_option maxRecDepth 8192 in
set_option maxHeartbeats 2000000 in
theorem val2_1_main_v98 (V0 : Valuation τ sig (Elt F)) : val2_1 V0 (no_index (Proc.devRef .tc main_v98)) = Host.sqrt (Host.reduceAdd (mulf (res_main_v61 V0) (res_main_v61 V0)) (constant S_ .f32 0x00000000#32) reducesTo_S16x778x3_S16x778_d2 h_S_) := by
  unfold val2_1
  simp only [ops_part2_0, TRef.binary, TRef.nullary, TRef.unary, TRef.toBuf, TRef.ofBuf, cast_eq]
  after_results_simp
  simp only [val2_main_v61] <;> rfl
set_option maxRecDepth 8192 in
set_option maxHeartbeats 2000000 in
theorem val2_1_main_v105 (V0 : Valuation τ sig (Elt F)) : val2_1 V0 (no_index (Proc.devRef .tc main_v105)) = Host.divf (res_main_v100 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v100 V0) (res_main_v100 V0)) (constant S_ .f32 0x00000000#32) reducesTo_S16x778x3_S16x778_d2 h_S_))) (broadcastInDim S16x778x1 ![] bcast_S_S16x778x1 (constant S_ .f32 0x358637BD#32)))) := by
  unfold val2_1
  simp only [ops_part2_0, TRef.binary, TRef.nullary, TRef.unary, TRef.toBuf, TRef.ofBuf, cast_eq]
  after_results_simp
  simp only [val2_main_arg6] <;> rfl
set_option maxRecDepth 8192 in
set_option maxHeartbeats 2000000 in
theorem val2_1_main_v107 (V0 : Valuation τ sig (Elt F)) : val2_1 V0 (no_index (Proc.devRef .tc main_v107)) = res_main_v107 V0 := by
  unfold val2_1
  simp only [ops_part2_0, TRef.binary, TRef.nullary, TRef.unary, TRef.toBuf, TRef.ofBuf, cast_eq]
  after_results_simp
  all_goals rfl
set_option maxRecDepth 8192 in
set_option maxHeartbeats 2000000 in
theorem val2_1_main_v109 (V0 : Valuation τ sig (Elt F)) : val2_1 V0 (no_index (Proc.devRef .tc main_v109)) = Host.reduceAdd (mulf (V0 (Proc.devRef .tc main_arg5)) (V0 (Proc.devRef .tc main_arg5))) (constant S_ .f32 0x00000000#32) reducesTo_S16x778x3_S16x778_d2 h_S_ := by
  unfold val2_1
  simp only [ops_part2_0, TRef.binary, TRef.nullary, TRef.unary, TRef.toBuf, TRef.ofBuf, cast_eq]
  after_results_simp
  simp only [val2_main_arg5] <;> rfl
set_option maxRecDepth 8192 in
set_option maxHeartbeats 2000000 in
theorem val2_1_main_v110 (V0 : Valuation τ sig (Elt F)) : val2_1 V0 (no_index (Proc.devRef .tc main_v110)) = mulf (V0 (Proc.devRef .tc main_arg7)) (V0 (Proc.devRef .tc main_arg7)) := by
  unfold val2_1
  simp only [ops_part2_0, TRef.binary, TRef.nullary, TRef.unary, TRef.toBuf, TRef.ofBuf, cast_eq]
  after_results_simp
  simp only [val2_main_arg7] <;> rfl

/-- The device's buffer contents after @main's first 192 operations. -/
def val2_2 (V0 : Valuation τ sig (Elt F)) : Valuation τ sig (Elt F) := after ops_part2_1 (val2_1 V0)
/-- The buffers that window `ops_part2_1`'s operations write. -/
abbrev ops_part2_1_W : List (Ref sig .tc) := [main_cst_27, main_v111, main_v112, main_v113, main_v114, main_v115, main_v116, main_v117, main_cst_28, main_v118, main_v119, main_v120, main_cst_29, main_v121, main_v122, main_call6_v0, main_call6_cst, main_call6_c, main_call6_v1_0, main_v123, main_call7_v0, main_call7_cst, main_call7_c, main_call7_v1_0, main_v124, main_c_30, main_v125, main_v126, main_c_31, main_v127]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
theorem val2_2_main_v3 (V0 : Valuation τ sig (Elt F)) : val2_2 V0 (no_index (Proc.devRef .tc main_v3)) = res_main_v3 V0 :=
  (val2_2_keep V0 main_v3 (by decide)).trans (val2_1_main_v3 V0)
theorem val2_2_main_v7 (V0 : Valuation τ sig (Elt F)) : val2_2 V0 (no_index (Proc.devRef .tc main_v7)) = res_main_v7 V0 :=
  (val2_2_keep V0 main_v7 (by decide)).trans (val2_1_main_v7 V0)
theorem val2_2_main_v16 (V0 : Valuation τ sig (Elt F)) : val2_2 V0 (no_index (Proc.devRef .tc main_v16)) = res_main_v16 V0 :=
  (val2_2_keep V0 main_v16 (by decide)).trans (val2_1_main_v16 V0)
theorem val2_2_main_v17 (V0 : Valuation τ sig (Elt F)) : val2_2 V0 (no_index (Proc.devRef .tc main_v17)) = addf (res_main_v7 V0) (res_main_v16 V0) :=
  (val2_2_keep V0 main_v17 (by decide)).trans (val2_1_main_v17 V0)
theorem val2_2_main_v19 (V0 : Valuation τ sig (Elt F)) : val2_2 V0 (no_index (Proc.devRef .tc main_v19)) = Host.powf (V0 (Proc.devRef .tc main_arg8)) (broadcastInDim S778 ![] bcast_S_S778 (constant S_ .f32 0x3ECCCCCD#32)) :=
  (val2_2_keep V0 main_v19 (by decide)).trans (val2_1_main_v19 V0)
theorem val2_2_main_v97 (V0 : Valuation τ sig (Elt F)) : val2_2 V0 (no_index (Proc.devRef .tc main_v97)) = res_main_v97 V0 :=
  (val2_2_keep V0 main_v97 (by decide)).trans (val2_1_main_v97 V0)
theorem val2_2_main_v98 (V0 : Valuation τ sig (Elt F)) : val2_2 V0 (no_index (Proc.devRef .tc main_v98)) = Host.sqrt (Host.reduceAdd (mulf (res_main_v61 V0) (res_main_v61 V0)) (constant S_ .f32 0x00000000#32) reducesTo_S16x778x3_S16x778_d2 h_S_) :=
  (val2_2_keep V0 main_v98 (by decide)).trans (val2_1_main_v98 V0)
theorem val2_2_main_v105 (V0 : Valuation τ sig (Elt F)) : val2_2 V0 (no_index (Proc.devRef .tc main_v105)) = Host.divf (res_main_v100 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v100 V0) (res_main_v100 V0)) (constant S_ .f32 0x00000000#32) reducesTo_S16x778x3_S16x778_d2 h_S_))) (broadcastInDim S16x778x1 ![] bcast_S_S16x778x1 (constant S_ .f32 0x358637BD#32)))) :=
  (val2_2_keep V0 main_v105 (by decide)).trans (val2_1_main_v105 V0)
theorem val2_2_main_v107 (V0 : Valuation τ sig (Elt F)) : val2_2 V0 (no_index (Proc.devRef .tc main_v107)) = res_main_v107 V0 :=
  (val2_2_keep V0 main_v107 (by decide)).trans (val2_1_main_v107 V0)
set_option maxRecDepth 8192 in
set_option maxHeartbeats 2000000 in
theorem val2_2_main_v123 (V0 : Valuation τ sig (Elt F)) : val2_2 V0 (no_index (Proc.devRef .tc main_v123)) = res_main_v123 V0 := by
  unfold val2_2
  simp only [ops_part2_1, TRef.nullary, TRef.quaternary, TRef.toBuf, TRef.ofBuf, cast_eq]
  after_results_simp
  simp only [val2_1_main_arg7, val2_1_main_arg5, val2_1_main_v110, val2_1_main_v109] <;> rfl
set_option maxRecDepth 8192 in
set_option maxHeartbeats 2000000 in
theorem val2_2_main_v124 (V0 : Valuation τ sig (Elt F)) : val2_2 V0 (no_index (Proc.devRef .tc main_v124)) = res_main_v124 V0 := by
  unfold val2_2
  simp only [ops_part2_1, TRef.nullary, TRef.quaternary, TRef.toBuf, TRef.ofBuf, cast_eq]
  after_results_simp
  simp only [val2_1_main_arg7, val2_1_main_arg5, val2_1_main_v110, val2_1_main_v109] <;> rfl
set_option maxRecDepth 8192 in
set_option maxHeartbeats 2000000 in
theorem val2_2_main_v126 (V0 : Valuation τ sig (Elt F)) : val2_2 V0 (no_index (Proc.devRef .tc main_v126)) = cmpi .slt (res_main_v107 V0) (broadcastInDim S16x1 ![] bcast_S_S16x1 (constantI S_ 32 0#32)) := by
  unfold val2_2
  simp only [ops_part2_1, TRef.nullary, TRef.quaternary, TRef.toBuf, TRef.ofBuf, cast_eq]
  after_results_simp
  simp only [val2_1_main_v107] <;> rfl
set_option maxRecDepth 8192 in
set_option maxHeartbeats 2000000 in
theorem val2_2_main_v127 (V0 : Valuation τ sig (Elt F)) : val2_2 V0 (no_index (Proc.devRef .tc main_v127)) = broadcastInDim S16x1 ![] bcast_S_S16x1 (constantI S_ 32 16#32) := by
  unfold val2_2
  simp only [ops_part2_1, TRef.nullary, TRef.quaternary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v128, main_v129, main_c_32, main_v130, main_v131, main_c_33, main_v132, main_v133, main_v134, main_v135, main_v136, main_v137, main_v138, main_v139, main_v140, main_c_34, main_v141, main_v142]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; refine ⟨?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
theorem val3_main_v3 (V0 : Valuation τ sig (Elt F)) : val3 V0 (no_index (Proc.devRef .tc main_v3)) = res_main_v3 V0 :=
  (val3_keep V0 main_v3 (by decide)).trans (val2_2_main_v3 V0)
theorem val3_main_v7 (V0 : Valuation τ sig (Elt F)) : val3 V0 (no_index (Proc.devRef .tc main_v7)) = res_main_v7 V0 :=
  (val3_keep V0 main_v7 (by decide)).trans (val2_2_main_v7 V0)
theorem val3_main_v16 (V0 : Valuation τ sig (Elt F)) : val3 V0 (no_index (Proc.devRef .tc main_v16)) = res_main_v16 V0 :=
  (val3_keep V0 main_v16 (by decide)).trans (val2_2_main_v16 V0)
theorem val3_main_v17 (V0 : Valuation τ sig (Elt F)) : val3 V0 (no_index (Proc.devRef .tc main_v17)) = addf (res_main_v7 V0) (res_main_v16 V0) :=
  (val3_keep V0 main_v17 (by decide)).trans (val2_2_main_v17 V0)
theorem val3_main_v19 (V0 : Valuation τ sig (Elt F)) : val3 V0 (no_index (Proc.devRef .tc main_v19)) = Host.powf (V0 (Proc.devRef .tc main_arg8)) (broadcastInDim S778 ![] bcast_S_S778 (constant S_ .f32 0x3ECCCCCD#32)) :=
  (val3_keep V0 main_v19 (by decide)).trans (val2_2_main_v19 V0)
theorem val3_main_v97 (V0 : Valuation τ sig (Elt F)) : val3 V0 (no_index (Proc.devRef .tc main_v97)) = res_main_v97 V0 :=
  (val3_keep V0 main_v97 (by decide)).trans (val2_2_main_v97 V0)
theorem val3_main_v98 (V0 : Valuation τ sig (Elt F)) : val3 V0 (no_index (Proc.devRef .tc main_v98)) = Host.sqrt (Host.reduceAdd (mulf (res_main_v61 V0) (res_main_v61 V0)) (constant S_ .f32 0x00000000#32) reducesTo_S16x778x3_S16x778_d2 h_S_) :=
  (val3_keep V0 main_v98 (by decide)).trans (val2_2_main_v98 V0)
theorem val3_main_v105 (V0 : Valuation τ sig (Elt F)) : val3 V0 (no_index (Proc.devRef .tc main_v105)) = Host.divf (res_main_v100 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v100 V0) (res_main_v100 V0)) (constant S_ .f32 0x00000000#32) reducesTo_S16x778x3_S16x778_d2 h_S_))) (broadcastInDim S16x778x1 ![] bcast_S_S16x778x1 (constant S_ .f32 0x358637BD#32)))) :=
  (val3_keep V0 main_v105 (by decide)).trans (val2_2_main_v105 V0)
theorem val3_main_v107 (V0 : Valuation τ sig (Elt F)) : val3 V0 (no_index (Proc.devRef .tc main_v107)) = res_main_v107 V0 :=
  (val3_keep V0 main_v107 (by decide)).trans (val2_2_main_v107 V0)
theorem val3_main_v124 (V0 : Valuation τ sig (Elt F)) : val3 V0 (no_index (Proc.devRef .tc main_v124)) = res_main_v124 V0 :=
  (val3_keep V0 main_v124 (by decide)).trans (val2_2_main_v124 V0)
set_option maxRecDepth 8192 in
set_option maxHeartbeats 1800000 in
theorem val3_main_v140 (V0 : Valuation τ sig (Elt F)) : val3 V0 (no_index (Proc.devRef .tc main_v140)) = res_main_v140 V0 := by
  unfold val3
  simp only [ops_part2_2]
  after_results_simp
  simp only [val2_2_main_v123, val2_2_main_v107, val2_2_main_v127, val2_2_main_v126, val2_2_main_arg7, val2_2_main_arg5] <;> rfl
set_option maxRecDepth 8192 in
set_option maxHeartbeats 1800000 in
theorem val3_main_v142 (V0 : Valuation τ sig (Elt F)) : val3 V0 (no_index (Proc.devRef .tc main_v142)) = cmpi .slt (res_main_v107 V0) (broadcastInDim S16x1 ![] bcast_S_S16x1 (constantI S_ 32 0#32)) := by
  unfold val3
  simp only [ops_part2_2]
  after_results_simp
  simp only [val2_2_main_v107] <;> rfl

/-- The device's buffer contents after @main's first 240 operations. -/
def val3_1 (V0 : Valuation τ sig (Elt F)) : Valuation τ sig (Elt F) := after ops_part3_0 (val3 V0)
/-- The buffers that window `ops_part3_0`'s operations write. -/
abbrev ops_part3_0_W : List (Ref sig .tc) := [main_c_35, main_v143, main_v144, main_v145, main_c_36, main_v146, main_v147, main_c_37, main_v148, main_v149, main_v150, main_v151, main_v152, main_v153, main_v154, main_v155, main_v156, main_c_38, main_v157, main_v158, main_c_39, main_v159, main_v160, main_v161, main_c_40, main_v162, main_v163, main_c_41, main_v164, main_v165]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)
theorem val3_1_main_arg3 (V0 : Valuation τ sig (Elt F)) : val3_1 V0 (no_index (Proc.devRef .tc main_arg3)) = V0 (Proc.devRef .tc main_arg3) :=
  (val3_1_keep V0 main_arg3 (by decide)).trans (val3_main_arg3 V0)
theorem val3_1_main_arg4 (V0 : Valuation τ sig (Elt F)) : val3_1 V0 (no_index (Proc.devRef .tc main_arg4)) = V0 (Proc.devRef .tc main_arg4) :=
  (val3_1_keep V0 main_arg4 (by decide)).trans (val3_main_arg4 V0)
theorem val3_1_main_arg5 (V0 : Valuation τ sig (Elt F)) : val3_1 V0 (no_index (Proc.devRef .tc main_arg5)) = V0 (Proc.devRef .tc main_arg5) :=
  (val3_1_keep V0 main_arg5 (by decide)).trans (val3_main_arg5 V0)
theorem val3_1_main_arg6 (V0 : Valuation τ sig (Elt F)) : val3_1 V0 (no_index (Proc.devRef .tc main_arg6)) = V0 (Proc.devRef .tc main_arg6) :=
  (val3_1_keep V0 main_arg6 (by decide)).trans (val3_main_arg6 V0)
theorem val3_1_main_arg7 (V0 : Valuation τ sig (Elt F)) : val3_1 V0 (no_index (Proc.devRef .tc main_arg7)) = V0 (Proc.devRef .tc main_arg7) :=
  (val3_1_keep V0 main_arg7 (by decide)).trans (val3_main_arg7 V0)
theorem val3_1_main_arg8 (V0 : Valuation τ sig (Elt F)) : val3_1 V0 (no_index (Proc.devRef .tc main_arg8)) = V0 (Proc.devRef .tc main_arg8) :=
  (val3_1_keep V0 main_arg8 (by decide)).trans (val3_main_arg8 V0)
theorem val3_1_main_v3 (V0 : Valuation τ sig (Elt F)) : val3_1 V0 (no_index (Proc.devRef .tc main_v3)) = res_main_v3 V0 :=
  (val3_1_keep V0 main_v3 (by decide)).trans (val3_main_v3 V0)
theorem val3_1_main_v7 (V0 : Valuation τ sig (Elt F)) : val3_1 V0 (no_index (Proc.devRef .tc main_v7)) = res_main_v7 V0 :=
  (val3_1_keep V0 main_v7 (by decide)).trans (val3_main_v7 V0)
theorem val3_1_main_v16 (V0 : Valuation τ sig (Elt F)) : val3_1 V0 (no_index (Proc.devRef .tc main_v16)) = res_main_v16 V0 :=
  (val3_1_keep V0 main_v16 (by decide)).trans (val3_main_v16 V0)
theorem val3_1_main_v17 (V0 : Valuation τ sig (Elt F)) : val3_1 V0 (no_index (Proc.devRef .tc main_v17)) = addf (res_main_v7 V0) (res_main_v16 V0) :=
  (val3_1_keep V0 main_v17 (by decide)).trans (val3_main_v17 V0)
theorem val3_1_main_v19 (V0 : Valuation τ sig (Elt F)) : val3_1 V0 (no_index (Proc.devRef .tc main_v19)) = Host.powf (V0 (Proc.devRef .tc main_arg8)) (broadcastInDim S778 ![] bcast_S_S778 (constant S_ .f32 0x3ECCCCCD#32)) :=
  (val3_1_keep V0 main_v19 (by decide)).trans (val3_main_v19 V0)
theorem val3_1_main_v97 (V0 : Valuation τ sig (Elt F)) : val3_1 V0 (no_index (Proc.devRef .tc main_v97)) = res_main_v97 V0 :=
  (val3_1_keep V0 main_v97 (by decide)).trans (val3_main_v97 V0)
theorem val3_1_main_v98 (V0 : Valuation τ sig (Elt F)) : val3_1 V0 (no_index (Proc.devRef .tc main_v98)) = Host.sqrt (Host.reduceAdd (mulf (res_main_v61 V0) (res_main_v61 V0)) (constant S_ .f32 0x00000000#32) reducesTo_S16x778x3_S16x778_d2 h_S_) :=
  (val3_1_keep V0 main_v98 (by decide)).trans (val3_main_v98 V0)
theorem val3_1_main_v105 (V0 : Valuation τ sig (Elt F)) : val3_1 V0 (no_index (Proc.devRef .tc main_v105)) = Host.divf (res_main_v100 V0) (broadcastInDim S16x778x3 ![0, 1, 2] bcast_S16x778x1_S16x778x3_0_1_2 (maximumf (Host.sqrt (broadcastInDim S16x778x1 ![0, 1] bcast_S16x778_S16x778x1_0_1 (Host.reduceAdd (mulf (res_main_v100 V0) (res_main_v100 V0)) (constant S_ .f32 0x00000000#32) reducesTo_S16x778x3_S16x778_d2 h_S_))) (broadcastInDim S16x778x1 ![] bcast_S_S16x778x1 (constant S_ .f32 0x358637BD#32)))) :=
  (val3_1_keep V0 main_v105 (by decide)).trans (val3_main_v105 V0)
theorem val3_1_main_v124 (V0 : Valuation τ sig (Elt F)) : val3_1 V0 (no_index (Proc.devRef .tc main_v124)) = res_main_v124 V0 :=
  (val3_1_keep V0 main_v124 (by decide)).trans (val3_main_v124 V0)
theorem val3_1_main_v140 (V0 : Valuation τ sig (Elt F)) : val3_1 V0 (no_index (Proc.devRef .tc main_v140)) = res_main_v140 V0 :=
  (val3_1_keep V0 main_v140 (by decide)).trans (val3_main_v140 V0)
set_option maxRecDepth 8192 in
set_option maxHeartbeats 2000000 in
theorem val3_1_main_v156 (V0 : Valuation τ sig (Elt F)) : val3_1 V0 (no_index (Proc.devRef .tc main_v156)) = res_main_v156 V0 := by
  unfold val3_1
  simp only [ops_part3_0]
  after_results_simp
  simp only [val3_main_v124, val3_main_v107, val3_main_v142, val3_main_arg5, val3_main_arg7] <;> rfl
set_option maxRecDepth 8192 in
set_option maxHeartbeats 2000000 in
theorem val3_1_main_v161 (V0 : Valuation τ sig (Elt F)) : val3_1 V0 (no_index (Proc.devRef .tc main_v161)) = select (cmpi .slt (res_main_v107 V0) (broadcastInDim S16x1 ![] bcast_S_S16x1 (constantI S_ 32 0#32))) (addi (res_main_v107 V0) (broadcastInDim S16x1 ![] bcast_S_S16x1 (constantI S_ 32 16#32))) (res_main_v107 V0) := by
  unfold val3_1
  simp only [ops_part3_0]
  after_results_simp
  simp only [val3_main_v107] <;> rfl
set_option maxRecDepth 8192 in
set_option maxHeartbeats 2000000 in
theorem val3_1_main_v163 (V0 : Valuation τ sig (Elt F)) : val3_1 V0 (no_index (Proc.devRef .tc main_v163)) = cmpi .slt (res_main_v124 V0) (broadcastInDim S16x2048 ![] bcast_S_S16x2048 (constantI S_ 32 0#32)) := by
  unfold val3_1
  simp only [ops_part3_0]
  after_results_simp
  simp only [val3_main_v124] <;> rfl
set_option maxRecDepth 8192 in
set_option maxHeartbeats 2000000 in
theorem val3_1_main_v165 (V0 : Valuation τ sig (Elt F)) : val3_1 V0 (no_index (Proc.devRef .tc main_v165)) = addi (res_main_v124 V0) (broadcastInDim S16x2048 ![] bcast_S_S16x2048 (constantI S_ 32 778#32)) := by
  unfold val3_1
  simp only [ops_part3_0]
  after_results_simp
  simp only [val3_main_v124] <;> rfl

/-- The device's buffer contents after @main's first 270 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v166, main_v167, main_v168, main_v169, main_v170, main_v171, main_v172, main_cst_42, main_v173, main_v174, main_call8_v0, main_call8_cst, main_call8_v1, main_v175, main_v176, main_call9_v0, main_call9_cst, main_call9_v1, main_v177, main_cst_43, main_v178, main_v179, main_cst_44, main_v180, main_v181, main_v182, main_cst_45, main_v183, main_v184, main_cst_46]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)
theorem val3_2_main_arg3 (V0 : Valuation τ sig (Elt F)) : val3_2 V0 (no_index (Proc.devRef .tc main_arg3)) = V0 (Proc.devRef .tc main_arg3) :=
  (val3_2_keep V0 main_arg3 (by decide)).trans (val3_1_main_arg3 V0)
theorem val3_2_main_arg4 (V0 : Valuation τ sig (Elt F)) : val3_2 V0 (no_index (Proc.devRef .tc main_arg4)) = V0 (Proc.devRef .tc main_arg4) :=
  (val3_2_keep V0 main_arg4 (by decide)).trans (val3_1_main_arg4 V0)
theorem val3_2_main_arg5 (V0 : Valuation τ sig (Elt F)) : val3_2 V0 (no_index (Proc.devRef .tc main_arg5)) = V0 (Proc.devRef .tc main_arg5) :=
  (val3_2_keep V0 main_arg5 (by decide)).trans (val3_1_main_arg5 V0)
theorem val3_2_main_arg6 (V0 : Valuation τ sig (Elt F)) : val3_2 V0 (no_index (Proc.devRef .tc main_arg6)) = V0 (Proc.devRef .tc main_arg6) :=
  (val3_2_keep V0 main_arg6 (by decide)).trans (val3_1_main_arg6 V0)
theorem val3_2_main_arg7 (V0 : Valuation τ sig (Elt F)) : val3_2 V0 (no_index (Proc.devRef .tc main_arg7)) = V0 (Proc.devRef .tc main_arg7) :=
  (val3_2_keep V0 main_arg7 (by decide)).trans (val3_1_main_arg7 V0)
theorem val3_2_main_arg8 (V0 : Valuation τ sig (Elt F)) : val3_2 V0 (no_index (Proc.devRef .tc main_arg8)) = V0 (Proc.devRef .tc main_arg8) :=
  (val3_2_keep V0 main_arg8 (by decide)).trans (val3_1_main_arg8 V0)
theorem val3_2_main_v3 (V0 : Valuation τ sig (Elt F)) : val3_2 V0 (no_index (Proc.devRef .tc main_v3)) = res_main_v3 V0 :=
  (val3_2_keep V0 main_v3 (by decide)).trans (val3_1_main_v3 V0)
theorem val3_2_main_v7 (V0 : Valuation τ sig (Elt F)) : val3_2 V0 (no_index (Proc.devRef .tc main_v7)) = res_main_v7 V0 :=
  (val3_2_keep V0 main_v7 (by decide)).trans (val3_1_main_v7 V0)
theorem val3_2_main_v16 (V0 : Valuation τ sig (Elt F)) : val3_2 V0 (no_index (Proc.devRef .tc main_v16)) = res_main_v16 V0 :=
  (val3_2_keep V0 main_v16 (by decide)).trans (val3_1_main_v16 V0)
theorem val3_2_main_v17 (V0 : Valuation τ sig (Elt F)) : val3_2 V0 (no_index (Proc.devRef .tc main_v17)) = addf (res_main_v7 V0) (res_main_v16 V0) :=
  (val3_2_keep V0 main_v17 (by decide)).trans (val3_1_main_v17 V0)
theorem val3_2_main_v19 (V0 : Valuation τ sig (Elt F)) : val3_2 V0 (no_index (Proc.devRef .tc main_v19)) = Host.powf (V0 (Proc.devRef .tc main_arg8)) (broadcastInDim S778 ![] bcast_S_S778 (constant S_ .f32 0x3ECCCCCD#32)) :=
  (val3_2_keep V0 main_v19 (by decide)).trans (val3_1_main_v19 V0)
theorem val3_2_main_v97 (V0 : Valuation τ sig (Elt F)) : val3_2 V0 (no_index (Proc.devRef .tc main_v97)) = res_main_v97 V0 :=
  (val3_2_keep V0 main_v97 (by decide)).trans (val3_1_main_v97 V0)
theorem val3_2_main_v98 (V0 : Valuation τ sig (Elt F)) : val3_2 V0 (no_index (Proc.devRef .tc main_v98)) = Host.sqrt (Host.reduceAdd (mulf (res_main_v61 V0) (res_main_v61 V0)) (constant S_ .f32 0x00000000#32) reducesTo_S16x778x3_S16x778_d2 h_S_) :=
  (val3_2_keep V0 main_v98 (by decide)).trans (val3_1_main_v98 V0)
set_option maxRecDepth 8192 in
set_option maxHeartbeats 2000000 in
theorem val3_2_main_v176 (V0 : Valuation τ sig (Elt F)) : val3_2 V0 (no_index (Proc.devRef .tc main_v176)) = res_main_v176 V0 := by
  unfold val3_2
  simp only [ops_part3_1, TRef.binary, TRef.nullary, TRef.unary, TRef.toBuf, TRef.ofBuf, cast_eq]
  after_results_simp
  simp only [val3_1_main_v156, val3_1_main_v124, val3_1_main_v165, val3_1_main_v163, val3_1_main_v161, val3_1_main_v105] <;> rfl
set_option maxRecDepth 8192 in
set_option maxHeartbeats 2000000 in
theorem val3_2_main_v177 (V0 : Valuation τ sig (Elt F)) : val3_2 V0 (no_index (Proc.devRef .tc main_v177)) = Host.sqrt (Host.reduceAdd (mulf (res_main_v140 V0) (res_main_v140 V0)) (constant S_ .f32 0x00000000#32) reducesTo_S16x778x3_S16x778_d2 h_S_) := by
  unfold val3_2
  simp only [ops_part3_1, TRef.binary, TRef.nullary, TRef.unary, TRef.toBuf, TRef.ofBuf, cast_eq]
  after_results_simp
  simp only [val3_1_main_v140] <;> rfl
set_option maxRecDepth 8192 in
set_option maxHeartbeats 2000000 in
theorem val3_2_main_v182 (V0 : Valuation τ sig (Elt F)) : val3_2 V0 (no_index (Proc.devRef .tc main_v182)) = andi (cmpf .olt (res_main_v176 V0) (broadcastInDim S16x2048 ![] bcast_S_S16x2048 (constant S_ .f32 0x3C23D70A#32))) (cmpf .ogt (res_main_v176 V0) (broadcastInDim S16x2048 ![] bcast_S_S16x2048 (constant S_ .f32 0xBBA3D70A#32))) := by
  unfold val3_2
  simp only [ops_part3_1, TRef.binary, TRef.nullary, TRef.unary, TRef.toBuf, TRef.ofBuf, cast_eq]
  after_results_simp
  simp only [val3_1_main_v156, val3_1_main_v124, val3_1_main_v165, val3_1_main_v163, val3_1_main_v161, val3_1_main_v105] <;> rfl
set_option maxRecDepth 8192 in
set_option maxHeartbeats 2000000 in
theorem val3_2_main_v184 (V0 : Valuation τ sig (Elt F)) : val3_2 V0 (no_index (Proc.devRef .tc main_v184)) = cmpf .olt (res_main_v97 V0) (broadcastInDim S16x2048 ![] bcast_S_S16x2048 (constant S_ .f32 0x00000000#32)) := by
  unfold val3_2
  simp only [ops_part3_1, TRef.binary, TRef.nullary, TRef.unary, TRef.toBuf, TRef.ofBuf, cast_eq]
  after_results_simp
  simp only [val3_1_main_v97] <;> rfl
set_option maxRecDepth 8192 in
set_option maxHeartbeats 2000000 in
theorem val3_2_main_cst_46 (V0 : Valuation τ sig (Elt F)) : val3_2 V0 (no_index (Proc.devRef .tc main_cst_46)) = constant S_ .f32 0x3F800000#32 := by
  unfold val3_2
  simp only [ops_part3_1, TRef.binary, TRef.nullary, TRef.unary, TRef.toBuf, TRef.ofBuf, cast_eq]
  after_results_simp
  all_goals rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v185, main_cst_47, main_call10_v0, main_call10_v1, main_v186, main_cst_48, main_call11_v0, main_call11_v1, main_v187, main_v188]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; refine ⟨?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_arg2 (V0 : Valuation τ sig (Elt F)) : val4 V0 (no_index (Proc.devRef .tc main_arg2)) = V0 (Proc.devRef .tc main_arg2) :=
  (val4_keep V0 main_arg2 (by decide)).trans (val3_2_main_arg2 V0)
theorem val4_main_arg3 (V0 : Valuation τ sig (Elt F)) : val4 V0 (no_index (Proc.devRef .tc main_arg3)) = V0 (Proc.devRef .tc main_arg3) :=
  (val4_keep V0 main_arg3 (by decide)).trans (val3_2_main_arg3 V0)
theorem val4_main_arg4 (V0 : Valuation τ sig (Elt F)) : val4 V0 (no_index (Proc.devRef .tc main_arg4)) = V0 (Proc.devRef .tc main_arg4) :=
  (val4_keep V0 main_arg4 (by decide)).trans (val3_2_main_arg4 V0)
theorem val4_main_arg5 (V0 : Valuation τ sig (Elt F)) : val4 V0 (no_index (Proc.devRef .tc main_arg5)) = V0 (Proc.devRef .tc main_arg5) :=
  (val4_keep V0 main_arg5 (by decide)).trans (val3_2_main_arg5 V0)
theorem val4_main_arg6 (V0 : Valuation τ sig (Elt F)) : val4 V0 (no_index (Proc.devRef .tc main_arg6)) = V0 (Proc.devRef .tc main_arg6) :=
  (val4_keep V0 main_arg6 (by decide)).trans (val3_2_main_arg6 V0)
theorem val4_main_arg7 (V0 : Valuation τ sig (Elt F)) : val4 V0 (no_index (Proc.devRef .tc main_arg7)) = V0 (Proc.devRef .tc main_arg7) :=
  (val4_keep V0 main_arg7 (by decide)).trans (val3_2_main_arg7 V0)
theorem val4_main_arg8 (V0 : Valuation τ sig (Elt F)) : val4 V0 (no_index (Proc.devRef .tc main_arg8)) = V0 (Proc.devRef .tc main_arg8) :=
  (val4_keep V0 main_arg8 (by decide)).trans (val3_2_main_arg8 V0)
theorem val4_main_v3 (V0 : Valuation τ sig (Elt F)) : val4 V0 (no_index (Proc.devRef .tc main_v3)) = res_main_v3 V0 :=
  (val4_keep V0 main_v3 (by decide)).trans (val3_2_main_v3 V0)
theorem val4_main_v7 (V0 : Valuation τ sig (Elt F)) : val4 V0 (no_index (Proc.devRef .tc main_v7)) = res_main_v7 V0 :=
  (val4_keep V0 main_v7 (by decide)).trans (val3_2_main_v7 V0)
theorem val4_main_v16 (V0 : Valuation τ sig (Elt F)) : val4 V0 (no_index (Proc.devRef .tc main_v16)) = res_main_v16 V0 :=
  (val4_keep V0 main_v16 (by decide)).trans (val3_2_main_v16 V0)
theorem val4_main_v17 (V0 : Valuation τ sig (Elt F)) : val4 V0 (no_index (Proc.devRef .tc main_v17)) = addf (res_main_v7 V0) (res_main_v16 V0) :=
  (val4_keep V0 main_v17 (by decide)).trans (val3_2_main_v17 V0)
theorem val4_main_v19 (V0 : Valuation τ sig (Elt F)) : val4 V0 (no_index (Proc.devRef .tc main_v19)) = Host.powf (V0 (Proc.devRef .tc main_arg8)) (broadcastInDim S778 ![] bcast_S_S778 (constant S_ .f32 0x3ECCCCCD#32)) :=
  (val4_keep V0 main_v19 (by decide)).trans (val3_2_main_v19 V0)
theorem val4_main_v97 (V0 : Valuation τ sig (Elt F)) : val4 V0 (no_index (Proc.devRef .tc main_v97)) = res_main_v97 V0 :=
  (val4_keep V0 main_v97 (by decide)).trans (val3_2_main_v97 V0)
theorem val4_main_v176 (V0 : Valuation τ sig (Elt F)) : val4 V0 (no_index (Proc.devRef .tc main_v176)) = res_main_v176 V0 :=
  (val4_keep V0 main_v176 (by decide)).trans (val3_2_main_v176 V0)
theorem val4_main_v177 (V0 : Valuation τ sig (Elt F)) : val4 V0 (no_index (Proc.devRef .tc main_v177)) = Host.sqrt (Host.reduceAdd (mulf (res_main_v140 V0) (res_main_v140 V0)) (constant S_ .f32 0x00000000#32) reducesTo_S16x778x3_S16x778_d2 h_S_) :=
  (val4_keep V0 main_v177 (by decide)).trans (val3_2_main_v177 V0)
set_option maxRecDepth 8192 in
set_option maxHeartbeats 1000000 in
theorem val4_main_v187 (V0 : Valuation τ sig (Elt F)) : val4 V0 (no_index (Proc.devRef .tc main_v187)) = select (cmpf .olt (res_main_v97 V0) (broadcastInDim S16x2048 ![] bcast_S_S16x2048 (constant S_ .f32 0x00000000#32))) (broadcastInDim S16x2048 ![] bcast_S_S16x2048 (id (constant S_ .f32 0x3FC00000#32))) (select (andi (cmpf .olt (res_main_v176 V0) (broadcastInDim S16x2048 ![] bcast_S_S16x2048 (constant S_ .f32 0x3C23D70A#32))) (cmpf .ogt (res_main_v176 V0) (broadcastInDim S16x2048 ![] bcast_S_S16x2048 (constant S_ .f32 0xBBA3D70A#32)))) (broadcastInDim S16x2048 ![] bcast_S_S16x2048 (constant S_ .f32 0x3F800000#32)) (broadcastInDim S16x2048 ![] bcast_S_S16x2048 (id (constant S_ .f32 0x3DCCCCCD#32)))) := by
  unfold val4
  simp only [ops_part3_2, TRef.ternary, TRef.unary, TRef.toBuf, TRef.ofBuf, cast_eq]
  after_results_simp
  simp only [val3_2_main_cst_46, val3_2_main_v182, val3_2_main_v184] <;> rfl
set_option maxRecDepth 8192 in
set_option maxHeartbeats 1000000 in
theorem val4_main_v188 (V0 : Valuation τ sig (Elt F)) : val4 V0 (no_index (Proc.devRef .tc main_v188)) = Host.absf (Host.sqrt (Host.reduceAdd (mulf (res_main_v61 V0) (res_main_v61 V0)) (constant S_ .f32 0x00000000#32) reducesTo_S16x778x3_S16x778_d2 h_S_)) := by
  unfold val4
  simp only [ops_part3_2, TRef.ternary, TRef.unary, TRef.toBuf, TRef.ofBuf, cast_eq]
  after_results_simp
  simp only [val3_2_main_v98] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v189, main_v190, main_v191, main_v192, main_v193, main_v194, main_cst_49, main_v195, main_cst_50, main_v196, main_cst_51, main_v197, main_cst_52, main_v198, main_cst_53, main_v199, main_v200, main_v201, main_v202, main_cst_54, main_v203, main_cst_55, main_v204, main_cst_56, main_v205, main_cst_57, main_v206, main_cst_58, main_v207, main_v208, main_cst_59, main_v209, main_cst_60, main_v210, main_v211, main_cst_61, main_v212, main_v213, main_v214, main_v215, main_v216, main_v217, main_v218]
set_option maxRecDepth 8192 in
theorem ops_part4_writes : (ops_part4 : List (HloOp τ sig (Elt F))).Forall fun op => op.writes ⊆ (ops_part4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
set_option maxRecDepth 8192 in
set_option maxHeartbeats 2000000 in
theorem val5_main_v214 (V0 : Valuation τ sig (Elt F)) : val5 V0 (no_index (Proc.devRef .tc main_v214)) = shapeCast _ (addf (addf (mulf (constant S_ .f32 0x3F800000#32) (addf (res_main_v7 V0) (res_main_v16 V0))) (mulf (constant S_ .f32 0x3DCCCCCD#32) (res_main_v3 V0))) (mulf (constant S_ .f32 0x41200000#32) (res_main_v208 V0))) shapeCasts_S_S1x1 := by
  unfold val5
  simp only [ops_part4]
  after_results_simp
  simp only [val4_main_v187, val4_main_v176, val4_main_v97, val4_main_v19, val4_main_v177, val4_main_v188, val4_main_v3, val4_main_v17] <;> rfl
set_option maxRecDepth 8192 in
set_option maxHeartbeats 2000000 in
theorem val5_main_v215 (V0 : Valuation τ sig (Elt F)) : val5 V0 (no_index (Proc.devRef .tc main_v215)) = shapeCast _ (res_main_v3 V0) shapeCasts_S_S1x1 := by
  unfold val5
  simp only [ops_part4]
  after_results_simp
  simp only [val4_main_v3] <;> rfl
set_option maxRecDepth 8192 in
set_option maxHeartbeats 2000000 in
theorem val5_main_v216 (V0 : Valuation τ sig (Elt F)) : val5 V0 (no_index (Proc.devRef .tc main_v216)) = shapeCast _ (res_main_v208 V0) shapeCasts_S_S1x1 := by
  unfold val5
  simp only [ops_part4]
  after_results_simp
  simp only [val4_main_v187, val4_main_v176, val4_main_v97, val4_main_v19, val4_main_v177, val4_main_v188] <;> rfl
set_option maxRecDepth 8192 in
set_option maxHeartbeats 2000000 in
theorem val5_main_v217 (V0 : Valuation τ sig (Elt F)) : val5 V0 (no_index (Proc.devRef .tc main_v217)) = shapeCast _ (res_main_v7 V0) shapeCasts_S_S1x1 := by
  unfold val5
  simp only [ops_part4]
  after_results_simp
  simp only [val4_main_v7] <;> rfl
set_option maxRecDepth 8192 in
set_option maxHeartbeats 2000000 in
theorem val5_main_v218 (V0 : Valuation τ sig (Elt F)) : val5 V0 (no_index (Proc.devRef .tc main_v218)) = shapeCast _ (res_main_v16 V0) shapeCasts_S_S1x1 := by
  unfold val5
  simp only [ops_part4]
  after_results_simp
  simp only [val4_main_v16] <;> rfl

theorem after_ops (V0 : Valuation τ sig (Elt F)) : after ops V0 = val5 V0 := by
  simp only [ops, ops_part0, ops_part2, ops_part3, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v214) = shapeCast _ (addf (addf (mulf (constant S_ .f32 0x3F800000#32) (addf (res_main_v7 (launchContents m c)) (res_main_v16 (launchContents m c)))) (mulf (constant S_ .f32 0x3DCCCCCD#32) (res_main_v3 (launchContents m c)))) (mulf (constant S_ .f32 0x41200000#32) (res_main_v208 (launchContents m c)))) shapeCasts_S_S1x1
      ∧ r.2.mem ((c.tc : Thread nD τ).loc main_v215) = shapeCast _ (res_main_v3 (launchContents m c)) shapeCasts_S_S1x1
      ∧ r.2.mem ((c.tc : Thread nD τ).loc main_v216) = shapeCast _ (res_main_v208 (launchContents m c)) shapeCasts_S_S1x1
      ∧ r.2.mem ((c.tc : Thread nD τ).loc main_v217) = shapeCast _ (res_main_v7 (launchContents m c)) shapeCasts_S_S1x1
      ∧ r.2.mem ((c.tc : Thread nD τ).loc main_v218) = shapeCast _ (res_main_v16 (launchContents m c)) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v214).trans ((congrFun (after_ops (launchContents m c)) (Proc.devRef .tc main_v214)).trans (val5_main_v214 (launchContents m c))),
      (h c main_v215).trans ((congrFun (after_ops (launchContents m c)) (Proc.devRef .tc main_v215)).trans (val5_main_v215 (launchContents m c))),
      (h c main_v216).trans ((congrFun (after_ops (launchContents m c)) (Proc.devRef .tc main_v216)).trans (val5_main_v216 (launchContents m c))),
      (h c main_v217).trans ((congrFun (after_ops (launchContents m c)) (Proc.devRef .tc main_v217)).trans (val5_main_v217 (launchContents m c))),
      (h c main_v218).trans ((congrFun (after_ops (launchContents m c)) (Proc.devRef .tc main_v218)).trans (val5_main_v218 (launchContents m c))),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c))),
      (h c main_arg2).trans ((congrFun (after_ops (launchContents m c)) (Proc.devRef .tc main_arg2)).trans (val5_main_arg2 (launchContents m c))),
      (h c main_arg3).trans ((congrFun (after_ops (launchContents m c)) (Proc.devRef .tc main_arg3)).trans (val5_main_arg3 (launchContents m c))),
      (h c main_arg4).trans ((congrFun (after_ops (launchContents m c)) (Proc.devRef .tc main_arg4)).trans (val5_main_arg4 (launchContents m c))),
      (h c main_arg5).trans ((congrFun (after_ops (launchContents m c)) (Proc.devRef .tc main_arg5)).trans (val5_main_arg5 (launchContents m c))),
      (h c main_arg6).trans ((congrFun (after_ops (launchContents m c)) (Proc.devRef .tc main_arg6)).trans (val5_main_arg6 (launchContents m c))),
      (h c main_arg7).trans ((congrFun (after_ops (launchContents m c)) (Proc.devRef .tc main_arg7)).trans (val5_main_arg7 (launchContents m c))),
      (h c main_arg8).trans ((congrFun (after_ops (launchContents m c)) (Proc.devRef .tc main_arg8)).trans (val5_main_arg8 (launchContents m c)))⟩)
    (run_seq scopedRefs_eq scopedSems_eq defs main (fun _ => ops) main_eq (fun _ => ops_sub) m ρ fun _ => ops_fresh)

end Cert.LossReferenceIdeal.Value

end
-- ==== Proof.LossAlgebraic.lean ====
/-
  The loss call and its reference end with the same five results, on the extended reals.
-/
module

public import proofs.«01_k».proof.Defs
public import proofs.«01_k».proof.Proof.LossValue
public import proofs.«01_k».proof.Proof.LossRefValue
public import proofs.«01_k».proof.Proof.LossRun
public import proofs.«01_k».proof.Proof.Gen.LossIdeal.Value
public import proofs.«01_k».proof.Proof.Gen.Pre_admissible
public import proofs.«01_k».proof.Proof.Gen.Loss.Frame
public import Idealize.ShloMosaic.Lib.ReduceAll
public import Idealize.ShloMosaic.Lib.WordCmp
public import Idealize.ShloMosaic.Lib.Quiescent

@[expose] public section

noncomputable section

namespace Cert.Proof.Losses

open Cert.LossIdeal Cert.LossIdeal.Gen Idealize.ShloMosaic Idealize.ShloMosaic.TcCoe Idealize.SL.Sem
open Cert.Proof.LossMath
open Cert.Proof.LossRef (meshOf ptsOf)

/-! ### The precondition -/

theorem andi_one (a b : BitVec 1) (h : IntOp.andi a b = 1#1) : a = 1#1 ∧ b = 1#1 := by
  revert h; revert a b; decide

/-- The precondition says every object point is a real number and every weight is at least zero. -/
theorem of_admissible (x0 x1 : FVec Ideal Cert.Pre_admissible.S16x61 .f32) (x2 x3 : FVec Ideal Cert.Pre_admissible.S16x64 .f32)
    (x4 x5 : FVec Ideal Cert.Pre_admissible.S16x778x3 .f32) (x6 : FVec Ideal Cert.Pre_admissible.S16x2x778x3 .f32)
    (x7 : FVec Ideal Cert.Pre_admissible.S16x2048x3 .f32) (x8 : FVec Ideal Cert.Pre_admissible.S778 .f32)
    (h : Cert.Pre_admissible.fn x0 x1 x2 x3 x4 x5 x6 x7 x8 = fun _ => 1#1) :
    (∀ i, @Ne EReal (x7 i) ⊤ ∧ @Ne EReal (x7 i) ⊥) ∧ ∀ i, @LE.le EReal _ 0 (x8 i) := by
  obtain ⟨ha, hb⟩ := andi_one _ _ (congrFun h (Shape.Idx.first Cert.Pre_admissible.Facts.h_S_))
  refine ⟨fun i => ?_, fun i => ?_⟩
  · have e := Host.reduce_andi_all _ _ _ _ (Shape.Idx.first Cert.Pre_admissible.Facts.h_S_) ha i
    have e' : BitVec.ofBool (decide (@LT.lt EReal _ (max (x7 i) (-(x7 i))) (Ideal.ofBits .f32 2139095040#32))) = 1#1 := e
    rw [bits_top] at e'
    generalize (x7 i : EReal) = y at e'
    have h' : max y (-y) < ⊤ := by
      by_contra hn
      rw [decide_eq_false hn] at e'
      exact absurd e' (by decide)
    constructor
    · rintro rfl
      simp at h'
    · rintro rfl
      simp at h'
  · have e := Host.reduce_andi_all _ _ _ _ (Shape.Idx.first Cert.Pre_admissible.Facts.h_S_) hb i
    have e' : BitVec.ofBool (decide (@LE.le EReal _ (Ideal.ofBits .f32 0#32) (x8 i))) = 1#1 := e
    rw [bits_zero] at e'
    by_contra hn
    rw [decide_eq_false hn] at e'
    exact absurd e' (by decide)

/-! ### The four sums over the batch -/

def paramSum (a0 a1 : FVec Ideal S16x61 .f32) : EReal :=
  ∑ b : Fin 16, paramB (fun j => a0 (ix2 b j)) (fun j => a1 (ix2 b j))
def reconSum (a4 a5 : FVec Ideal S16x778x3 .f32) : EReal :=
  ∑ b : Fin 16, reconB (fun p k => a4 (ix3 b p k)) (fun p k => a5 (ix3 b p k))
def kldSum (a2 a3 : FVec Ideal S16x64 .f32) : EReal :=
  ∑ b : Fin 16, kldB (fun j => a2 (ix2 b j)) (fun j => a3 (ix2 b j))
def hoSum (a4 a5 : FVec Ideal S16x778x3 .f32) (a6 : FVec Ideal S16x2x778x3 .f32) (a7 : FVec Ideal S16x2048x3 .f32)
    (a8 : FVec Ideal S778 .f32) : EReal :=
  ∑ b : Fin 16, hoSpec (fun p k => a4 (ix3 b p k)) (fun p k => a5 (ix3 b p k)) (fun p k => a6 (ix4 b 0 p k))
    (fun p k => a6 (ix4 b 1 p k)) (fun q k => a7 (ix3 b q k)) (fun p => a8 (ix1 p))
/-- The whole loss, from its four parts. -/
def lossSum (r k p h : EReal) : EReal :=
  r + k + Ideal.ofBits .f32 1036831949#32 * p + Ideal.ofBits .f32 1092616192#32 * h

theorem paramSum_congr {a b a' b' : FVec Ideal S16x61 .f32} (h : a = a') (k : b = b') : paramSum a b = paramSum a' b' := by
  rw [h, k]
theorem reconSum_congr {a b a' b' : FVec Ideal S16x778x3 .f32} (h : a = a') (k : b = b') : reconSum a b = reconSum a' b' := by
  rw [h, k]
theorem kldSum_congr {a b a' b' : FVec Ideal S16x64 .f32} (h : a = a') (k : b = b') : kldSum a b = kldSum a' b' := by
  rw [h, k]
theorem hoSum_congr {a4 a5 b4 b5 : FVec Ideal S16x778x3 .f32} {a6 b6 : FVec Ideal S16x2x778x3 .f32}
    {a7 b7 : FVec Ideal S16x2048x3 .f32} {a8 b8 : FVec Ideal S778 .f32}
    (h4 : a4 = b4) (h5 : a5 = b5) (h6 : a6 = b6) (h7 : a7 = b7) (h8 : a8 = b8) :
    hoSum a4 a5 a6 a7 a8 = hoSum b4 b5 b6 b7 b8 := by
  rw [h4, h5, h6, h7, h8]

section kernel

variable (m : (ℓ : Loc nD τ sig) → Buf (Elt Ideal) ℓ) (c : Dev nD) (i : S1x1.Idx)

theorem param_chain : @Eq EReal (chain (F := Ideal) (paramAt m c) 15 last i) (paramSum (A0 m c) (A1 m c)) :=
  (chain_batch _ i).trans (Finset.sum_congr rfl fun b _ => paramAt_eq m c (point b))
theorem recon_chain : @Eq EReal (chain (F := Ideal) (reconAt m c) 15 last i) (reconSum (A4 m c) (A5 m c)) :=
  (chain_batch _ i).trans (Finset.sum_congr rfl fun b _ => reconAt_eq m c (point b))
theorem kld_chain : @Eq EReal (chain (F := Ideal) (kldAt m c) 15 last i) (kldSum (A2 m c) (A3 m c)) :=
  (chain_batch _ i).trans (Finset.sum_congr rfl fun b _ => kldAt_eq m c (point b))

variable (hO : ∀ i, @Ne EReal (A7 m c i) ⊤ ∧ @Ne EReal (A7 m c i) ⊥) (hw : ∀ i, @LE.le EReal _ 0 (A8 m c i))
include hO hw

theorem ho_chain : @Eq EReal (chain (F := Ideal) (hoAt m c) 15 last i)
    (hoSum (A4 m c) (A5 m c) (A6 m c) (A7 m c) (A8 m c)) :=
  (chain_batch _ i).trans (Finset.sum_congr rfl fun b _ => hoAt_eq m c (point b) hO hw)

/-- The weighted sum of the four parts may be taken before or after the sum over the batch. -/
theorem loss_chain : @Eq EReal (chain (F := Ideal) (lossAt m c) 15 last i)
    (lossSum (reconSum (A4 m c) (A5 m c)) (kldSum (A2 m c) (A3 m c)) (paramSum (A0 m c) (A1 m c))
      (hoSum (A4 m c) (A5 m c) (A6 m c) (A7 m c) (A8 m c))) := by
  have key : ∀ b : Fin 16, @Eq EReal (lossAt m c (point b)) (reconAt m c (point b) + kldAt m c (point b)
      + Ideal.ofBits .f32 1036831949#32 * paramAt m c (point b) + Ideal.ofBits .f32 1092616192#32 * hoAt m c (point b)) :=
    fun b => lossOf_eq _ _ _ _
  refine (chain_batch _ i).trans ((Finset.sum_congr rfl fun b _ => key b).trans ?_)
  rw [Finset.sum_add_distrib, Finset.sum_add_distrib, Finset.sum_add_distrib,
    ← mul_sum _ _ (by rw [bits_tenth]; exact EReal.coe_nonneg.mpr (by norm_num)) (by rw [bits_tenth]; exact EReal.coe_ne_top _),
    ← mul_sum _ _ (by rw [bits_ten]; exact EReal.coe_nonneg.mpr (by norm_num)) (by rw [bits_ten]; exact EReal.coe_ne_top _)]
  unfold lossSum paramSum reconSum kldSum hoSum
  simp only [paramAt_eq, reconAt_eq, kldAt_eq, hoAt_eq m c _ hO hw, row_point]

end kernel

/-! ### The reference's results -/

theorem cast_one (T : FVec Ideal Cert.LossReferenceIdeal.S_ .f32) (h) (v : EReal) (hv : ∀ j, @Eq EReal (T j) v)
    (i : Cert.LossReferenceIdeal.S1x1.Idx) : @Eq EReal (shapeCast Cert.LossReferenceIdeal.S1x1 T h i) v := hv _

theorem loss_ref (r k p h : FVec Ideal Cert.LossReferenceIdeal.S_ .f32) (j : Cert.LossReferenceIdeal.S_.Idx) :
    @Eq EReal (addf (addf (mulf (constant Cert.LossReferenceIdeal.S_ .f32 0x3F800000#32) (addf r k))
      (mulf (constant Cert.LossReferenceIdeal.S_ .f32 0x3DCCCCCD#32) p))
      (mulf (constant Cert.LossReferenceIdeal.S_ .f32 0x41200000#32) h) j) (lossSum (r j) (k j) (p j) (h j)) := by
  unfold lossSum
  pointwise

theorem lossSum_congr {r k p h r' k' p' h' : EReal} (e1 : r = r') (e2 : k = k') (e3 : p = p') (e4 : h = h') :
    lossSum r k p h = lossSum r' k' p' h' := by rw [e1, e2, e3, e4]

/-! ### The claims -/

theorem frame_reference : Cert.quiescent_LossReferenceIdeal (hLossReferenceIdeal := Cert.LossReferenceIdeal.Gen.facts) := fun m ρ _ =>
  (θ_run Cert.LossReferenceIdeal.defs _ _).mono (fun r h => ⟨fun c => (h c).2.2.2.2.2, sem_eq_zero_of_no_sems (by decide) r.2⟩)
    (Cert.LossReferenceIdeal.Value.run (F := Ideal) m ρ)

theorem frame_reference_pre : Cert.quiescent_LossReferenceIdeal_pre_admissible (hLossReferenceIdeal := Cert.LossReferenceIdeal.Gen.facts)
    (hPre_admissible := Cert.Pre_admissible.Gen.facts) := fun m ρ _ => frame_reference m ρ trivial

theorem preserves : Cert.preserves_Loss_LossIdeal :=
  ⟨IdealRules.named_const.statement Cert.LossIdeal.κ "start" .f32 0x7149F2CA#32 ⊤ rfl,
    IdealRules.named_const.statement Cert.LossIdeal.κ "hand_mean" .f32 0x3B375894#32 ((1393 / 497920 : ℝ) : EReal) rfl,
    IdealRules.named_const.statement Cert.LossIdeal.κ "object_mean" .f32 0x3A6ECCCD#32 ((597 / 655360 : ℝ) : EReal) rfl⟩

theorem algebraic : Cert.algebraic_LossIdeal_LossReferenceIdeal_pre_admissible (hLossIdeal := Cert.LossIdeal.Gen.facts)
    (hLossReferenceIdeal := Cert.LossReferenceIdeal.Gen.facts) (hPre_admissible := Cert.Pre_admissible.Gen.facts) := by
  intro m g m' g' hpre hargs
  have hP := fun c => of_admissible _ _ _ _ _ _ _ _ _ (hpre c)
  have param : ∀ c j, @Eq EReal (Cert.LossReferenceIdeal.Value.res_main_v3 (F := Ideal) (StableHlo.launchContents m' c) j)
      (paramSum (A0 m c) (A1 m c)) := fun c j =>
    (LossRef.param_eq _ j).trans (paramSum_congr (hargs c).1 (hargs c).2.1)
  have kld : ∀ c j, @Eq EReal (Cert.LossReferenceIdeal.Value.res_main_v16 (F := Ideal) (StableHlo.launchContents m' c) j)
      (kldSum (A2 m c) (A3 m c)) := fun c j =>
    (LossRef.kld_eq _ j).trans (kldSum_congr (hargs c).2.2.1 (hargs c).2.2.2.1)
  have recon : ∀ c j, @Eq EReal (Cert.LossReferenceIdeal.Value.res_main_v7 (F := Ideal) (StableHlo.launchContents m' c) j)
      (reconSum (A4 m c) (A5 m c)) := fun c j =>
    (LossRef.recon_eq _ j).trans (reconSum_congr (hargs c).2.2.2.2.1 (hargs c).2.2.2.2.2.1)
  have ho : ∀ c j, @Eq EReal (Cert.LossReferenceIdeal.Value.res_main_v208 (F := Ideal) (StableHlo.launchContents m' c) j)
      (hoSum (A4 m c) (A5 m c) (A6 m c) (A7 m c) (A8 m c)) := fun c j =>
    (LossRef.ho_eq _ j).trans (hoSum_congr (hargs c).2.2.2.2.1 (hargs c).2.2.2.2.2.1 (hargs c).2.2.2.2.2.2.1
      (hargs c).2.2.2.2.2.2.2.1 (hargs c).2.2.2.2.2.2.2.2)
  refine ⟨fun c => chain (lossAt m c) 15 last, fun c => chain (paramAt m c) 15 last, fun c => chain (hoAt m c) 15 last,
    fun c => chain (reconAt m c) 15 last, fun c => chain (kldAt m c) 15 last, ?_, ?_⟩
  · exact (θ_run Cert.LossIdeal.defs _ _).mono (fun _ h c =>
      ⟨(h c).1.trans (loss_final m c), (h c).2.1.trans (param_final m c), (h c).2.2.1.trans (ho_final m c),
        (h c).2.2.2.1.trans (recon_final m c), (h c).2.2.2.2.1.trans (kld_final m c), (h c).2.2.2.2.2⟩)
      (Cert.LossIdeal.Value.run_blocks (F := Ideal) m g)
  · refine (θ_run Cert.LossReferenceIdeal.defs _ _).mono (fun _ h c =>
      ⟨(h c).1.trans (funext fun i => ?_), (h c).2.1.trans (funext fun i => ?_), (h c).2.2.1.trans (funext fun i => ?_),
        (h c).2.2.2.1.trans (funext fun i => ?_), (h c).2.2.2.2.1.trans (funext fun i => ?_), (h c).2.2.2.2.2⟩)
      (Cert.LossReferenceIdeal.Value.run (F := Ideal) m' g')
    · exact (cast_one _ _ _ (fun j => (loss_ref _ _ _ _ j).trans (lossSum_congr (recon c j) (kld c j) (param c j) (ho c j))) i).trans
        (loss_chain m c i (hP c).1 (hP c).2).symm
    · exact (cast_one _ _ _ (param c) i).trans (param_chain m c i).symm
    · exact (cast_one _ _ _ (ho c) i).trans (ho_chain m c i (hP c).1 (hP c).2).symm
    · exact (cast_one _ _ _ (recon c) i).trans (recon_chain m c i).symm
    · exact (cast_one _ _ _ (kld c) i).trans (kld_chain m c i).symm

end Cert.Proof.Losses

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Loss.Frame
public import proofs.«01_k».proof.Proof.Gen.LossIdeal.Value
public import proofs.«01_k».proof.Proof.Gen.LossReferenceIdeal
public import proofs.«01_k».proof.Proof.Gen.Pre_admissible
public import proofs.«01_k».proof.Proof.Gen.ReferenceIdeal
public import proofs.«01_k».proof.Proof.Gen.ReferenceIdeal.Run
public import proofs.«01_k».proof.Proof.Gen.Pre_face_range
public import proofs.«01_k».proof.Proof.Algebraic
public import proofs.«01_k».proof.Proof.LossAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Loss.Gen.facts, Cert.LossIdeal.Gen.facts, Cert.LossReferenceIdeal.Gen.facts,
  Cert.Pre_face_range.Gen.facts, Cert.Pre_admissible.Gen.facts,
  Normals.frame_kernel, Normals.frame_kernelIdeal, Normals.frame_reference, Normals.frame_reference_pre,
  fun m ρ _ => Cert.Loss.Gen.frame m ρ, fun m ρ _ => Cert.LossIdeal.Gen.frame m ρ, fun m ρ _ => Cert.LossIdeal.Gen.frame m ρ,
  Losses.frame_reference, Losses.frame_reference_pre,
  trivial, Normals.algebraic, Losses.preserves, Losses.algebraic⟩

end Cert.Proof

end
